-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6)
      ∧ r.2.mem ((c.tc : Thread Cert.FfnS.nD Cert.FfnS.τ).loc Cert.FfnS.main_arg7) = m ((c.tc : Thread Cert.FfnS.nD Cert.FfnS.τ).loc Cert.FfnS.main_arg7)
      ∧ r.2.mem ((c.tc : Thread Cert.FfnS.nD Cert.FfnS.τ).loc Cert.FfnS.main_arg8) = m ((c.tc : Thread Cert.FfnS.nD Cert.FfnS.τ).loc Cert.FfnS.main_arg8)
      ∧ r.2.mem ((c.tc : Thread Cert.FfnS.nD Cert.FfnS.τ).loc Cert.FfnS.main_arg9) = m ((c.tc : Thread Cert.FfnS.nD Cert.FfnS.τ).loc Cert.FfnS.main_arg9)
      ∧ r.2.mem ((c.tc : Thread Cert.FfnS.nD Cert.FfnS.τ).loc Cert.FfnS.main_arg10) = m ((c.tc : Thread Cert.FfnS.nD Cert.FfnS.τ).loc Cert.FfnS.main_arg10)
      ∧ r.2.mem ((c.tc : Thread Cert.FfnS.nD Cert.FfnS.τ).loc Cert.FfnS.main_arg11) = m ((c.tc : Thread Cert.FfnS.nD Cert.FfnS.τ).loc Cert.FfnS.main_arg11))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
      ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
      ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8)
      ∧ r.2.mem ((c.tc : Thread Cert.FfnSIdeal.nD Cert.FfnSIdeal.τ).loc Cert.FfnSIdeal.main_arg9) = m ((c.tc : Thread Cert.FfnSIdeal.nD Cert.FfnSIdeal.τ).loc Cert.FfnSIdeal.main_arg9)
      ∧ r.2.mem ((c.tc : Thread Cert.FfnSIdeal.nD Cert.FfnSIdeal.τ).loc Cert.FfnSIdeal.main_arg10) = m ((c.tc : Thread Cert.FfnSIdeal.nD Cert.FfnSIdeal.τ).loc Cert.FfnSIdeal.main_arg10)
      ∧ r.2.mem ((c.tc : Thread Cert.FfnSIdeal.nD Cert.FfnSIdeal.τ).loc Cert.FfnSIdeal.main_arg11) = m ((c.tc : Thread Cert.FfnSIdeal.nD Cert.FfnSIdeal.τ).loc Cert.FfnSIdeal.main_arg11))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6)
      ∧ r.2.mem ((c.tc : Thread Cert.FfnSRefIdeal.nD Cert.FfnSRefIdeal.τ).loc Cert.FfnSRefIdeal.main_arg7) = m ((c.tc : Thread Cert.FfnSRefIdeal.nD Cert.FfnSRefIdeal.τ).loc Cert.FfnSRefIdeal.main_arg7)
      ∧ r.2.mem ((c.tc : Thread Cert.FfnSRefIdeal.nD Cert.FfnSRefIdeal.τ).loc Cert.FfnSRefIdeal.main_arg8) = m ((c.tc : Thread Cert.FfnSRefIdeal.nD Cert.FfnSRefIdeal.τ).loc Cert.FfnSRefIdeal.main_arg8)
      ∧ r.2.mem ((c.tc : Thread Cert.FfnSRefIdeal.nD Cert.FfnSRefIdeal.τ).loc Cert.FfnSRefIdeal.main_arg9) = m ((c.tc : Thread Cert.FfnSRefIdeal.nD Cert.FfnSRefIdeal.τ).loc Cert.FfnSRefIdeal.main_arg9)
      ∧ r.2.mem ((c.tc : Thread Cert.FfnSRefIdeal.nD Cert.FfnSRefIdeal.τ).loc Cert.FfnSRefIdeal.main_arg10) = m ((c.tc : Thread Cert.FfnSRefIdeal.nD Cert.FfnSRefIdeal.τ).loc Cert.FfnSRefIdeal.main_arg10)
      ∧ r.2.mem ((c.tc : Thread Cert.FfnSRefIdeal.nD Cert.FfnSRefIdeal.τ).loc Cert.FfnSRefIdeal.main_arg11) = m ((c.tc : Thread Cert.FfnSRefIdeal.nD Cert.FfnSRefIdeal.τ).loc Cert.FfnSRefIdeal.main_arg11))
      ∧ r.2.sem = fun _ => 0)

def preserves_Hgrn_HgrnIdeal : Prop :=
  True

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v3_0)) (v1 : (c : Dev Cert.HgrnIdeal.nD) → Buf (Elt Ideal) ((c.tc : Thread Cert.HgrnIdeal.nD Cert.HgrnIdeal.τ).loc Cert.HgrnIdeal.main_v3_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v3_0) = v0 c
          ∧ r.2.mem ((c.tc : Thread Cert.HgrnIdeal.nD Cert.HgrnIdeal.τ).loc Cert.HgrnIdeal.main_v3_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v83) = v0 c
          ∧ r.2.mem ((c.tc : Thread Cert.HgrnRefIdeal.nD Cert.HgrnRefIdeal.τ).loc Cert.HgrnRefIdeal.main_v62_6) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6_0)) (v1 : (c : Dev Cert.ProjIdeal.nD) → Buf (Elt Ideal) ((c.tc : Thread Cert.ProjIdeal.nD Cert.ProjIdeal.τ).loc Cert.ProjIdeal.main_v6_1)) (v2 : (c : Dev Cert.ProjIdeal.nD) → Buf (Elt Ideal) ((c.tc : Thread Cert.ProjIdeal.nD Cert.ProjIdeal.τ).loc Cert.ProjIdeal.main_v6_2)) (v3 : (c : Dev Cert.ProjIdeal.nD) → Buf (Elt Ideal) ((c.tc : Thread Cert.ProjIdeal.nD Cert.ProjIdeal.τ).loc Cert.ProjIdeal.main_v6_3)) (v4 : (c : Dev Cert.ProjIdeal.nD) → Buf (Elt Ideal) ((c.tc : Thread Cert.ProjIdeal.nD Cert.ProjIdeal.τ).loc Cert.ProjIdeal.main_v6_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6_0) = v0 c
          ∧ r.2.mem ((c.tc : Thread Cert.ProjIdeal.nD Cert.ProjIdeal.τ).loc Cert.ProjIdeal.main_v6_1) = v1 c
          ∧ r.2.mem ((c.tc : Thread Cert.ProjIdeal.nD Cert.ProjIdeal.τ).loc Cert.ProjIdeal.main_v6_2) = v2 c
          ∧ r.2.mem ((c.tc : Thread Cert.ProjIdeal.nD Cert.ProjIdeal.τ).loc Cert.ProjIdeal.main_v6_3) = v3 c
          ∧ r.2.mem ((c.tc : Thread Cert.ProjIdeal.nD Cert.ProjIdeal.τ).loc Cert.ProjIdeal.main_v6_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_v20) = v1 c
          ∧ r.2.mem ((c.tc : Thread Cert.ProjRefIdeal.nD Cert.ProjRefIdeal.τ).loc Cert.ProjRefIdeal.main_v21) = v2 c
          ∧ r.2.mem ((c.tc : Thread Cert.ProjRefIdeal.nD Cert.ProjRefIdeal.τ).loc Cert.ProjRefIdeal.main_v22) = v3 c
          ∧ r.2.mem ((c.tc : Thread Cert.ProjRefIdeal.nD Cert.ProjRefIdeal.τ).loc Cert.ProjRefIdeal.main_v18) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v6_0)) (v1 : (c : Dev Cert.ProjSIdeal.nD) → Buf (Elt Ideal) ((c.tc : Thread Cert.ProjSIdeal.nD Cert.ProjSIdeal.τ).loc Cert.ProjSIdeal.main_v6_1)) (v2 : (c : Dev Cert.ProjSIdeal.nD) → Buf (Elt Ideal) ((c.tc : Thread Cert.ProjSIdeal.nD Cert.ProjSIdeal.τ).loc Cert.ProjSIdeal.main_v6_2)) (v3 : (c : Dev Cert.ProjSIdeal.nD) → Buf (Elt Ideal) ((c.tc : Thread Cert.ProjSIdeal.nD Cert.ProjSIdeal.τ).loc Cert.ProjSIdeal.main_v6_3)) (v4 : (c : Dev Cert.ProjSIdeal.nD) → Buf (Elt Ideal) ((c.tc : Thread Cert.ProjSIdeal.nD Cert.ProjSIdeal.τ).loc Cert.ProjSIdeal.main_v6_4)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v6_0) = v0 c
          ∧ r.2.mem ((c.tc : Thread Cert.ProjSIdeal.nD Cert.ProjSIdeal.τ).loc Cert.ProjSIdeal.main_v6_1) = v1 c
          ∧ r.2.mem ((c.tc : Thread Cert.ProjSIdeal.nD Cert.ProjSIdeal.τ).loc Cert.ProjSIdeal.main_v6_2) = v2 c
          ∧ r.2.mem ((c.tc : Thread Cert.ProjSIdeal.nD Cert.ProjSIdeal.τ).loc Cert.ProjSIdeal.main_v6_3) = v3 c
          ∧ r.2.mem ((c.tc : Thread Cert.ProjSIdeal.nD Cert.ProjSIdeal.τ).loc Cert.ProjSIdeal.main_v6_4) = v4 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v19) = v0 c
          ∧ r.2.mem ((c.tc : Thread Cert.ProjSRefIdeal.nD Cert.ProjSRefIdeal.τ).loc Cert.ProjSRefIdeal.main_v20) = v1 c
          ∧ r.2.mem ((c.tc : Thread Cert.ProjSRefIdeal.nD Cert.ProjSRefIdeal.τ).loc Cert.ProjSRefIdeal.main_v21) = v2 c
          ∧ r.2.mem ((c.tc : Thread Cert.ProjSRefIdeal.nD Cert.ProjSRefIdeal.τ).loc Cert.ProjSRefIdeal.main_v22) = v3 c
          ∧ r.2.mem ((c.tc : Thread Cert.ProjSRefIdeal.nD Cert.ProjSRefIdeal.τ).loc Cert.ProjSRefIdeal.main_v18) = v4 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v15_0)) (v1 : (c : Dev Cert.FfnIdeal.nD) → Buf (Elt Ideal) ((c.tc : Thread Cert.FfnIdeal.nD Cert.FfnIdeal.τ).loc Cert.FfnIdeal.main_v15_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15_0) = v0 c
          ∧ r.2.mem ((c.tc : Thread Cert.FfnIdeal.nD Cert.FfnIdeal.τ).loc Cert.FfnIdeal.main_v15_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v77) = v0 c
          ∧ r.2.mem ((c.tc : Thread Cert.FfnRefIdeal.nD Cert.FfnRefIdeal.τ).loc Cert.FfnRefIdeal.main_v78) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)
      ∧ m' ((c.tc : Thread Cert.FfnSRefIdeal.nD Cert.FfnSRefIdeal.τ).loc Cert.FfnSRefIdeal.main_arg7) = m ((c.tc : Thread Cert.FfnSIdeal.nD Cert.FfnSIdeal.τ).loc Cert.FfnSIdeal.main_arg7)
      ∧ m' ((c.tc : Thread Cert.FfnSRefIdeal.nD Cert.FfnSRefIdeal.τ).loc Cert.FfnSRefIdeal.main_arg8) = m ((c.tc : Thread Cert.FfnSIdeal.nD Cert.FfnSIdeal.τ).loc Cert.FfnSIdeal.main_arg8)
      ∧ m' ((c.tc : Thread Cert.FfnSRefIdeal.nD Cert.FfnSRefIdeal.τ).loc Cert.FfnSRefIdeal.main_arg9) = m ((c.tc : Thread Cert.FfnSIdeal.nD Cert.FfnSIdeal.τ).loc Cert.FfnSIdeal.main_arg9)
      ∧ m' ((c.tc : Thread Cert.FfnSRefIdeal.nD Cert.FfnSRefIdeal.τ).loc Cert.FfnSRefIdeal.main_arg10) = m ((c.tc : Thread Cert.FfnSIdeal.nD Cert.FfnSIdeal.τ).loc Cert.FfnSIdeal.main_arg10)
      ∧ m' ((c.tc : Thread Cert.FfnSRefIdeal.nD Cert.FfnSRefIdeal.τ).loc Cert.FfnSRefIdeal.main_arg11) = m ((c.tc : Thread Cert.FfnSIdeal.nD Cert.FfnSIdeal.τ).loc Cert.FfnSIdeal.main_arg11)) →
    ∃ (v0 : (c : Dev Cert.FfnSIdeal.nD) → Buf (Elt Ideal) ((c.tc : Thread Cert.FfnSIdeal.nD Cert.FfnSIdeal.τ).loc Cert.FfnSIdeal.main_v21_0)) (v1 : (c : Dev Cert.FfnSIdeal.nD) → Buf (Elt Ideal) ((c.tc : Thread Cert.FfnSIdeal.nD Cert.FfnSIdeal.τ).loc Cert.FfnSIdeal.main_v21_1)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v21_0) = v0 c
          ∧ r.2.mem ((c.tc : Thread Cert.FfnSIdeal.nD Cert.FfnSIdeal.τ).loc Cert.FfnSIdeal.main_v21_1) = v1 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
          ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
          ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8)
          ∧ r.2.mem ((c.tc : Thread Cert.FfnSIdeal.nD Cert.FfnSIdeal.τ).loc Cert.FfnSIdeal.main_arg9) = m ((c.tc : Thread Cert.FfnSIdeal.nD Cert.FfnSIdeal.τ).loc Cert.FfnSIdeal.main_arg9)
          ∧ r.2.mem ((c.tc : Thread Cert.FfnSIdeal.nD Cert.FfnSIdeal.τ).loc Cert.FfnSIdeal.main_arg10) = m ((c.tc : Thread Cert.FfnSIdeal.nD Cert.FfnSIdeal.τ).loc Cert.FfnSIdeal.main_arg10)
          ∧ r.2.mem ((c.tc : Thread Cert.FfnSIdeal.nD Cert.FfnSIdeal.τ).loc Cert.FfnSIdeal.main_arg11) = m ((c.tc : Thread Cert.FfnSIdeal.nD Cert.FfnSIdeal.τ).loc Cert.FfnSIdeal.main_arg11))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v79) = v0 c
          ∧ r.2.mem ((c.tc : Thread Cert.FfnSRefIdeal.nD Cert.FfnSRefIdeal.τ).loc Cert.FfnSRefIdeal.main_v81) = v1 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6)
          ∧ r.2.mem ((c.tc : Thread Cert.FfnSRefIdeal.nD Cert.FfnSRefIdeal.τ).loc Cert.FfnSRefIdeal.main_arg7) = m' ((c.tc : Thread Cert.FfnSRefIdeal.nD Cert.FfnSRefIdeal.τ).loc Cert.FfnSRefIdeal.main_arg7)
          ∧ r.2.mem ((c.tc : Thread Cert.FfnSRefIdeal.nD Cert.FfnSRefIdeal.τ).loc Cert.FfnSRefIdeal.main_arg8) = m' ((c.tc : Thread Cert.FfnSRefIdeal.nD Cert.FfnSRefIdeal.τ).loc Cert.FfnSRefIdeal.main_arg8)
          ∧ r.2.mem ((c.tc : Thread Cert.FfnSRefIdeal.nD Cert.FfnSRefIdeal.τ).loc Cert.FfnSRefIdeal.main_arg9) = m' ((c.tc : Thread Cert.FfnSRefIdeal.nD Cert.FfnSRefIdeal.τ).loc Cert.FfnSRefIdeal.main_arg9)
          ∧ r.2.mem ((c.tc : Thread Cert.FfnSRefIdeal.nD Cert.FfnSRefIdeal.τ).loc Cert.FfnSRefIdeal.main_arg10) = m' ((c.tc : Thread Cert.FfnSRefIdeal.nD Cert.FfnSRefIdeal.τ).loc Cert.FfnSRefIdeal.main_arg10)
          ∧ r.2.mem ((c.tc : Thread Cert.FfnSRefIdeal.nD Cert.FfnSRefIdeal.τ).loc Cert.FfnSRefIdeal.main_arg11) = m' ((c.tc : Thread Cert.FfnSRefIdeal.nD Cert.FfnSRefIdeal.τ).loc Cert.FfnSRefIdeal.main_arg11))

def Claim : Prop :=
  ∃ (hHgrn : Cert.Hgrn.Facts) (hHgrnIdeal : Cert.HgrnIdeal.Facts) (hHgrnRefIdeal : Cert.HgrnRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hFfn : Cert.Ffn.Facts) (hFfnIdeal : Cert.FfnIdeal.Facts) (hFfnRefIdeal : Cert.FfnRefIdeal.Facts) (hFfnS : Cert.FfnS.Facts) (hFfnSIdeal : Cert.FfnSIdeal.Facts) (hFfnSRefIdeal : Cert.FfnSRefIdeal.Facts),
    quiescent_Hgrn (hHgrn := hHgrn)
    ∧ quiescent_HgrnIdeal (hHgrnIdeal := hHgrnIdeal)
    ∧ quiescent_HgrnRefIdeal (hHgrnRefIdeal := hHgrnRefIdeal)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ preserves_Hgrn_HgrnIdeal
    ∧ algebraic_HgrnIdeal_HgrnRefIdeal (hHgrnIdeal := hHgrnIdeal) (hHgrnRefIdeal := hHgrnRefIdeal)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_Ffn_FfnIdeal
    ∧ algebraic_FfnIdeal_FfnRefIdeal (hFfnIdeal := hFfnIdeal) (hFfnRefIdeal := hFfnRefIdeal)
    ∧ preserves_FfnS_FfnSIdeal
    ∧ algebraic_FfnSIdeal_FfnSRefIdeal (hFfnSIdeal := hFfnSIdeal) (hFfnSRefIdeal := hFfnSRefIdeal)
-- ==== Hgrn.lean ====
abbrev S32x2048x2048 : Shape := ⟨3, ![32, 2048, 2048]⟩
abbrev S2x512 : Shape := ⟨2, ![2, 512]⟩
abbrev S1x512 : Shape := ⟨2, ![1, 512]⟩
abbrev S2048x64 : Shape := ⟨2, ![2048, 64]⟩
abbrev S512 : Shape := ⟨1, ![512]⟩
abbrev S_ : Shape := ⟨0, ![]⟩
abbrev S32x4x128x128 : Shape := ⟨4, ![32, 4, 128, 128]⟩
abbrev S32x2048x512 : Shape := ⟨3, ![32, 2048, 512]⟩
abbrev S1x512x128 : Shape := ⟨3, ![1, 512, 128]⟩
abbrev S2x128 : Shape := ⟨2, ![2, 128]⟩
abbrev S1x128 : Shape := ⟨2, ![1, 128]⟩
abbrev S1x1x128x128 : Shape := ⟨4, ![1, 1, 128, 128]⟩
abbrev S128x128 : Shape := ⟨2, ![128, 128]⟩
abbrev S128 : Shape := ⟨1, ![128]⟩
abbrev S64x64 : Shape := ⟨2, ![64, 64]⟩
abbrev S64x128 : Shape := ⟨2, ![64, 128]⟩
abbrev S1x64x128 : Shape := ⟨3, ![1, 64, 128]⟩
abbrev S16x64 : Shape := ⟨2, ![16, 64]⟩
abbrev S16x128 : Shape := ⟨2, ![16, 128]⟩
abbrev S4x16x128 : Shape := ⟨3, ![4, 16, 128]⟩
abbrev S4x1x128 : Shape := ⟨3, ![4, 1, 128]⟩
abbrev S64x2048 : Shape := ⟨2, ![64, 2048]⟩
abbrev S64 : Shape := ⟨1, ![64]⟩
abbrev S64x1 : Shape := ⟨2, ![64, 1]⟩

abbrev nBuf : Space → Nat
  | .hbm => 10
  | .vmem => 20
  | .smem => 0
  | _ => 0

abbrev bufTy : (tb : Table) → Fin (tcTables nBuf tb) → BufTy
  | .hbm, ⟨0, _⟩ => ⟨S32x2048x2048, .f32⟩
  | .hbm, ⟨1, _⟩ => ⟨S2x512, .f32⟩
  | .hbm, ⟨2, _⟩ => ⟨S1x512, .f32⟩
  | .hbm, ⟨3, _⟩ => ⟨S2048x64, .bf16⟩
  | .hbm, ⟨4, _⟩ => ⟨S512, .f32⟩
  | .hbm, ⟨5, _⟩ => ⟨S_, .f32⟩
  | .hbm, ⟨6, _⟩ => ⟨S32x4x128x128, .f32⟩
  | .hbm, ⟨7, _⟩ => ⟨S1x512, .f32⟩
  | .hbm, ⟨8, _⟩ => ⟨S32x2048x512, .f32⟩
  | .hbm, ⟨9, _⟩ => ⟨S32x4x128x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S1x128, .f32⟩
  | .local _ .vmem, ⟨12, _⟩ => ⟨S1x1x128x128, .f32⟩
  | .local _ .vmem, ⟨13, _⟩ => ⟨S1x1x128x128, .f32⟩
  | .local _ .vmem, ⟨14, _⟩ => ⟨S2048x64, .bf16⟩
  | .local _ .vmem, ⟨15, _⟩ => ⟨S1x512x128, .f32⟩
  | .local _ .vmem, ⟨16, _⟩ => ⟨S1x512x128, .f32⟩
  | .local _ .vmem, ⟨17, _⟩ => ⟨S1x1x128x128, .f32⟩
  | .local _ .vmem, ⟨18, _⟩ => ⟨S1x1x128x128, .f32⟩
  | .local _ .vmem, ⟨19, _⟩ => ⟨S128x128, .f32⟩
  | _, _ => ⟨S32x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![32, 4, 4], ![false, false, false]⟩

@[reducible] def k0_t1_loop : Scf.Loop 32 :=
  let c0_i32_41 : BitVec 32 := 0#32
  let c8_i32 : BitVec 32 := 8#32
  let v143 : BitVec 32 := Scalar.addi c0_i32_41 c8_i32
  let c1_i32_42 : BitVec 32 := 1#32
  ⟨c0_i32_41, v143, c1_i32_42⟩
def k0_mult1 (k0_t1 : Fin k0_t1_loop.trips) : BitVec 32 :=
  let c0_i32_41 : BitVec 32 := 0#32
  let c1_i32_42 : BitVec 32 := 1#32
  let arg14 : BitVec 32 := Scf.iv c0_i32_41 c1_i32_42 k0_t1
  let c64_i32 : BitVec 32 := 64#32
  let v147 : BitVec 32 := Scalar.muli arg14 c64_i32
  v147
def k0_off1 (k0_t1 : Fin k0_t1_loop.trips) : Fin 3 → Nat :=
  let c0_45 : Index := 0#32
  let c0_i32_41 : BitVec 32 := 0#32
  let c1_i32_42 : BitVec 32 := 1#32
  let arg14 : BitVec 32 := Scf.iv c0_i32_41 c1_i32_42 k0_t1
  let c64_i32 : BitVec 32 := 64#32
  let v147 : BitVec 32 := Scalar.muli arg14 c64_i32
  let v148 : BitVec 32 := v147
  let v149 : Index := Scalar.indexCast v148
  let c0_46 : Index := 0#32
  ![0, v149.toNat, 0]
def k0_cond2 (i : grid0.Coords) : BitVec 1 :=
  let arg2 : BitVec 32 := BitVec.ofNat 32 (i 2).val
  let c3_i32 : BitVec 32 := 3#32
  let v144 : BitVec 1 := Scalar.cmpi .eq arg2 c3_i32
  let v145 : BitVec 32 := Scalar.extui v144
  let c0_i32_44 : BitVec 32 := 0#32
  let v146 : BitVec 1 := Scalar.cmpi .ne v145 c0_i32_44
  v146

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S2048x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== HgrnRefIdeal.lean ====
abbrev S32x2048x2048 : Shape := ⟨3, ![32, 2048, 2048]⟩
abbrev S2x512 : Shape := ⟨2, ![2, 512]⟩
abbrev S1x512 : Shape := ⟨2, ![1, 512]⟩
abbrev S32x2048x512 : Shape := ⟨3, ![32, 2048, 512]⟩
abbrev S_ : Shape := ⟨0, ![]⟩
abbrev S512 : Shape := ⟨1, ![512]⟩
abbrev S1x1x512 : Shape := ⟨3, ![1, 1, 512]⟩
abbrev S32x4x128x128 : Shape := ⟨4, ![32, 4, 128, 128]⟩
abbrev S32x2048x4x128 : Shape := ⟨4, ![32, 2048, 4, 128]⟩
abbrev S64x64 : Shape := ⟨2, ![64, 64]⟩
abbrev S64x64x1 : Shape := ⟨3, ![64, 64, 1]⟩
abbrev S32x32x64x4x128 : Shape := ⟨5, ![32, 32, 64, 4, 128]⟩
abbrev S32x32x4x64x128 : Shape := ⟨5, ![32, 32, 4, 64, 128]⟩
abbrev S1x32x4x64x128 : Shape := ⟨5, ![1, 32, 4, 64, 128]⟩
abbrev S32x4x64x128 : Shape := ⟨4, ![32, 4, 64, 128]⟩
abbrev S32x4x64x1x128 : Shape := ⟨5, ![32, 4, 64, 1, 128]⟩
abbrev S32x4x1x64x128 : Shape := ⟨5, ![32, 4, 1, 64, 128]⟩
abbrev S32x4x64x64x128 : Shape := ⟨5, ![32, 4, 64, 64, 128]⟩
abbrev S32x4x64x64 : Shape := ⟨4, ![32, 4, 64, 64]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S4x128 : Shape := ⟨2, ![4, 128]⟩
abbrev S32x2048x4 : Shape := ⟨3, ![32, 2048, 4]⟩
abbrev S32x2048x4x1 : Shape := ⟨4, ![32, 2048, 4, 1]⟩
abbrev S1x1x4x128 : Shape := ⟨4, ![1, 1, 4, 128]⟩

abbrev nBuf : Space → Nat
  | .hbm => 209
  | .vmem => 0
  | .smem => 0
  | _ => 0

abbrev hbmTy0_0 (i : Nat) : BufTy := match i % 128 with
  | 0 => ⟨S32x2048x2048, .f32⟩
  | 1 => ⟨S2x512, .f32⟩
  | 2 => ⟨S1x512, .f32⟩
  | 3 => ⟨S32x2048x512, .f32⟩
  | 4 => ⟨S32x2048x512, .f32⟩
  | 5 => ⟨S32x2048x512, .f32⟩
  | 6 => ⟨S_, .f32⟩
  | 7 => ⟨S512, .f32⟩
  | 8 => ⟨S_, .f32⟩
  | 9 => ⟨S512, .f32⟩
  | 10 => ⟨S512, .f32⟩
  | 11 => ⟨S1x512, .f32⟩
  | 12 => ⟨S2x512, .f32⟩
  | 13 => ⟨S2x512, .f32⟩
  | 14 => ⟨S2x512, .f32⟩
  | 15 => ⟨S_, .f32⟩
  | 16 => ⟨S512, .f32⟩
  | 17 => ⟨S1x512, .f32⟩
  | 18 => ⟨S2x512, .f32⟩
  | 19 => ⟨S2x512, .f32⟩
  | 20 => ⟨S_, .f32⟩
  | 21 => ⟨S_, .f32⟩
  | 22 => ⟨S2x512, .f32⟩
  | 23 => ⟨S1x512, .f32⟩
  | 24 => ⟨S512, .f32⟩
  | 25 => ⟨S_, .f32⟩
  | 26 => ⟨S512, .f32⟩
  | 27 => ⟨S512, .f32⟩
  | 28 => ⟨S32x2048x512, .f32⟩
  | 29 => ⟨S32x2048x512, .f32⟩
  | 30 => ⟨S_, .f32⟩
  | 31 => ⟨S32x2048x512, .f32⟩
  | 32 => ⟨S32x2048x512, .f32⟩
  | 33 => ⟨S_, .f32⟩
  | 34 => ⟨S32x2048x512, .f32⟩
  | 35 => ⟨S32x2048x512, .f32⟩
  | 36 => ⟨S1x1x512, .f32⟩
  | 37 => ⟨S32x2048x512, .f32⟩
  | 38 => ⟨S32x2048x512, .f32⟩
  | 39 => ⟨S1x1x512, .f32⟩
  | 40 => ⟨S32x2048x512, .f32⟩
  | 41 => ⟨S32x2048x512, .f32⟩
  | 42 => ⟨S_, .f32⟩
  | 43 => ⟨S512, .f32⟩
  | 44 => ⟨S512, .f32⟩
  | 45 => ⟨S32x2048x512, .f32⟩
  | 46 => ⟨S32x2048x512, .f32⟩
  | 47 => ⟨S32x2048x512, .f32⟩
  | 48 => ⟨S_, .f32⟩
  | 49 => ⟨S32x2048x512, .f32⟩
  | 50 => ⟨S32x2048x512, .f32⟩
  | 51 => ⟨S_, .f32⟩
  | 52 => ⟨S32x2048x512, .f32⟩
  | 53 => ⟨S32x2048x512, .f32⟩
  | 54 => ⟨S1x1x512, .f32⟩
  | 55 => ⟨S32x2048x512, .f32⟩
  | 56 => ⟨S32x2048x512, .f32⟩
  | 57 => ⟨S32x2048x512, .f32⟩
  | 58 => ⟨S32x2048x512, .f32⟩
  | 59 => ⟨S_, .f32⟩
  | 60 => ⟨S32x2048x512, .f32⟩
  | 61 => ⟨S32x2048x512, .f32⟩
  | 62 => ⟨S_, .f32⟩
  | 63 => ⟨S32x2048x512, .f32⟩
  | 64 => ⟨S32x2048x512, .f32⟩
  | 65 => ⟨S32x2048x512, .f32⟩
  | 66 => ⟨S_, .f32⟩
  | 67 => ⟨S32x4x128x128, .f32⟩
  | 68 => ⟨S32x2048x4x128, .f32⟩
  | 69 => ⟨S32x2048x512, .f32⟩
  | 70 => ⟨S32x2048x4x128, .f32⟩
  | 71 => ⟨S32x2048x4x128, .f32⟩
  | 72 => ⟨S32x2048x4x128, .f32⟩
  | 73 => ⟨S_, .i1⟩
  | 74 => ⟨S64x64, .i1⟩
  | 75 => ⟨S64x64, .i32⟩
  | 76 => ⟨S_, .i32⟩
  | 77 => ⟨S64x64, .i32⟩
  | 78 => ⟨S64x64, .i32⟩
  | 79 => ⟨S64x64, .i32⟩
  | 80 => ⟨S64x64, .i1⟩
  | 81 => ⟨S_, .i1⟩
  | 82 => ⟨S64x64, .i1⟩
  | 83 => ⟨S64x64, .i1⟩
  | 84 => ⟨S64x64x1, .i1⟩
  | 85 => ⟨S32x32x64x4x128, .f32⟩
  | 86 => ⟨S32x32x4x64x128, .f32⟩
  | 87 => ⟨S32x32x64x4x128, .f32⟩
  | 88 => ⟨S32x32x4x64x128, .f32⟩
  | 89 => ⟨S32x32x64x4x128, .f32⟩
  | 90 => ⟨S32x32x4x64x128, .f32⟩
  | 91 => ⟨S32x32x64x4x128, .f32⟩
  | 92 => ⟨S32x32x4x64x128, .f32⟩
  | 93 => ⟨S_, .f32⟩
  | 94 => ⟨S32x32x4x64x128, .f32⟩
  | 95 => ⟨S_, .i32⟩
  | 96 => ⟨S32x32x4x64x128, .f32⟩
  | 97 => ⟨S32x32x4x64x128, .f32⟩
  | 98 => ⟨S32x32x4x64x128, .f32⟩
  | 99 => ⟨S32x32x4x64x128, .f32⟩
  | 100 => ⟨S64x64x1, .i1⟩
  | 101 => ⟨S_, .i32⟩
  | 102 => ⟨S32x4x128x128, .f32⟩
  | 103 => ⟨S32x32x4x64x128, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S1x32x4x64x128, .f32⟩
  | 111 => ⟨S32x4x64x128, .f32⟩
  | 112 => ⟨S_, .i32⟩
  | 113 => ⟨S_, .i32⟩
  | 114 => ⟨S_, .i32⟩
  | 115 => ⟨S_, .i32⟩
  | 116 => ⟨S1x32x4x64x128, .f32⟩
  | 117 => ⟨S32x4x64x128, .f32⟩
  | 118 => ⟨S_, .i32⟩
  | 119 => ⟨S_, .i32⟩
  | 120 => ⟨S_, .i32⟩
  | 121 => ⟨S_, .i32⟩
  | 122 => ⟨S1x32x4x64x128, .f32⟩
  | 123 => ⟨S32x4x64x128, .f32⟩
  | 124 => ⟨S_, .i32⟩
  | 125 => ⟨S_, .i32⟩
  | 126 => ⟨S_, .i32⟩
  | 127 => ⟨S_, .i32⟩
  | _ => ⟨S32x2048x2048, .f32⟩

abbrev hbmTy0_1 (i : Nat) : BufTy := match i % 128 with
  | 0 => ⟨S1x32x4x64x128, .f32⟩
  | 1 => ⟨S32x4x64x128, .f32⟩
  | 2 => ⟨S_, .f32⟩
  | 3 => ⟨S_, .f32⟩
  | 4 => ⟨S32x4x64x128, .f32⟩
  | 5 => ⟨S32x4x64x1x128, .f32⟩
  | 6 => ⟨S32x4x1x64x128, .f32⟩
  | 7 => ⟨S32x4x64x64x128, .f32⟩
  | 8 => ⟨S32x4x64x64x128, .f32⟩
  | 9 => ⟨S32x4x64x64x128, .f32⟩
  | 10 => ⟨S_, .f32⟩
  | 11 => ⟨S_, .f32⟩
  | 12 => ⟨S32x4x64x64x128, .i1⟩
  | 13 => ⟨S32x4x64x64x128, .f32⟩
  | 14 => ⟨S32x4x64x64x128, .f32⟩
  | 15 => ⟨S32x4x64x64x128, .f32⟩
  | 16 => ⟨S32x4x64x1x128, .f32⟩
  | 17 => ⟨S32x4x1x64x128, .f32⟩
  | 18 => ⟨S32x4x64x64x128, .f32⟩
  | 19 => ⟨S32x4x64x64x128, .f32⟩
  | 20 => ⟨S32x4x64x64x128, .f32⟩
  | 21 => ⟨S32x4x64x64x128, .f32⟩
  | 22 => ⟨S_, .f32⟩
  | 23 => ⟨S32x4x64x64, .f32⟩
  | 24 => ⟨S32x4x64x128, .f32⟩
  | 25 => ⟨S32x4x64x128, .f32⟩
  | 26 => ⟨S32x4x64x128, .f32⟩
  | 27 => ⟨S32x4x64x128, .f32⟩
  | 28 => ⟨S32x4x64x128, .f32⟩
  | 29 => ⟨S32x4x1x128, .f32⟩
  | 30 => ⟨S32x4x128, .f32⟩
  | 31 => ⟨S32x4x128x1, .f32⟩
  | 32 => ⟨S32x4x128x1, .f32⟩
  | 33 => ⟨S32x4x128x128, .f32⟩
  | 34 => ⟨S32x4x128x128, .f32⟩
  | 35 => ⟨S32x4x64x128, .f32⟩
  | 36 => ⟨S32x4x64x128, .f32⟩
  | 37 => ⟨S32x4x64x128, .f32⟩
  | 38 => ⟨S32x4x64x128, .f32⟩
  | 39 => ⟨S32x4x128x128, .f32⟩
  | 40 => ⟨S32x4x128x128, .f32⟩
  | 41 => ⟨S1x32x4x64x128, .f32⟩
  | 42 => ⟨S_, .i32⟩
  | 43 => ⟨S_, .i32⟩
  | 44 => ⟨S_, .i32⟩
  | 45 => ⟨S_, .i32⟩
  | 46 => ⟨S32x32x4x64x128, .f32⟩
  | 47 => ⟨S_, .i32⟩
  | 48 => ⟨S_, .i32⟩
  | 49 => ⟨S32x32x64x4x128, .f32⟩
  | 50 => ⟨S32x2048x4x128, .f32⟩
  | 51 => ⟨S32x2048x512, .f32⟩
  | 52 => ⟨S512, .f32⟩
  | 53 => ⟨S4x128, .f32⟩
  | 54 => ⟨S32x2048x4x128, .f32⟩
  | 55 => ⟨S_, .f32⟩
  | 56 => ⟨S32x2048x4, .f32⟩
  | 57 => ⟨S32x2048x4x1, .f32⟩
  | 58 => ⟨S_, .f32⟩
  | 59 => ⟨S32x2048x4x1, .f32⟩
  | 60 => ⟨S32x2048x4x1, .f32⟩
  | 61 => ⟨S_, .f32⟩
  | 62 => ⟨S32x2048x4x1, .f32⟩
  | 63 => ⟨S32x2048x4x1, .f32⟩
  | 64 => ⟨S32x2048x4x1, .f32⟩
  | 65 => ⟨S32x2048x4x128, .f32⟩
  | 66 => ⟨S32x2048x4x128, .f32⟩
  | 67 => ⟨S1x1x4x128, .f32⟩
  | 68 => ⟨S32x2048x4x128, .f32⟩
  | 69 => ⟨S32x2048x4x128, .f32⟩
  | 70 => ⟨S32x2048x512, .f32⟩
  | 71 => ⟨S32x2048x512, .f32⟩
  | 72 => ⟨S32x2048x512, .f32⟩
  | 73 => ⟨S_, .f32⟩
  | 74 => ⟨S32x2048x512, .f32⟩
  | 75 => ⟨S32x2048x512, .f32⟩
  | 76 => ⟨S_, .f32⟩
  | 77 => ⟨S32x2048x512, .f32⟩
  | 78 => ⟨S32x2048x512, .f32⟩
  | 79 => ⟨S32x2048x512, .f32⟩
  | 80 => ⟨S32x2048x512, .f32⟩
  | _ => ⟨S32x2048x2048, .f32⟩

abbrev hbmTy (i : Nat) : BufTy := match i / 128 with
  | 0 => hbmTy0_0 i
  | 1 => hbmTy0_1 i
  | _ => ⟨S32x2048x2048, .f32⟩

abbrev bufTy : (tb : Table) → Fin (tcTables nBuf tb) → BufTy
  | .hbm, ⟨i, _⟩ => hbmTy i
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_call0_cst : Ref sig .tc := ⟨.hbm, 20, rfl⟩
abbrev main_call0_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c : Ref sig .tc := ⟨.hbm, 73, rfl⟩
abbrev main_v50 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_c_0 : Ref sig .tc := ⟨.hbm, 81, rfl⟩
abbrev main_call2_v5 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_9 : Ref sig .tc := ⟨.hbm, 93, rfl⟩
abbrev main_v61 : Ref sig .tc := ⟨.hbm, 94, rfl⟩
abbrev main_c_10 : Ref sig .tc := ⟨.hbm, 95, rfl⟩
abbrev main_v62_0 : Ref sig .tc := ⟨.hbm, 96, rfl⟩
abbrev main_v62_1 : Ref sig .tc := ⟨.hbm, 97, rfl⟩
abbrev main_v62_2 : Ref sig .tc := ⟨.hbm, 98, rfl⟩
abbrev main_v62_3 : Ref sig .tc := ⟨.hbm, 99, rfl⟩
abbrev main_v62_4 : Ref sig .tc := ⟨.hbm, 100, rfl⟩
abbrev main_v62_5 : Ref sig .tc := ⟨.hbm, 101, rfl⟩
abbrev main_v62_6 : Ref sig .tc := ⟨.hbm, 102, rfl⟩
abbrev main_v62_7 : Ref sig .tc := ⟨.hbm, 103, rfl⟩
abbrev main_while0c_c_21 : Ref sig .tc := ⟨.hbm, 104, rfl⟩
abbrev main_while0c_v84 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_call3_c_2 : Ref sig .tc := ⟨.hbm, 109, rfl⟩
abbrev main_while0b_call3_v0 : Ref sig .tc := ⟨.hbm, 110, rfl⟩
abbrev main_while0b_v84 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_c_2 : Ref sig .tc := ⟨.hbm, 115, rfl⟩
abbrev main_while0b_call4_v0 : Ref sig .tc := ⟨.hbm, 116, rfl⟩
abbrev main_while0b_v85 : Ref sig .tc := ⟨.hbm, 117, rfl⟩
abbrev main_while0b_call5_c : Ref sig .tc := ⟨.hbm, 118, rfl⟩
abbrev main_while0b_call5_c_0 : Ref sig .tc := ⟨.hbm, 119, rfl⟩
abbrev main_while0b_call5_c_1 : Ref sig .tc := ⟨.hbm, 120, rfl⟩
abbrev main_while0b_call5_c_2 : Ref sig .tc := ⟨.hbm, 121, rfl⟩
abbrev main_while0b_call5_v0 : Ref sig .tc := ⟨.hbm, 122, rfl⟩
abbrev main_while0b_v86 : Ref sig .tc := ⟨.hbm, 123, rfl⟩
abbrev main_while0b_call6_c : Ref sig .tc := ⟨.hbm, 124, rfl⟩
abbrev main_while0b_call6_c_0 : Ref sig .tc := ⟨.hbm, 125, rfl⟩
abbrev main_while0b_call6_c_1 : Ref sig .tc := ⟨.hbm, 126, rfl⟩
abbrev main_while0b_call6_c_2 : Ref sig .tc := ⟨.hbm, 127, rfl⟩
abbrev main_while0b_call6_v0 : Ref sig .tc := ⟨.hbm, 128, rfl⟩
abbrev main_while0b_v87 : Ref sig .tc := ⟨.hbm, 129, rfl⟩
abbrev main_while0b_call7_call0_cst : Ref sig .tc := ⟨.hbm, 130, rfl⟩
abbrev main_while0b_call7_call0_v0 : Ref sig .tc := ⟨.hbm, 131, rfl⟩
abbrev main_while0b_v88 : Ref sig .tc := ⟨.hbm, 132, rfl⟩
abbrev main_while0b_v89 : Ref sig .tc := ⟨.hbm, 133, rfl⟩
abbrev main_while0b_v90 : Ref sig .tc := ⟨.hbm, 134, rfl⟩
abbrev main_while0b_v91 : Ref sig .tc := ⟨.hbm, 135, rfl⟩
abbrev main_while0b_v92 : Ref sig .tc := ⟨.hbm, 136, rfl⟩
abbrev main_while0b_v93 : Ref sig .tc := ⟨.hbm, 137, rfl⟩
abbrev main_while0b_cst_21 : Ref sig .tc := ⟨.hbm, 138, rfl⟩
abbrev main_while0b_call8_v0 : Ref sig .tc := ⟨.hbm, 139, rfl⟩
abbrev main_while0b_call8_v1 : Ref sig .tc := ⟨.hbm, 140, rfl⟩
abbrev main_while0b_call8_v2 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_cst_22 : Ref sig .tc := ⟨.hbm, 150, rfl⟩
abbrev main_while0b_v102 : Ref sig .tc := ⟨.hbm, 151, rfl⟩
abbrev main_while0b_v103 : Ref sig .tc := ⟨.hbm, 152, rfl⟩
abbrev main_while0b_v104 : Ref sig .tc := ⟨.hbm, 153, rfl⟩
abbrev main_while0b_v105 : Ref sig .tc := ⟨.hbm, 154, rfl⟩
abbrev main_while0b_v106 : Ref sig .tc := ⟨.hbm, 155, rfl⟩
abbrev main_while0b_v107 : Ref sig .tc := ⟨.hbm, 156, rfl⟩
abbrev main_while0b_v108 : Ref sig .tc := ⟨.hbm, 157, rfl⟩
abbrev main_while0b_v109 : Ref sig .tc := ⟨.hbm, 158, rfl⟩
abbrev main_while0b_v110 : Ref sig .tc := ⟨.hbm, 159, rfl⟩
abbrev main_while0b_v111 : Ref sig .tc := ⟨.hbm, 160, rfl⟩
abbrev main_while0b_v112 : Ref sig .tc := ⟨.hbm, 161, rfl⟩
abbrev main_while0b_v113 : Ref sig .tc := ⟨.hbm, 162, rfl⟩
abbrev main_while0b_v114 : Ref sig .tc := ⟨.hbm, 163, rfl⟩
abbrev main_while0b_v115 : Ref sig .tc := ⟨.hbm, 164, rfl⟩
abbrev main_while0b_v116 : Ref sig .tc := ⟨.hbm, 165, rfl⟩
abbrev main_while0b_v117 : Ref sig .tc := ⟨.hbm, 166, rfl⟩
abbrev main_while0b_v118 : Ref sig .tc := ⟨.hbm, 167, rfl⟩
abbrev main_while0b_v119 : Ref sig .tc := ⟨.hbm, 168, rfl⟩
abbrev main_while0b_call9_v0 : Ref sig .tc := ⟨.hbm, 169, rfl⟩
abbrev main_while0b_call9_c : Ref sig .tc := ⟨.hbm, 170, rfl⟩
abbrev main_while0b_call9_c_0 : Ref sig .tc := ⟨.hbm, 171, rfl⟩
abbrev main_while0b_call9_c_1 : Ref sig .tc := ⟨.hbm, 172, rfl⟩
abbrev main_while0b_call9_c_2 : Ref sig .tc := ⟨.hbm, 173, rfl⟩
abbrev main_while0b_v120 : Ref sig .tc := ⟨.hbm, 174, rfl⟩
abbrev main_while0b_c_23 : Ref sig .tc := ⟨.hbm, 175, rfl⟩
abbrev main_while0b_v121 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_cst_11 : Ref sig .tc := ⟨.hbm, 183, rfl⟩
abbrev main_v69 : Ref sig .tc := ⟨.hbm, 184, rfl⟩
abbrev main_v70 : Ref sig .tc := ⟨.hbm, 185, rfl⟩
abbrev main_cst_12 : Ref sig .tc := ⟨.hbm, 186, rfl⟩
abbrev main_v71 : Ref sig .tc := ⟨.hbm, 187, rfl⟩
abbrev main_v72 : Ref sig .tc := ⟨.hbm, 188, rfl⟩
abbrev main_cst_13 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_call10_v0 : Ref sig .tc := ⟨.hbm, 199, rfl⟩
abbrev main_call10_v1 : Ref sig .tc := ⟨.hbm, 200, rfl⟩
abbrev main_call10_cst : Ref sig .tc := ⟨.hbm, 201, rfl⟩
abbrev main_call10_v2 : Ref sig .tc := ⟨.hbm, 202, rfl⟩
abbrev main_call10_v3 : Ref sig .tc := ⟨.hbm, 203, rfl⟩
abbrev main_call10_cst_0 : Ref sig .tc := ⟨.hbm, 204, rfl⟩
abbrev main_call10_v4 : Ref sig .tc := ⟨.hbm, 205, rfl⟩
abbrev main_call10_v5 : Ref sig .tc := ⟨.hbm, 206, rfl⟩
abbrev main_v82 : Ref sig .tc := ⟨.hbm, 207, rfl⟩
abbrev main_v83 : Ref sig .tc := ⟨.hbm, 208, rfl⟩

abbrev nD : Nat := 1
abbrev τ : Topo := Topo.v7x

variable {F : FTy → Type} [FloatOps F]

abbrev main_while0_count : Scf.Loop 32 := ⟨0#32, 32#32, 1#32⟩
-- ==== Proj.lean ====
abbrev S32x2048x1024 : Shape := ⟨3, ![32, 2048, 1024]⟩
abbrev S1x1024 : Shape := ⟨2, ![1, 1024]⟩
abbrev S1x1024x3352 : Shape := ⟨3, ![1, 1024, 3352]⟩
abbrev S1024x3352 : Shape := ⟨2, ![1024, 3352]⟩
abbrev S_ : Shape := ⟨0, ![]⟩
abbrev S1024x3456 : Shape := ⟨2, ![1024, 3456]⟩
abbrev S65536x1024 : Shape := ⟨2, ![65536, 1024]⟩
abbrev S1024 : Shape := ⟨1, ![1024]⟩
abbrev S65536x2048 : Shape := ⟨2, ![65536, 2048]⟩
abbrev S65536x512 : Shape := ⟨2, ![65536, 512]⟩
abbrev S65536x256 : Shape := ⟨2, ![65536, 256]⟩
abbrev S65536x128 : Shape := ⟨2, ![65536, 128]⟩
abbrev S512x1024 : Shape := ⟨2, ![512, 1024]⟩
abbrev S512x2048 : Shape := ⟨2, ![512, 2048]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S1024x512 : Shape := ⟨2, ![1024, 512]⟩
abbrev S1024x256 : Shape := ⟨2, ![1024, 256]⟩
abbrev S1024x128 : Shape := ⟨2, ![1024, 128]⟩

abbrev nBuf : Space → Nat
  | .hbm => 16
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3352, .f32⟩
  | .hbm, ⟨3, _⟩ => ⟨S1024x3352, .f32⟩
  | .hbm, ⟨4, _⟩ => ⟨S_, .i32⟩
  | .hbm, ⟨5, _⟩ => ⟨S_, .f32⟩
  | .hbm, ⟨6, _⟩ => ⟨S1024x3456, .f32⟩
  | .hbm, ⟨7, _⟩ => ⟨S1024x3456, .bf16⟩
  | .hbm, ⟨8, _⟩ => ⟨S65536x1024, .f32⟩
  | .hbm, ⟨9, _⟩ => ⟨S1024, .f32⟩
  | .hbm, ⟨10, _⟩ => ⟨S1x1024, .f32⟩
  | .hbm, ⟨11, _⟩ => ⟨S65536x2048, .f32⟩
  | .hbm, ⟨12, _⟩ => ⟨S65536x512, .f32⟩
  | .hbm, ⟨13, _⟩ => ⟨S65536x512, .f32⟩
  | .hbm, ⟨14, _⟩ => ⟨S65536x256, .f32⟩
  | .hbm, ⟨15, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x2048, .f32⟩
  | .local _ .vmem, ⟨5, _⟩ => ⟨S512x2048, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x128, .f32⟩
  | .local _ .vmem, ⟨13, _⟩ => ⟨S512x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S32x2048x1024 : Shape := ⟨3, ![32, 2048, 1024]⟩
abbrev S1x1024 : Shape := ⟨2, ![1, 1024]⟩
abbrev S1x1024x3352 : Shape := ⟨3, ![1, 1024, 3352]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x3352 : Shape := ⟨2, ![1024, 3352]⟩
abbrev S32x2048x3352 : Shape := ⟨3, ![32, 2048, 3352]⟩
abbrev S65536x3352 : Shape := ⟨2, ![65536, 3352]⟩
abbrev S65536x24 : Shape := ⟨2, ![65536, 24]⟩
abbrev S65536x128 : Shape := ⟨2, ![65536, 128]⟩
abbrev S65536x2048 : Shape := ⟨2, ![65536, 2048]⟩
abbrev S65536x512 : Shape := ⟨2, ![65536, 512]⟩
abbrev S65536x256 : Shape := ⟨2, ![65536, 256]⟩

abbrev nBuf : Space → Nat
  | .hbm => 31
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3352, .f32⟩
  | .hbm, ⟨3, _⟩ => ⟨S1024, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S1024x3352, .f32⟩
  | .hbm, ⟨21, _⟩ => ⟨S32x2048x3352, .f32⟩
  | .hbm, ⟨22, _⟩ => ⟨S65536x3352, .f32⟩
  | .hbm, ⟨23, _⟩ => ⟨S65536x24, .f32⟩
  | .hbm, ⟨24, _⟩ => ⟨S_, .i32⟩
  | .hbm, ⟨25, _⟩ => ⟨S_, .f32⟩
  | .hbm, ⟨26, _⟩ => ⟨S65536x128, .f32⟩
  | .hbm, ⟨27, _⟩ => ⟨S65536x2048, .f32⟩
  | .hbm, ⟨28, _⟩ => ⟨S65536x512, .f32⟩
  | .hbm, ⟨29, _⟩ => ⟨S65536x512, .f32⟩
  | .hbm, ⟨30, _⟩ => ⟨S65536x256, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== ProjS.lean ====
abbrev S128x4x1024 : Shape := ⟨3, ![128, 4, 1024]⟩
abbrev S1x1024 : Shape := ⟨2, ![1, 1024]⟩
abbrev S1x1024x3352 : Shape := ⟨3, ![1, 1024, 3352]⟩
abbrev S1024x3352 : Shape := ⟨2, ![1024, 3352]⟩
abbrev S_ : Shape := ⟨0, ![]⟩
abbrev S1024x3456 : Shape := ⟨2, ![1024, 3456]⟩
abbrev S512x1024 : Shape := ⟨2, ![512, 1024]⟩
abbrev S1024 : Shape := ⟨1, ![1024]⟩
abbrev S512x2048 : Shape := ⟨2, ![512, 2048]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S1024x512 : Shape := ⟨2, ![1024, 512]⟩
abbrev S1024x256 : Shape := ⟨2, ![1024, 256]⟩
abbrev S1024x128 : Shape := ⟨2, ![1024, 128]⟩

abbrev nBuf : Space → Nat
  | .hbm => 16
  | .vmem => 8
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x3352, .f32⟩
  | .hbm, ⟨3, _⟩ => ⟨S1024x3352, .f32⟩
  | .hbm, ⟨4, _⟩ => ⟨S_, .i32⟩
  | .hbm, ⟨5, _⟩ => ⟨S_, .f32⟩
  | .hbm, ⟨6, _⟩ => ⟨S1024x3456, .f32⟩
  | .hbm, ⟨7, _⟩ => ⟨S1024x3456, .bf16⟩
  | .hbm, ⟨8, _⟩ => ⟨S512x1024, .f32⟩
  | .hbm, ⟨9, _⟩ => ⟨S1024, .f32⟩
  | .hbm, ⟨10, _⟩ => ⟨S1x1024, .f32⟩
  | .hbm, ⟨11, _⟩ => ⟨S512x2048, .f32⟩
  | .hbm, ⟨12, _⟩ => ⟨S512x512, .f32⟩
  | .hbm, ⟨13, _⟩ => ⟨S512x512, .f32⟩
  | .hbm, ⟨14, _⟩ => ⟨S512x256, .f32⟩
  | .hbm, ⟨15, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1024x3456, .bf16⟩
  | .local _ .vmem, ⟨3, _⟩ => ⟨S512x2048, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ProjSRefIdeal.lean ====
abbrev S128x4x1024 : Shape := ⟨3, ![128, 4, 1024]⟩
abbrev S1x1024 : Shape := ⟨2, ![1, 1024]⟩
abbrev S1x1024x3352 : Shape := ⟨3, ![1, 1024, 3352]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x3352 : Shape := ⟨2, ![1024, 3352]⟩
abbrev S128x4x3352 : Shape := ⟨3, ![128, 4, 3352]⟩
abbrev S512x3352 : Shape := ⟨2, ![512, 3352]⟩
abbrev S512x24 : Shape := ⟨2, ![512, 24]⟩
abbrev S512x128 : Shape := ⟨2, ![512, 128]⟩
abbrev S512x2048 : Shape := ⟨2, ![512, 2048]⟩
abbrev S512x512 : Shape := ⟨2, ![512, 512]⟩
abbrev S512x256 : Shape := ⟨2, ![512, 256]⟩

abbrev nBuf : Space → Nat
  | .hbm => 31
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x3352, .f32⟩
  | .hbm, ⟨3, _⟩ => ⟨S1024, .f32⟩
  | .hbm, ⟨4, _⟩ => ⟨S128x4x1024, .f32⟩
  | .hbm, ⟨5, _⟩ => ⟨S_, .f32⟩
  | .hbm, ⟨6, _⟩ => ⟨S128x4, .f32⟩
  | .hbm, ⟨7, _⟩ => ⟨S128x4x1, .f32⟩
  | .hbm, ⟨8, _⟩ => ⟨S_, .f32⟩
  | .hbm, ⟨9, _⟩ => ⟨S128x4x1, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S128x4x1, .f32⟩
  | .hbm, ⟨15, _⟩ => ⟨S128x4x1024, .f32⟩
  | .hbm, ⟨16, _⟩ => ⟨S128x4x1024, .f32⟩
  | .hbm, ⟨17, _⟩ => ⟨S1x1x1024, .f32⟩
  | .hbm, ⟨18, _⟩ => ⟨S128x4x1024, .f32⟩
  | .hbm, ⟨19, _⟩ => ⟨S128x4x1024, .f32⟩
  | .hbm, ⟨20, _⟩ => ⟨S1024x3352, .f32⟩
  | .hbm, ⟨21, _⟩ => ⟨S128x4x3352, .f32⟩
  | .hbm, ⟨22, _⟩ => ⟨S512x3352, .f32⟩
  | .hbm, ⟨23, _⟩ => ⟨S512x24, .f32⟩
  | .hbm, ⟨24, _⟩ => ⟨S_, .i32⟩
  | .hbm, ⟨25, _⟩ => ⟨S_, .f32⟩
  | .hbm, ⟨26, _⟩ => ⟨S512x128, .f32⟩
  | .hbm, ⟨27, _⟩ => ⟨S512x2048, .f32⟩
  | .hbm, ⟨28, _⟩ => ⟨S512x512, .f32⟩
  | .hbm, ⟨29, _⟩ => ⟨S512x512, .f32⟩
  | .hbm, ⟨30, _⟩ => ⟨S512x256, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Ffn.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x1024 : Shape := ⟨2, ![1024, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S32x2x2816 : Shape := ⟨3, ![32, 2, 2816]⟩
abbrev S1x512x1024 : Shape := ⟨3, ![1, 512, 1024]⟩
abbrev S1x512x512 : Shape := ⟨3, ![1, 512, 512]⟩
abbrev S1x2x2816 : Shape := ⟨3, ![1, 2, 2816]⟩
abbrev S8x2816 : Shape := ⟨2, ![8, 2816]⟩
abbrev S2x2816 : Shape := ⟨2, ![2, 2816]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩
abbrev S1x256 : Shape := ⟨2, ![1, 256]⟩
abbrev S2x256 : Shape := ⟨2, ![2, 256]⟩
abbrev S1x2x256 : Shape := ⟨3, ![1, 2, 256]⟩
abbrev S256x1024 : Shape := ⟨2, ![256, 1024]⟩

abbrev nBuf : Space → Nat
  | .hbm => 29
  | .vmem => 21
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x3x2816, .f32⟩
  | .hbm, ⟨8, _⟩ => ⟨S1x2816, .f32⟩
  | .hbm, ⟨9, _⟩ => ⟨S1x2816x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S3x2816, .f32⟩
  | .hbm, ⟨20, _⟩ => ⟨S2816, .f32⟩
  | .hbm, ⟨21, _⟩ => ⟨S1x2816, .f32⟩
  | .hbm, ⟨22, _⟩ => ⟨S2816x1024, .f32⟩
  | .hbm, ⟨23, _⟩ => ⟨S2816x1024, .bf16⟩
  | .hbm, ⟨24, _⟩ => ⟨S1x1024, .f32⟩
  | .hbm, ⟨25, _⟩ => ⟨S_, .f32⟩
  | .hbm, ⟨26, _⟩ => ⟨S32x2x2816, .f32⟩
  | .hbm, ⟨27, _⟩ => ⟨S32x2048x1024, .f32⟩
  | .hbm, ⟨28, _⟩ => ⟨S32x2x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x2x2816, .f32⟩
  | .local _ .vmem, ⟨7, _⟩ => ⟨S1x2x2816, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x2x2816, .f32⟩
  | .local _ .vmem, ⟨19, _⟩ => ⟨S1x2x2816, .f32⟩
  | .local _ .vmem, ⟨20, _⟩ => ⟨S8x2816, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnRefIdeal.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2816 : Shape := ⟨2, ![1024, 2816]⟩
abbrev S32x2048x2816 : Shape := ⟨3, ![32, 2048, 2816]⟩
abbrev S32x2x2816 : Shape := ⟨3, ![32, 2, 2816]⟩
abbrev S32x2050x2816 : Shape := ⟨3, ![32, 2050, 2816]⟩
abbrev S2816 : Shape := ⟨1, ![2816]⟩
abbrev S1x1x2816 : Shape := ⟨3, ![1, 1, 2816]⟩
abbrev S2816x1024 : Shape := ⟨2, ![2816, 1024]⟩

abbrev nBuf : Space → Nat
  | .hbm => 101
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x3x2816, .f32⟩
  | .hbm, ⟨8, _⟩ => ⟨S1x2816, .f32⟩
  | .hbm, ⟨9, _⟩ => ⟨S1x2816x1024, .f32⟩
  | .hbm, ⟨10, _⟩ => ⟨S1024, .f32⟩
  | .hbm, ⟨11, _⟩ => ⟨S32x2048x1024, .f32⟩
  | .hbm, ⟨12, _⟩ => ⟨S1024x1024, .f32⟩
  | .hbm, ⟨13, _⟩ => ⟨S32x2048x1024, .f32⟩
  | .hbm, ⟨14, _⟩ => ⟨S32x2048x1024, .f32⟩
  | .hbm, ⟨15, _⟩ => ⟨S1024, .f32⟩
  | .hbm, ⟨16, _⟩ => ⟨S32x2048x1024, .f32⟩
  | .hbm, ⟨17, _⟩ => ⟨S_, .f32⟩
  | .hbm, ⟨18, _⟩ => ⟨S32x2048, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S32x2048x1, .f32⟩
  | .hbm, ⟨27, _⟩ => ⟨S32x2048x1024, .f32⟩
  | .hbm, ⟨28, _⟩ => ⟨S32x2048x1024, .f32⟩
  | .hbm, ⟨29, _⟩ => ⟨S1x1x1024, .f32⟩
  | .hbm, ⟨30, _⟩ => ⟨S32x2048x1024, .f32⟩
  | .hbm, ⟨31, _⟩ => ⟨S32x2048x1024, .f32⟩
  | .hbm, ⟨32, _⟩ => ⟨S1024x2816, .f32⟩
  | .hbm, ⟨33, _⟩ => ⟨S32x2048x2816, .f32⟩
  | .hbm, ⟨34, _⟩ => ⟨S_, .f32⟩
  | .hbm, ⟨35, _⟩ => ⟨S32x2x2816, .f32⟩
  | .hbm, ⟨36, _⟩ => ⟨S32x2050x2816, .f32⟩
  | .hbm, ⟨37, _⟩ => ⟨S2816, .f32⟩
  | .hbm, ⟨38, _⟩ => ⟨S32x2048x2816, .f32⟩
  | .hbm, ⟨39, _⟩ => ⟨S1x1x2816, .f32⟩
  | .hbm, ⟨40, _⟩ => ⟨S2816, .f32⟩
  | .hbm, ⟨41, _⟩ => ⟨S1x1x2816, .f32⟩
  | .hbm, ⟨42, _⟩ => ⟨S32x2048x2816, .f32⟩
  | .hbm, ⟨43, _⟩ => ⟨S32x2048x2816, .f32⟩
  | .hbm, ⟨44, _⟩ => ⟨S1x1x2816, .f32⟩
  | .hbm, ⟨45, _⟩ => ⟨S32x2048x2816, .f32⟩
  | .hbm, ⟨46, _⟩ => ⟨S32x2048x2816, .f32⟩
  | .hbm, ⟨47, _⟩ => ⟨S32x2048x2816, .f32⟩
  | .hbm, ⟨48, _⟩ => ⟨S1x1x2816, .f32⟩
  | .hbm, ⟨49, _⟩ => ⟨S2816, .f32⟩
  | .hbm, ⟨50, _⟩ => ⟨S1x1x2816, .f32⟩
  | .hbm, ⟨51, _⟩ => ⟨S32x2048x2816, .f32⟩
  | .hbm, ⟨52, _⟩ => ⟨S32x2048x2816, .f32⟩
  | .hbm, ⟨53, _⟩ => ⟨S32x2048x2816, .f32⟩
  | .hbm, ⟨54, _⟩ => ⟨S32x2048x2816, .f32⟩
  | .hbm, ⟨55, _⟩ => ⟨S1x1x2816, .f32⟩
  | .hbm, ⟨56, _⟩ => ⟨S2816, .f32⟩
  | .hbm, ⟨57, _⟩ => ⟨S1x1x2816, .f32⟩
  | .hbm, ⟨58, _⟩ => ⟨S32x2048x2816, .f32⟩
  | .hbm, ⟨59, _⟩ => ⟨S32x2048x2816, .f32⟩
  | .hbm, ⟨60, _⟩ => ⟨S32x2048x2816, .f32⟩
  | .hbm, ⟨61, _⟩ => ⟨S32x2048x2816, .f32⟩
  | .hbm, ⟨62, _⟩ => ⟨S32x2048x2816, .f32⟩
  | .hbm, ⟨63, _⟩ => ⟨S_, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S_, .f32⟩
  | .hbm, ⟨68, _⟩ => ⟨S32x2048x2816, .f32⟩
  | .hbm, ⟨69, _⟩ => ⟨S32x2048x2816, .f32⟩
  | .hbm, ⟨70, _⟩ => ⟨S32x2048x2816, .f32⟩
  | .hbm, ⟨71, _⟩ => ⟨S_, .f32⟩
  | .hbm, ⟨72, _⟩ => ⟨S32x2048x2816, .f32⟩
  | .hbm, ⟨73, _⟩ => ⟨S32x2048x2816, .f32⟩
  | .hbm, ⟨74, _⟩ => ⟨S_, .f32⟩
  | .hbm, ⟨75, _⟩ => ⟨S32x2048x2816, .f32⟩
  | .hbm, ⟨76, _⟩ => ⟨S32x2048x2816, .f32⟩
  | .hbm, ⟨77, _⟩ => ⟨S32x2048x2816, .f32⟩
  | .hbm, ⟨78, _⟩ => ⟨S1024x2816, .f32⟩
  | .hbm, ⟨79, _⟩ => ⟨S32x2048x2816, .f32⟩
  | .hbm, ⟨80, _⟩ => ⟨S32x2048x2816, .f32⟩
  | .hbm, ⟨81, _⟩ => ⟨S2816x1024, .f32⟩
  | .hbm, ⟨82, _⟩ => ⟨S32x2048x1024, .f32⟩
  | .hbm, ⟨83, _⟩ => ⟨S32x2048x1024, .f32⟩
  | .hbm, ⟨84, _⟩ => ⟨S32x2048x1024, .f32⟩
  | .hbm, ⟨85, _⟩ => ⟨S_, .f32⟩
  | .hbm, ⟨86, _⟩ => ⟨S32x2048, .f32⟩
  | .hbm, ⟨87, _⟩ => ⟨S32x2048x1, .f32⟩
  | .hbm, ⟨88, _⟩ => ⟨S_, .f32⟩
  | .hbm, ⟨89, _⟩ => ⟨S32x2048x1, .f32⟩
  | .hbm, ⟨90, _⟩ => ⟨S32x2048x1, .f32⟩
  | .hbm, ⟨91, _⟩ => ⟨S_, .f32⟩
  | .hbm, ⟨92, _⟩ => ⟨S32x2048x1, .f32⟩
  | .hbm, ⟨93, _⟩ => ⟨S32x2048x1, .f32⟩
  | .hbm, ⟨94, _⟩ => ⟨S32x2048x1, .f32⟩
  | .hbm, ⟨95, _⟩ => ⟨S32x2048x1024, .f32⟩
  | .hbm, ⟨96, _⟩ => ⟨S32x2048x1024, .f32⟩
  | .hbm, ⟨97, _⟩ => ⟨S1x1x1024, .f32⟩
  | .hbm, ⟨98, _⟩ => ⟨S32x2048x1024, .f32⟩
  | .hbm, ⟨99, _⟩ => ⟨S32x2048x1024, .f32⟩
  | .hbm, ⟨100, _⟩ => ⟨S32x2x2816, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== FfnS.lean ====
abbrev S128x4x1024 : Shape := ⟨3, ![128, 4, 1024]⟩
abbrev S128x4x512 : Shape := ⟨3, ![128, 4, 512]⟩
abbrev S1x128x2x2816 : Shape := ⟨4, ![1, 128, 2, 2816]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x1024 : Shape := ⟨2, ![1024, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4x128x1024 : Shape := ⟨3, ![4, 128, 1024]⟩
abbrev S512x1024 : Shape := ⟨2, ![512, 1024]⟩
abbrev S128x2x2816 : Shape := ⟨3, ![128, 2, 2816]⟩
abbrev S2x128x2816 : Shape := ⟨3, ![2, 128, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x128x256 : Shape := ⟨3, ![1, 128, 256]⟩
abbrev S128x256 : Shape := ⟨2, ![128, 256]⟩
abbrev S1x256 : Shape := ⟨2, ![1, 256]⟩
abbrev S256x1024 : Shape := ⟨2, ![256, 1024]⟩

abbrev nBuf : Space → Nat
  | .hbm => 35
  | .vmem => 13
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .f32⟩
  | .hbm, ⟨2, _⟩ => ⟨S128x4x512, .f32⟩
  | .hbm, ⟨3, _⟩ => ⟨S1x128x2x2816, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x3x2816, .f32⟩
  | .hbm, ⟨9, _⟩ => ⟨S1x2816, .f32⟩
  | .hbm, ⟨10, _⟩ => ⟨S1x2816x1024, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S3x2816, .f32⟩
  | .hbm, ⟨21, _⟩ => ⟨S2816, .f32⟩
  | .hbm, ⟨22, _⟩ => ⟨S1x2816, .f32⟩
  | .hbm, ⟨23, _⟩ => ⟨S2816x1024, .f32⟩
  | .hbm, ⟨24, _⟩ => ⟨S2816x1024, .bf16⟩
  | .hbm, ⟨25, _⟩ => ⟨S1x1024, .f32⟩
  | .hbm, ⟨26, _⟩ => ⟨S128x4x1024, .f32⟩
  | .hbm, ⟨27, _⟩ => ⟨S4x128x1024, .f32⟩
  | .hbm, ⟨28, _⟩ => ⟨S512x1024, .f32⟩
  | .hbm, ⟨29, _⟩ => ⟨S4x128x1024, .f32⟩
  | .hbm, ⟨30, _⟩ => ⟨S512x1024, .f32⟩
  | .hbm, ⟨31, _⟩ => ⟨S128x2x2816, .f32⟩
  | .hbm, ⟨32, _⟩ => ⟨S2x128x2816, .f32⟩
  | .hbm, ⟨33, _⟩ => ⟨S512x1024, .f32⟩
  | .hbm, ⟨34, _⟩ => ⟨S2x128x2816, .f32⟩
  | .local _ .vmem, ⟨0, _⟩ => ⟨S512x1024, .f32⟩
  | .local _ .vmem, ⟨1, _⟩ => ⟨S512x1024, .f32⟩
  | .local _ .vmem, ⟨2, _⟩ => ⟨S2x128x2816, .f32⟩
  | .local _ .vmem, ⟨3, _⟩ => ⟨S1024x1024, .bf16⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S2x128x2816, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnSRefIdeal.lean ====
abbrev S128x4x1024 : Shape := ⟨3, ![128, 4, 1024]⟩
abbrev S128x4x512 : Shape := ⟨3, ![128, 4, 512]⟩
abbrev S1x128x2x2816 : Shape := ⟨4, ![1, 128, 2, 2816]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x2816 : Shape := ⟨2, ![1024, 2816]⟩
abbrev S128x4x2816 : Shape := ⟨3, ![128, 4, 2816]⟩
abbrev S128x2x2816 : Shape := ⟨3, ![128, 2, 2816]⟩
abbrev S128x6x2816 : Shape := ⟨3, ![128, 6, 2816]⟩
abbrev S2816 : Shape := ⟨1, ![2816]⟩
abbrev S1x1x2816 : Shape := ⟨3, ![1, 1, 2816]⟩
abbrev S2816x1024 : Shape := ⟨2, ![2816, 1024]⟩
abbrev S4x128x1024 : Shape := ⟨3, ![4, 128, 1024]⟩
abbrev S512x1024 : Shape := ⟨2, ![512, 1024]⟩
abbrev S2x128x2816 : Shape := ⟨3, ![2, 128, 2816]⟩

abbrev nBuf : Space → Nat
  | .hbm => 104
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .f32⟩
  | .hbm, ⟨2, _⟩ => ⟨S128x4x512, .f32⟩
  | .hbm, ⟨3, _⟩ => ⟨S1x128x2x2816, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x3x2816, .f32⟩
  | .hbm, ⟨9, _⟩ => ⟨S1x2816, .f32⟩
  | .hbm, ⟨10, _⟩ => ⟨S1x2816x1024, .f32⟩
  | .hbm, ⟨11, _⟩ => ⟨S1024, .f32⟩
  | .hbm, ⟨12, _⟩ => ⟨S128x4x1024, .f32⟩
  | .hbm, ⟨13, _⟩ => ⟨S1024x1024, .f32⟩
  | .hbm, ⟨14, _⟩ => ⟨S128x4x1024, .f32⟩
  | .hbm, ⟨15, _⟩ => ⟨S128x4x1024, .f32⟩
  | .hbm, ⟨16, _⟩ => ⟨S1024, .f32⟩
  | .hbm, ⟨17, _⟩ => ⟨S128x4x1024, .f32⟩
  | .hbm, ⟨18, _⟩ => ⟨S_, .f32⟩
  | .hbm, ⟨19, _⟩ => ⟨S128x4, .f32⟩
  | .hbm, ⟨20, _⟩ => ⟨S128x4x1, .f32⟩
  | .hbm, ⟨21, _⟩ => ⟨S_, .f32⟩
  | .hbm, ⟨22, _⟩ => ⟨S128x4x1, .f32⟩
  | .hbm, ⟨23, _⟩ => ⟨S128x4x1, .f32⟩
  | .hbm, ⟨24, _⟩ => ⟨S_, .f32⟩
  | .hbm, ⟨25, _⟩ => ⟨S128x4x1, .f32⟩
  | .hbm, ⟨26, _⟩ => ⟨S128x4x1, .f32⟩
  | .hbm, ⟨27, _⟩ => ⟨S128x4x1, .f32⟩
  | .hbm, ⟨28, _⟩ => ⟨S128x4x1024, .f32⟩
  | .hbm, ⟨29, _⟩ => ⟨S128x4x1024, .f32⟩
  | .hbm, ⟨30, _⟩ => ⟨S1x1x1024, .f32⟩
  | .hbm, ⟨31, _⟩ => ⟨S128x4x1024, .f32⟩
  | .hbm, ⟨32, _⟩ => ⟨S128x4x1024, .f32⟩
  | .hbm, ⟨33, _⟩ => ⟨S1024x2816, .f32⟩
  | .hbm, ⟨34, _⟩ => ⟨S128x4x2816, .f32⟩
  | .hbm, ⟨35, _⟩ => ⟨S128x2x2816, .f32⟩
  | .hbm, ⟨36, _⟩ => ⟨S128x6x2816, .f32⟩
  | .hbm, ⟨37, _⟩ => ⟨S2816, .f32⟩
  | .hbm, ⟨38, _⟩ => ⟨S128x4x2816, .f32⟩
  | .hbm, ⟨39, _⟩ => ⟨S1x1x2816, .f32⟩
  | .hbm, ⟨40, _⟩ => ⟨S2816, .f32⟩
  | .hbm, ⟨41, _⟩ => ⟨S1x1x2816, .f32⟩
  | .hbm, ⟨42, _⟩ => ⟨S128x4x2816, .f32⟩
  | .hbm, ⟨43, _⟩ => ⟨S128x4x2816, .f32⟩
  | .hbm, ⟨44, _⟩ => ⟨S1x1x2816, .f32⟩
  | .hbm, ⟨45, _⟩ => ⟨S128x4x2816, .f32⟩
  | .hbm, ⟨46, _⟩ => ⟨S128x4x2816, .f32⟩
  | .hbm, ⟨47, _⟩ => ⟨S128x4x2816, .f32⟩
  | .hbm, ⟨48, _⟩ => ⟨S1x1x2816, .f32⟩
  | .hbm, ⟨49, _⟩ => ⟨S2816, .f32⟩
  | .hbm, ⟨50, _⟩ => ⟨S1x1x2816, .f32⟩
  | .hbm, ⟨51, _⟩ => ⟨S128x4x2816, .f32⟩
  | .hbm, ⟨52, _⟩ => ⟨S128x4x2816, .f32⟩
  | .hbm, ⟨53, _⟩ => ⟨S128x4x2816, .f32⟩
  | .hbm, ⟨54, _⟩ => ⟨S128x4x2816, .f32⟩
  | .hbm, ⟨55, _⟩ => ⟨S1x1x2816, .f32⟩
  | .hbm, ⟨56, _⟩ => ⟨S2816, .f32⟩
  | .hbm, ⟨57, _⟩ => ⟨S1x1x2816, .f32⟩
  | .hbm, ⟨58, _⟩ => ⟨S128x4x2816, .f32⟩
  | .hbm, ⟨59, _⟩ => ⟨S128x4x2816, .f32⟩
  | .hbm, ⟨60, _⟩ => ⟨S128x4x2816, .f32⟩
  | .hbm, ⟨61, _⟩ => ⟨S128x4x2816, .f32⟩
  | .hbm, ⟨62, _⟩ => ⟨S128x4x2816, .f32⟩
  | .hbm, ⟨63, _⟩ => ⟨S_, .f32⟩
  | .hbm, ⟨64, _⟩ => ⟨S128x4x2816, .f32⟩
  | .hbm, ⟨65, _⟩ => ⟨S128x4x2816, .f32⟩
  | .hbm, ⟨66, _⟩ => ⟨S128x4x2816, .f32⟩
  | .hbm, ⟨67, _⟩ => ⟨S_, .f32⟩
  | .hbm, ⟨68, _⟩ => ⟨S128x4x2816, .f32⟩
  | .hbm, ⟨69, _⟩ => ⟨S128x4x2816, .f32⟩
  | .hbm, ⟨70, _⟩ => ⟨S128x4x2816, .f32⟩
  | .hbm, ⟨71, _⟩ => ⟨S_, .f32⟩
  | .hbm, ⟨72, _⟩ => ⟨S128x4x2816, .f32⟩
  | .hbm, ⟨73, _⟩ => ⟨S128x4x2816, .f32⟩
  | .hbm, ⟨74, _⟩ => ⟨S_, .f32⟩
  | .hbm, ⟨75, _⟩ => ⟨S128x4x2816, .f32⟩
  | .hbm, ⟨76, _⟩ => ⟨S128x4x2816, .f32⟩
  | .hbm, ⟨77, _⟩ => ⟨S128x4x2816, .f32⟩
  | .hbm, ⟨78, _⟩ => ⟨S1024x2816, .f32⟩
  | .hbm, ⟨79, _⟩ => ⟨S128x4x2816, .f32⟩
  | .hbm, ⟨80, _⟩ => ⟨S128x4x2816, .f32⟩
  | .hbm, ⟨81, _⟩ => ⟨S2816x1024, .f32⟩
  | .hbm, ⟨82, _⟩ => ⟨S128x4x1024, .f32⟩
  | .hbm, ⟨83, _⟩ => ⟨S128x4x1024, .f32⟩
  | .hbm, ⟨84, _⟩ => ⟨S128x4x1024, .f32⟩
  | .hbm, ⟨85, _⟩ => ⟨S_, .f32⟩
  | .hbm, ⟨86, _⟩ => ⟨S128x4, .f32⟩
  | .hbm, ⟨87, _⟩ => ⟨S128x4x1, .f32⟩
  | .hbm, ⟨88, _⟩ => ⟨S_, .f32⟩
  | .hbm, ⟨89, _⟩ => ⟨S128x4x1, .f32⟩
  | .hbm, ⟨90, _⟩ => ⟨S128x4x1, .f32⟩
  | .hbm, ⟨91, _⟩ => ⟨S_, .f32⟩
  | .hbm, ⟨92, _⟩ => ⟨S128x4x1, .f32⟩
  | .hbm, ⟨93, _⟩ => ⟨S128x4x1, .f32⟩
  | .hbm, ⟨94, _⟩ => ⟨S128x4x1, .f32⟩
  | .hbm, ⟨95, _⟩ => ⟨S128x4x1024, .f32⟩
  | .hbm, ⟨96, _⟩ => ⟨S128x4x1024, .f32⟩
  | .hbm, ⟨97, _⟩ => ⟨S1x1x1024, .f32⟩
  | .hbm, ⟨98, _⟩ => ⟨S128x4x1024, .f32⟩
  | .hbm, ⟨99, _⟩ => ⟨S128x4x1024, .f32⟩
  | .hbm, ⟨100, _⟩ => ⟨S4x128x1024, .f32⟩
  | .hbm, ⟨101, _⟩ => ⟨S512x1024, .f32⟩
  | .hbm, ⟨102, _⟩ => ⟨S128x2x2816, .f32⟩
  | .hbm, ⟨103, _⟩ => ⟨S2x128x2816, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_2 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_3 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_4 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_6 : Ref sig .tc := ⟨.hbm, 85, rfl⟩
abbrev main_v66 : Ref sig .tc := ⟨.hbm, 86, rfl⟩
abbrev main_v67 : Ref sig .tc := ⟨.hbm, 87, rfl⟩
abbrev main_cst_7 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Proof.HgrnIdealRun.lean ====
module

public import proofs.«01_k».proof.Proof.Gen.HgrnIdeal.Skeleton
public import Idealize.ShloMosaic.Lib.Pipeline.FrameBody
public import Idealize.ShloMosaic.Lib.Ring
public import Idealize.ShloMosaic.Lib.Tactic
public import Idealize.ShloMosaic.Lib.Pointwise
public import Idealize.ShloMosaic.Lib.VecWindow
public import Idealize.ShloMosaic.Lib.ValueLayout

@[expose] public section

set_option maxRecDepth 16384

noncomputable section

namespace Cert.HgrnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HgrnIdeal.Gen

variable {F : FTy → Type} [FloatOps F]

local notation "𝕄" => MT nD τ sig Unit (Elt F) ℕ (UR sig nD τ) ℕ

/-! One chunk of sixty-four rows: what it leaves in the state and in the rows of results. -/

/-- The chunk's q, scaled and squashed. -/
def qC (b0 : Vec F S1x64x128 .f32) : FVec F S64x128 .f32 := k0_pay12 (k0_pay5 b0) (k0_pay10 b0) k0_pay11

/-- The running sums of the logarithms of the gates. -/
def aC (v14 v16 : FVec F S1x128 .f32) (v25 : FVec F S64x64 .bf16) (b1 : Vec F S1x64x128 .f32) : FVec F S64x128 .f32 := k0_pay13 v25 (k0_pay9 v14 v16 b1)

/-- The state after the chunk. -/
def stC (v14 v16 : FVec F S1x128 .f32) (v25 : FVec F S64x64 .bf16) (b1 b2 : Vec F S1x64x128 .f32) (st : Vec F S128x128 .f32) : FVec F S128x128 .f32 :=
  k0_pay48 (k0_pay8 v16 b1) (aC v14 v16 v25 b1) st (k0_pay14 (k0_pay6 b2))

/-- The part of the attention across subchunks. -/
def offC (v14 v16 : FVec F S1x128 .f32) (v25 : FVec F S64x64 .bf16) (v125 : IVec S64x64 1) (b0 b1 : Vec F S1x64x128 .f32) : FVec F S64x64 .f32 :=
  k0_pay21 v125 (k0_pay8 v16 b1) (qC b0) (aC v14 v16 v25 b1) (k0_pay16 (F := F)) (k0_pay17 v25 (k0_pay5 b0) (k0_pay8 v16 b1) (k0_pay9 v14 v16 b1) (k0_pay10 b0) (k0_pay11 (F := F))) (k0_pay19 v25 (k0_pay5 b0) (k0_pay9 v14 v16 b1) (k0_pay10 b0) (k0_pay11 (F := F))) (k0_pay20 v25 (k0_pay9 v14 v16 b1)) (Scalar.ofBits .f32 0x00000000#32)

/-- The chunk's results before the norm. -/
def oF (v76 : IVec S64x64 1) (v142 : IVec S64x128 32) (k q a : FVec F S64x128 .f32) (vb : FVec F S64x128 .bf16) (o0 : FVec F S64x128 .f32) (off : FVec F S64x64 .f32) (e : Vec F S2048x64 .bf16) : FVec F S64x128 .f32 :=
  k0_pay47 v76 v142 q a vb o0 off (k0_pay22 a) (k0_pay23 k) (k0_pay24 v142 k q a) (k0_pay27 v142 q a (k0_pay25 a) (k0_pay26 k)) (k0_pay28 v142 q a (k0_pay22 a) (k0_pay23 k)) (k0_pay29 v142 q a (k0_pay22 a) (k0_pay23 k)) (k0_pay30 v142 q a (k0_pay22 a) (k0_pay23 k)) (k0_pay31 v142 q a (k0_pay22 a) (k0_pay23 k)) (k0_pay33 v142 (k0_pay32 q a (k0_pay22 a) (k0_pay23 k)) 6#32) (k0_pay34 v142 q a (k0_pay22 a) (k0_pay23 k)) (k0_pay35 v142 q a (k0_pay22 a) (k0_pay23 k)) (k0_pay38 v142 (k0_pay36 q (k0_pay23 k)) (k0_pay37 a (k0_pay22 a))) (k0_pay39 v142 q a (k0_pay22 a) (k0_pay23 k)) (k0_pay40 v142 q a (k0_pay22 a) (k0_pay23 k)) (k0_pay42 v142 q a (k0_pay23 k) (k0_pay41 (k0_pay22 a))) (k0_pay43 v142 q a (k0_pay22 a) (k0_pay23 k)) (k0_pay44 q a (k0_pay22 a) (k0_pay23 k)) (k0_pay45 v142) (k0_pay46 (F := F)) e

/-- Their mean squares. -/
def msF (v76 : IVec S64x64 1) (v142 : IVec S64x128 32) (k q a : FVec F S64x128 .f32) (vb : FVec F S64x128 .bf16) (o0 : FVec F S64x128 .f32) (off : FVec F S64x64 .f32) (e : Vec F S2048x64 .bf16) : FVec F S64x1 .f32 :=
  k0_pay49 v76 v142 q a vb o0 off (k0_pay22 a) (k0_pay23 k) (k0_pay24 v142 k q a) (k0_pay27 v142 q a (k0_pay25 a) (k0_pay26 k)) (k0_pay28 v142 q a (k0_pay22 a) (k0_pay23 k)) (k0_pay29 v142 q a (k0_pay22 a) (k0_pay23 k)) (k0_pay30 v142 q a (k0_pay22 a) (k0_pay23 k)) (k0_pay31 v142 q a (k0_pay22 a) (k0_pay23 k)) (k0_pay33 v142 (k0_pay32 q a (k0_pay22 a) (k0_pay23 k)) 6#32) (k0_pay34 v142 q a (k0_pay22 a) (k0_pay23 k)) (k0_pay35 v142 q a (k0_pay22 a) (k0_pay23 k)) (k0_pay38 v142 (k0_pay36 q (k0_pay23 k)) (k0_pay37 a (k0_pay22 a))) (k0_pay39 v142 q a (k0_pay22 a) (k0_pay23 k)) (k0_pay40 v142 q a (k0_pay22 a) (k0_pay23 k)) (k0_pay42 v142 q a (k0_pay23 k) (k0_pay41 (k0_pay22 a))) (k0_pay43 v142 q a (k0_pay22 a) (k0_pay23 k)) (k0_pay44 q a (k0_pay22 a) (k0_pay23 k)) (k0_pay45 v142) (k0_pay46 (F := F)) e

/-- The chunk's rows of results. -/
def oC (v14 : FVec F S1x128 .f32) (v16 : FVec F S1x128 .f32) (v18 : FVec F S1x128 .f32) (v25 : FVec F S64x64 .bf16) (v76 : IVec S64x64 1) (v125 : IVec S64x64 1) (v142 : IVec S64x128 32) (b0 b1 b2 b3 : Vec F S1x64x128 .f32) (e : Vec F S2048x64 .bf16) (st : Vec F S128x128 .f32) : FVec F S1x64x128 .f32 :=
  k0_pay2 v18 (k0_pay7 b3)
    (oF v76 v142 (k0_pay8 v16 b1) (qC b0) (aC v14 v16 v25 b1) (k0_pay14 (k0_pay6 b2)) (k0_pay15 v25 (k0_pay5 b0) (k0_pay9 v14 v16 b1) (k0_pay10 b0) (k0_pay11 (F := F)) st) (offC v14 v16 v25 v125 b0 b1) e)
    (msF v76 v142 (k0_pay8 v16 b1) (qC b0) (aC v14 v16 v25 b1) (k0_pay14 (k0_pay6 b2)) (k0_pay15 v25 (k0_pay5 b0) (k0_pay9 v14 v16 b1) (k0_pay10 b0) (k0_pay11 (F := F)) st) (offC v14 v16 v25 v125 b0 b1) e)

theorem inb_ch (n : Fin 8) : ∀ a : Fin 3, (![0, 64 * n.val, 0] : Fin 3 → ℕ) a + S1x64x128.size a ≤ S1x512x128.size a := by
  have := n.isLt
  intro a; fin_cases a
  · show 0 + 1 ≤ 1; omega
  · show 64 * n.val + 64 ≤ 512; omega
  · show 0 + 128 ≤ 128; omega

/-- Chunk `n` of a block of rows. -/
def ch (x : Vec F S1x512x128 .f32) (n : Fin 8) : Vec F S1x64x128 .f32 :=
  View.ld x (Rect.unit (s := S1x512x128) ![0, 64 * n.val, 0] S1x64x128.size (inb_ch n))

theorem trips_eq : k0_t1_loop.trips = 8 := by decide +kernel

theorem ld_ch (x : Vec F S1x512x128 .f32) (k : Fin k0_t1_loop.trips) (n : Fin 8) (h : n.val = k.val) :
    View.ld x (Rect.unit (s := S1x512x128) (k0_off1 k) S1x64x128.size (k0_off1_inb k)) = ch x n := by
  unfold ch
  funext y
  show x _ = x _
  refine congrArg x (funext fun a => Fin.ext ?_)
  refine congrArg (fun m => m + 1 * (y a).val) ((congrFun (k0_off1_eq k) a).trans ?_)
  exact congrArg (fun m : ℕ => (![0, 64 * m, 0] : Fin 3 → ℕ) a) h.symm

/-- The state before chunk `n`. -/
def stN (v14 v16 : FVec F S1x128 .f32) (v25 : FVec F S64x64 .bf16) (x1 x2 : Vec F S1x512x128 .f32) (st : Vec F S128x128 .f32) : ℕ → Vec F S128x128 .f32
  | 0 => st
  | n + 1 => if h : n < 8 then stC v14 v16 v25 (ch x1 ⟨n, h⟩) (ch x2 ⟨n, h⟩) (stN v14 v16 v25 x1 x2 st n) else stN v14 v16 v25 x1 x2 st n

theorem stN_succ (v14 v16 : FVec F S1x128 .f32) (v25 : FVec F S64x64 .bf16) (x1 x2 : Vec F S1x512x128 .f32) (st : Vec F S128x128 .f32) (n : Fin 8) :
    stN v14 v16 v25 x1 x2 st (n.val + 1) = stC v14 v16 v25 (ch x1 n) (ch x2 n) (stN v14 v16 v25 x1 x2 st n.val) := by
  rw [stN.eq_2, dif_pos n.isLt]

/-- The block of results. -/
def yF (v14 : FVec F S1x128 .f32) (v16 : FVec F S1x128 .f32) (v18 : FVec F S1x128 .f32) (v25 : FVec F S64x64 .bf16) (v76 : IVec S64x64 1) (v125 : IVec S64x64 1) (v142 : IVec S64x128 32) (x0 x1 x2 x3 : Vec F S1x512x128 .f32) (e : Vec F S2048x64 .bf16) (st : Vec F S128x128 .f32) : Vec F S1x512x128 .f32 := fun y =>
  have h : (y 1).val < 512 := (y 1).isLt
  let n : Fin 8 := ⟨(y 1).val / 64, by omega⟩
  oC v14 v16 v18 v25 v76 v125 v142 (ch x0 n) (ch x1 n) (ch x2 n) (ch x3 n) e (stN v14 v16 v25 x1 x2 st n.val) (ix3 (0 : Fin 1) (⟨(y 1).val % 64, Nat.mod_lt _ (by decide)⟩ : Fin 64) (⟨(y 2).val, (y 2).isLt⟩ : Fin 128))

theorem ld_st (st : Vec F S128x128 .f32) (h) : View.ld st (Rect.unit (s := S128x128) ![0, 0] S128x128.size h) = st := by
  funext y
  show st _ = st y
  refine congrArg st (funext fun a => Fin.ext ?_)
  fin_cases a <;> simp [Rect.emb]

theorem ld_e (e : Vec F S2048x64 .bf16) (h) : View.ld e (Rect.unit (s := S2048x64) ![0, 0] S2048x64.size h) = e := by
  funext y
  show e _ = e y
  refine congrArg e (funext fun a => Fin.ext ?_)
  fin_cases a <;> simp [Rect.emb]

set_option maxHeartbeats 4000000

/-- One trip, run. -/
theorem trip (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x1x128x128 .f32) (harg9 : arg9.IsWhole) (arg10 : Memref sig .tc .vmem S2048x64 .bf16) (harg10 : arg10.IsWhole) (arg11 : Memref sig .tc .vmem S1x512x128 .f32) (harg11 : arg11.IsWhole) (arg12 : Memref sig .tc .vmem S1x1x128x128 .f32) (harg12 : arg12.IsWhole) (arg13 : Memref sig .tc .vmem S128x128 .f32) (harg13 : arg13.IsWhole) (v14 : FVec F S1x128 .f32) (v16 : FVec F S1x128 .f32) (v18 : FVec F S1x128 .f32) (v25 : FVec F S64x64 .bf16) (v76 : IVec S64x64 1) (v125 : IVec S64x64 1) (v128 : BitVec 32) (v130 : IVec S64x128 32) (v131 : IVec S64x128 32) (k : Fin k0_t1_loop.trips)
    (x0 x1 x2 x3 : Vec F S1x512x128 .f32) (x7 : Vec F S2048x64 .bf16) (d : Vec F S1x512x128 .f32) (st : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare x7 ∗ owns (c : Thread nD τ) arg11 fullShare d ∗ owns (c : Thread nD τ) arg13 fullShare st
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare x7
          ∗ (∃ d', owns (c : Thread nD τ) arg11 fullShare d' ∗ ⌜(∀ x, d' ((Rect.unit (s := S1x512x128) (k0_off1 k) S1x64x128.size (k0_off1_inb k)).emb x) = oC v14 v16 v18 v25 v76 v125 (k0_pay1 v128 v130 v131) (View.ld x0 (Rect.unit (s := S1x512x128) (k0_off1 k) S1x64x128.size (k0_off1_inb k))) (View.ld x1 (Rect.unit (s := S1x512x128) (k0_off1 k) S1x64x128.size (k0_off1_inb k))) (View.ld x2 (Rect.unit (s := S1x512x128) (k0_off1 k) S1x64x128.size (k0_off1_inb k))) (View.ld x3 (Rect.unit (s := S1x512x128) (k0_off1 k) S1x64x128.size (k0_off1_inb k))) x7 st x)
              ∧ ∀ y, (y 1).val < 64 * k.val → d' y = d y⌝)
          ∗ owns (c : Thread nD τ) arg13 fullShare (stC v14 v16 v25 (View.ld x1 (Rect.unit (s := S1x512x128) (k0_off1 k) S1x64x128.size (k0_off1_inb k))) (View.ld x2 (Rect.unit (s := S1x512x128) (k0_off1 k) S1x64x128.size (k0_off1_inb k))) st)) -∗ K ⟨⟩))
      ⊢ wp frame (wpE (defs₀ (F := F)) Variants.none c none) E (k0_t1_body i arg3 harg3 arg4 harg4 arg5 harg5 arg6 harg6 arg7 harg7 arg8 harg8 arg9 harg9 arg10 harg10 arg11 harg11 arg12 harg12 arg13 harg13 v14 v16 v18 v25 v76 v125 v128 v130 v131 k PUnit.unit) K := by
  have hk : k.val < 8 := Nat.lt_of_lt_of_le k.isLt k0_t1_abs.2.1
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f3, %hf3, H3⟩, ⟨%f4, %hf4, H4⟩, ⟨%f5, %hf5, H5⟩, ⟨%f6, %hf6, H6⟩, ⟨%f10, %hf10, H10⟩, ⟨%f11, %hf11, H11⟩, ⟨%f13, %hf13, H13⟩, Hk⟩
  obtain rfl := harg3.eq_unread hf3; obtain rfl := harg4.eq_unread hf4; obtain rfl := harg5.eq_unread hf5; obtain rfl := harg6.eq_unread hf6; obtain rfl := harg10.eq_unread hf10; obtain rfl := harg11.eq_unread hf11; obtain rfl := harg13.eq_unread hf13
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H10]
  · iexists _; isplitr; · ipureintro; exact harg10.read_unread _
    iexact H10
  isplitl [H11]
  · iexists _
    isplitl [H11]
    · iexists _; isplitr
      swap; · iexact H11
      ipureintro; rfl
    ipureintro
    sl_unfold_words
    simp only [View.readAt_eq_ld, harg3.read_unread, harg4.read_unread, harg5.read_unread, harg6.read_unread, harg10.read_unread, harg13.read_unread]
    constructor
    · intro x
      refine (View.read_writes_cons_emb _ _ _ _ _ _).trans ?_
      exact congrArg₂ (fun e s => oC v14 v16 v18 v25 v76 v125 (k0_pay1 v128 v130 v131) _ _ _ _ e s x) (ld_e x7 _) (ld_st st _)
    · intro y hy
      refine (View.read_writes_cons_miss_of_axis _ _ _ _ y 1 (64 * k.val) 64 ?_ rfl rfl (Or.inl hy)).trans ?_
      · show k0_off1 k 1 = _
        rw [k0_off1_eq]; rfl
      · exact congrFun (harg11.read_unread d) y
  · iexists _; isplitr
    swap; · iexact H13
    ipureintro
    sl_unfold_words
    simp only [View.readAt_eq_ld, harg3.read_unread, harg4.read_unread, harg5.read_unread, harg6.read_unread, harg10.read_unread, harg13.read_unread]
    refine (View.read_writes_full _ _ _ _ _).trans ?_
    exact congrArg (fun s => stC v14 v16 v25 _ _ s) (ld_st st _)

/-- The emb of a chunk's rectangle, told by its coordinates. -/
theorem chunk_of (k : Fin k0_t1_loop.trips) (y : S1x512x128.Idx) (h0 : 64 * k.val ≤ (y 1).val) (h1 : (y 1).val < 64 * k.val + 64) :
    (Rect.unit (s := S1x512x128) (k0_off1 k) S1x64x128.size (k0_off1_inb k)).emb (ix3 (0 : Fin 1) (⟨(y 1).val % 64, Nat.mod_lt _ (by decide)⟩ : Fin 64) (⟨(y 2).val, (y 2).isLt⟩ : Fin 128)) = y := by
  refine funext fun a => Fin.ext ?_
  refine (congrArg (fun n => n + 1 * _) (congrFun (k0_off1_eq k) a)).trans ?_
  fin_cases a
  · have : (y 0).val < 1 := (y 0).isLt
    show 0 + 1 * 0 = (y 0).val
    omega
  · show 64 * k.val + 1 * ((y 1).val % 64) = (y 1).val
    omega
  · show 0 + 1 * (y 2).val = (y 2).val
    omega

/-- The eight trips, run. -/
theorem loopRun (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x1x128x128 .f32) (harg9 : arg9.IsWhole) (arg10 : Memref sig .tc .vmem S2048x64 .bf16) (harg10 : arg10.IsWhole) (arg11 : Memref sig .tc .vmem S1x512x128 .f32) (harg11 : arg11.IsWhole) (arg12 : Memref sig .tc .vmem S1x1x128x128 .f32) (harg12 : arg12.IsWhole) (arg13 : Memref sig .tc .vmem S128x128 .f32) (harg13 : arg13.IsWhole) (v14 : FVec F S1x128 .f32) (v16 : FVec F S1x128 .f32) (v18 : FVec F S1x128 .f32) (v25 : FVec F S64x64 .bf16) (v76 : IVec S64x64 1) (v125 : IVec S64x64 1) (v128 : BitVec 32) (v130 : IVec S64x128 32) (v131 : IVec S64x128 32)
    (x0 x1 x2 x3 : Vec F S1x512x128 .f32) (x7 : Vec F S2048x64 .bf16) (d : Vec F S1x512x128 .f32) (st : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare x7 ∗ owns (c : Thread nD τ) arg11 fullShare d ∗ owns (c : Thread nD τ) arg13 fullShare st
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare x7 ∗ owns (c : Thread nD τ) arg11 fullShare (yF v14 v16 v18 v25 v76 v125 (k0_pay1 v128 v130 v131) x0 x1 x2 x3 x7 st) ∗ owns (c : Thread nD τ) arg13 fullShare (stN v14 v16 v25 x1 x2 st 8)) -∗ K ⟨⟩))
      ⊢ wp frame (wpE (defs₀ (F := F)) Variants.none c none) E (Scf.Loop.for k0_t1_loop k0_t1_ok ⟨⟩ (k0_t1_body i arg3 harg3 arg4 harg4 arg5 harg5 arg6 harg6 arg7 harg7 arg8 harg8 arg9 harg9 arg10 harg10 arg11 harg11 arg12 harg12 arg13 harg13 v14 v16 v18 v25 v76 v125 v128 v130 v131)) K := by
  have hb : ∀ (k : Fin k0_t1_loop.trips) (acc : PUnit), (fun (n : ℕ) (_ : PUnit) => (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare x7 ∗ (∃ d, owns (c : Thread nD τ) arg11 fullShare d ∗ ⌜∀ y : S1x512x128.Idx, (y 1).val < 64 * n → d y = yF v14 v16 v18 v25 v76 v125 (k0_pay1 v128 v130 v131) x0 x1 x2 x3 x7 st y⌝) ∗ owns (c : Thread nD τ) arg13 fullShare (stN v14 v16 v25 x1 x2 st n)) : sProp 𝕄)) k.val acc ⊢ wp Idealize.ShloMosaic.frame (wpE (defs₀ (F := F)) Variants.none c none) E (k0_t1_body i arg3 harg3 arg4 harg4 arg5 harg5 arg6 harg6 arg7 harg7 arg8 harg8 arg9 harg9 arg10 harg10 arg11 harg11 arg12 harg12 arg13 harg13 v14 v16 v18 v25 v76 v125 v128 v130 v131 k acc) ((fun (n : ℕ) (_ : PUnit) => (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare x7 ∗ (∃ d, owns (c : Thread nD τ) arg11 fullShare d ∗ ⌜∀ y : S1x512x128.Idx, (y 1).val < 64 * n → d y = yF v14 v16 v18 v25 v76 v125 (k0_pay1 v128 v130 v131) x0 x1 x2 x3 x7 st y⌝) ∗ owns (c : Thread nD τ) arg13 fullShare (stN v14 v16 v25 x1 x2 st n)) : sProp 𝕄)) (k.val + 1)) := by
    intro k acc
    dsimp only
    have hk : k.val < 8 := Nat.lt_of_lt_of_le k.isLt k0_t1_abs.2.1
    iintro ⟨H3, H4, H5, H6, H10, ⟨%d', H11, %hd⟩, H13⟩
    iapply trip c i arg3 harg3 arg4 harg4 arg5 harg5 arg6 harg6 arg7 harg7 arg8 harg8 arg9 harg9 arg10 harg10 arg11 harg11 arg12 harg12 arg13 harg13 v14 v16 v18 v25 v76 v125 v128 v130 v131 k x0 x1 x2 x3 x7 d' (stN v14 v16 v25 x1 x2 st k.val) E
    isplitl [H3]; · iexact H3
    isplitl [H4]; · iexact H4
    isplitl [H5]; · iexact H5
    isplitl [H6]; · iexact H6
    isplitl [H10]; · iexact H10
    isplitl [H11]; · iexact H11
    isplitl [H13]; · iexact H13
    simp only [ld_ch _ k ⟨k.val, hk⟩ rfl]
    iintro ⟨H3, H4, H5, H6, H10, ⟨%d2, H11, %hd2⟩, H13⟩
    isplitl [H3]; · iexact H3
    isplitl [H4]; · iexact H4
    isplitl [H5]; · iexact H5
    isplitl [H6]; · iexact H6
    isplitl [H10]; · iexact H10
    isplitl [H11]
    · iexists _
      isplitl [H11]; · iexact H11
      ipureintro
      intro y hy
      by_cases hlt : (y 1).val < 64 * k.val
      · exact (hd2.2 y hlt).trans (hd y hlt)
      · refine Eq.trans (congrArg d2 (chunk_of k y (by omega) (by omega)).symm) ((hd2.1 _).trans ?_)
        have hn : (y 1).val / 64 = k.val := by omega
        unfold yF
        simp only [hn]
    · rw [show k.val + 1 = (⟨k.val, hk⟩ : Fin 8).val + 1 from rfl, stN_succ]
      iexact H13
  refine BIBase.Entails.trans ?_ (Scf.wp_for Idealize.ShloMosaic.frame (wpE (defs₀ (F := F)) Variants.none c none) E k0_t1_loop.lb k0_t1_loop.ub k0_t1_loop.st k0_t1_ok PUnit.unit (k0_t1_body i arg3 harg3 arg4 harg4 arg5 harg5 arg6 harg6 arg7 harg7 arg8 harg8 arg9 harg9 arg10 harg10 arg11 harg11 arg12 harg12 arg13 harg13 v14 v16 v18 v25 v76 v125 v128 v130 v131) (fun (n : ℕ) (_ : PUnit) => (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare x7 ∗ (∃ d, owns (c : Thread nD τ) arg11 fullShare d ∗ ⌜∀ y : S1x512x128.Idx, (y 1).val < 64 * n → d y = yF v14 v16 v18 v25 v76 v125 (k0_pay1 v128 v130 v131) x0 x1 x2 x3 x7 st y⌝) ∗ owns (c : Thread nD τ) arg13 fullShare (stN v14 v16 v25 x1 x2 st n)) : sProp 𝕄)) hb (Q := K))
  · iintro ⟨H3, H4, H5, H6, H10, H11, H13, Hk⟩
    isplitl [H3 H4 H5 H6 H10 H11 H13]
    · isplitl [H3]; · iexact H3
      isplitl [H4]; · iexact H4
      isplitl [H5]; · iexact H5
      isplitl [H6]; · iexact H6
      isplitl [H10]; · iexact H10
      isplitl [H11]
      · iexists _
        isplitl [H11]; · iexact H11
        ipureintro
        intro y hy
        exact absurd hy (by omega)
      iexact H13
    · iintro %_ ⟨H3, H4, H5, H6, H10, ⟨%d', H11, %hd⟩, H13⟩
      iapply Hk
      have e8 : Scf.trips k0_t1_loop.lb k0_t1_loop.ub k0_t1_loop.st = 8 := trips_eq
      rw [e8] at hd ⊢
      obtain rfl : d' = _ := funext fun y => hd y (by have : (y 1).val < 512 := (y 1).isLt; omega)
      isplitl [H3]; · iexact H3
      isplitl [H4]; · iexact H4
      isplitl [H5]; · iexact H5
      isplitl [H6]; · iexact H6
      isplitl [H10]; · iexact H10
      isplitl [H11]; · iexact H11
      iexact H13

/-- The diagonal blocks' mask, -/
def m76 : IVec S64x64 1 :=
  k0_pay57 (iota .tc S64x64 32 [0] iota_S64x64_d0_w32) (iota .tc S64x64 32 [1] iota_S64x64_d1_w32) 16#32 k0_pay55 k0_pay56 (Scalar.extui (Scalar.cmpi .sgt 16#32 0#32)) (Scalar.extui (Scalar.cmpi .slt 16#32 0#32))

/-- the mask of what lies below them, -/
def m125 : IVec S64x64 1 :=
  k0_pay60 (iota .tc S64x64 32 [0] iota_S64x64_d0_w32) (iota .tc S64x64 32 [1] iota_S64x64_d1_w32) 16#32 (k0_pay58 (iota .tc S64x64 32 [1] iota_S64x64_d1_w32)) (k0_pay59 (iota .tc S64x64 32 [1] iota_S64x64_d1_w32)) 0#32

/-- and a row's place in its block. -/
def m142 : IVec S64x128 32 := k0_pay1 (Scalar.select (Scalar.cmpi .eq 16#32 0#32) 1#32 16#32) k0_pay61 k0_pay62

theorem ld_lb (x : Vec F S2x128 .f32) (h) : View.ld x (Rect.unit (s := S2x128) ![0, 0] S2x128.size h) = x := by
  funext y
  show x _ = x y
  refine congrArg x (funext fun a => Fin.ext ?_)
  fin_cases a <;> simp [Rect.emb]

theorem ld_nw (x : Vec F S1x128 .f32) (h) : View.ld x (Rect.unit (s := S1x128) ![0, 0] S1x128.size h) = x := by
  funext y
  show x _ = x y
  refine congrArg x (funext fun a => Fin.ext ?_)
  fin_cases a <;> simp [Rect.emb]

theorem ld_s0 (x : Vec F S1x1x128x128 .f32) (h) : View.ld x (Rect.unit (s := S1x1x128x128) ![0, 0, 0, 0] S1x1x128x128.size h) = x := by
  funext y
  show x _ = x y
  refine congrArg x (funext fun a => Fin.ext ?_)
  fin_cases a <;> simp [Rect.emb]

/-- The block of results at the kernel's own masks. -/
def yK (x0 x1 x2 x3 : Vec F S1x512x128 .f32) (x4 : Vec F S2x128 .f32) (x5 : Vec F S1x128 .f32) (x7 : Vec F S2048x64 .bf16) (st : Vec F S128x128 .f32) : Vec F S1x512x128 .f32 :=
  yF (k0_pay51 x4) (k0_pay52 x4) (k0_pay53 x5) (k0_pay54 (F := F)) m76 m125 m142 x0 x1 x2 x3 x7 st

/-- The state the block leaves. -/
def stK (x1 x2 : Vec F S1x512x128 .f32) (x4 : Vec F S2x128 .f32) (st : Vec F S128x128 .f32) : Vec F S128x128 .f32 :=
  stN (k0_pay51 x4) (k0_pay52 x4) (k0_pay54 (F := F)) x1 x2 st 8

set_option maxHeartbeats 4000000

/-- One grid point, run. -/
theorem runA (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x1x128x128 .f32) (harg9 : arg9.IsWhole) (arg10 : Memref sig .tc .vmem S2048x64 .bf16) (harg10 : arg10.IsWhole) (arg11 : Memref sig .tc .vmem S1x512x128 .f32) (harg11 : arg11.IsWhole) (arg12 : Memref sig .tc .vmem S1x1x128x128 .f32) (harg12 : arg12.IsWhole) (arg13 : Memref sig .tc .vmem S128x128 .f32) (harg13 : arg13.IsWhole)
    (hc0 : (Scalar.cmpi .ne (Scalar.extui (Scalar.cmpi .eq (BitVec.ofNat 32 (i 2).val) 0#32)) 0#32) = 1#1) (hc1 : ¬ k0_cond2 i = 1#1)
    (x0 x1 x2 x3 : Vec F S1x512x128 .f32) (x4 : Vec F S2x128 .f32) (x5 : Vec F S1x128 .f32) (x6 : Vec F S1x1x128x128 .f32) (x7 : Vec F S2048x64 .bf16) (d12 : Vec F S1x1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare d12 ∗ (∃ d, owns (c : Thread nD τ) arg13 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (yK x0 x1 x2 x3 x4 x5 x7 (k0_pay50 x6)) ∗ owns (c : Thread nD τ) arg12 fullShare d12 ∗ owns (c : Thread nD τ) arg13 fullShare (stK x1 x2 x4 (k0_pay50 x6))) -∗ K ⟨⟩))
      ⊢ wp frame (wpE (defs₀ (F := F)) Variants.none c none) E (cc0_hgrn2 i arg3 harg3 arg4 harg4 arg5 harg5 arg6 harg6 arg7 harg7 arg8 harg8 arg9 harg9 arg10 harg10 arg11 harg11 arg12 harg12 arg13 harg13) K := by
  simp only [cc0_hgrn2_eq_skeleton]; unfold cc0_hgrn2_skel
  simp only [k0_part10_eq_skeleton, k0_part11_eq_skeleton, k0_part12_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, H12, ⟨%ds, %f13, -, H13⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact hc0 | sl_exact hc1)
  rw [wp_bind]
  have hL := fun (v14 v16 v18 : FVec F S1x128 .f32) (v25 : FVec F S64x64 .bf16) (v76 v125 : IVec S64x64 1) (v128 : BitVec 32) (v130 v131 : IVec S64x128 32) (d : Vec F S1x512x128 .f32) => loopRun c i arg3 harg3 arg4 harg4 arg5 harg5 arg6 harg6 arg7 harg7 arg8 harg8 arg9 harg9 arg10 harg10 arg11 harg11 arg12 harg12 arg13 harg13 v14 v16 v18 v25 v76 v125 v128 v130 v131 x0 x1 x2 x3 x7 d (k0_pay50 x6) E
  unfold owns at hL
  iapply hL
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H10]
  · iexists _; isplitr; · ipureintro; exact harg10.read_unread _
    iexact H10
  isplitl [H11]
  · iexists _; isplitr
    swap; · iexact H11
    ipureintro; rfl
  isplitl [H13]
  · iexists _; isplitr
    swap; · iexact H13
    ipureintro
    sl_unfold_words
    simp only [View.readAt_eq_ld, harg9.read_unread]
    refine (View.read_writes_full _ _ _ _ _).trans ?_
    exact congrArg k0_pay50 (ld_s0 x6 _)
  iintro ⟨H3, H4, H5, H6, H10, H11, ⟨%f13', %hf13', H13⟩⟩
  obtain rfl := harg13.eq_unread hf13'
  sl_exec (disch := first | sl_exact hc0 | sl_exact hc1)
  sl_step
  iapply Hk
  isplitl [H3]; · iexact H3
  isplitl [H4]; · iexact H4
  isplitl [H5]; · iexact H5
  isplitl [H6]; · iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]; · iexact H10
  isplitl [H11]
  · icases H11 with ⟨%f, %hf, H11⟩
    iexists _; isplitr
    swap; · iexact H11
    ipureintro
    refine hf.trans ?_
    sl_unfold_words
    simp only [View.readAt_eq_ld, harg7.read_unread, harg8.read_unread]
    unfold yK
    refine congrArg₂ (fun a b => yF (k0_pay51 a) (k0_pay52 a) (k0_pay53 b) (k0_pay54 (F := F)) m76 m125 m142 x0 x1 x2 x3 x7 _) (ld_lb x4 _) (ld_nw x5 _)
  isplitl [H12]; · iexact H12
  · iexists _; isplitr
    swap; · iexact H13
    ipureintro
    refine (harg13.read_unread _).trans ?_
    sl_unfold_words
    simp only [View.readAt_eq_ld, harg7.read_unread]
    exact congrArg (fun a => stN (k0_pay51 a) (k0_pay52 a) (k0_pay54 (F := F)) x1 x2 (k0_pay50 x6) 8) (ld_lb x4 _)

/-- One grid point, run. -/
theorem runB (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x1x128x128 .f32) (harg9 : arg9.IsWhole) (arg10 : Memref sig .tc .vmem S2048x64 .bf16) (harg10 : arg10.IsWhole) (arg11 : Memref sig .tc .vmem S1x512x128 .f32) (harg11 : arg11.IsWhole) (arg12 : Memref sig .tc .vmem S1x1x128x128 .f32) (harg12 : arg12.IsWhole) (arg13 : Memref sig .tc .vmem S128x128 .f32) (harg13 : arg13.IsWhole)
    (hc0 : ¬ (Scalar.cmpi .ne (Scalar.extui (Scalar.cmpi .eq (BitVec.ofNat 32 (i 2).val) 0#32)) 0#32) = 1#1) (hc1 : ¬ k0_cond2 i = 1#1)
    (x0 x1 x2 x3 : Vec F S1x512x128 .f32) (x4 : Vec F S2x128 .f32) (x5 : Vec F S1x128 .f32) (x6 : Vec F S1x1x128x128 .f32) (x7 : Vec F S2048x64 .bf16) (st : Vec F S128x128 .f32) (d12 : Vec F S1x1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare d12 ∗ owns (c : Thread nD τ) arg13 fullShare st
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (yK x0 x1 x2 x3 x4 x5 x7 st) ∗ owns (c : Thread nD τ) arg12 fullShare d12 ∗ owns (c : Thread nD τ) arg13 fullShare (stK x1 x2 x4 st)) -∗ K ⟨⟩))
      ⊢ wp frame (wpE (defs₀ (F := F)) Variants.none c none) E (cc0_hgrn2 i arg3 harg3 arg4 harg4 arg5 harg5 arg6 harg6 arg7 harg7 arg8 harg8 arg9 harg9 arg10 harg10 arg11 harg11 arg12 harg12 arg13 harg13) K := by
  simp only [cc0_hgrn2_eq_skeleton]; unfold cc0_hgrn2_skel
  simp only [k0_part10_eq_skeleton, k0_part11_eq_skeleton, k0_part12_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, H12, ⟨%f13, %hf13, H13⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13
  sl_exec (disch := first | sl_exact hc0 | sl_exact hc1)
  rw [wp_bind]
  have hL := fun (v14 v16 v18 : FVec F S1x128 .f32) (v25 : FVec F S64x64 .bf16) (v76 v125 : IVec S64x64 1) (v128 : BitVec 32) (v130 v131 : IVec S64x128 32) (d : Vec F S1x512x128 .f32) => loopRun c i arg3 harg3 arg4 harg4 arg5 harg5 arg6 harg6 arg7 harg7 arg8 harg8 arg9 harg9 arg10 harg10 arg11 harg11 arg12 harg12 arg13 harg13 v14 v16 v18 v25 v76 v125 v128 v130 v131 x0 x1 x2 x3 x7 d st E
  unfold owns at hL
  iapply hL
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H10]
  · iexists _; isplitr; · ipureintro; exact harg10.read_unread _
    iexact H10
  isplitl [H11]
  · iexists _; isplitr
    swap; · iexact H11
    ipureintro; rfl
  isplitl [H13]
  · iexists _; isplitr; · ipureintro; exact harg13.read_unread _
    iexact H13
  iintro ⟨H3, H4, H5, H6, H10, H11, ⟨%f13', %hf13', H13⟩⟩
  obtain rfl := harg13.eq_unread hf13'
  sl_exec (disch := first | sl_exact hc0 | sl_exact hc1)
  sl_step
  iapply Hk
  isplitl [H3]; · iexact H3
  isplitl [H4]; · iexact H4
  isplitl [H5]; · iexact H5
  isplitl [H6]; · iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]; · iexact H10
  isplitl [H11]
  · icases H11 with ⟨%f, %hf, H11⟩
    iexists _; isplitr
    swap; · iexact H11
    ipureintro
    refine hf.trans ?_
    sl_unfold_words
    simp only [View.readAt_eq_ld, harg7.read_unread, harg8.read_unread]
    unfold yK
    refine congrArg₂ (fun a b => yF (k0_pay51 a) (k0_pay52 a) (k0_pay53 b) (k0_pay54 (F := F)) m76 m125 m142 x0 x1 x2 x3 x7 _) (ld_lb x4 _) (ld_nw x5 _)
  isplitl [H12]; · iexact H12
  · iexists _; isplitr
    swap; · iexact H13
    ipureintro
    refine (harg13.read_unread _).trans ?_
    sl_unfold_words
    simp only [View.readAt_eq_ld, harg7.read_unread]
    exact congrArg (fun a => stN (k0_pay51 a) (k0_pay52 a) (k0_pay54 (F := F)) x1 x2 st 8) (ld_lb x4 _)

/-- One grid point, run. -/
theorem runC (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x1x128x128 .f32) (harg9 : arg9.IsWhole) (arg10 : Memref sig .tc .vmem S2048x64 .bf16) (harg10 : arg10.IsWhole) (arg11 : Memref sig .tc .vmem S1x512x128 .f32) (harg11 : arg11.IsWhole) (arg12 : Memref sig .tc .vmem S1x1x128x128 .f32) (harg12 : arg12.IsWhole) (arg13 : Memref sig .tc .vmem S128x128 .f32) (harg13 : arg13.IsWhole)
    (hc0 : ¬ (Scalar.cmpi .ne (Scalar.extui (Scalar.cmpi .eq (BitVec.ofNat 32 (i 2).val) 0#32)) 0#32) = 1#1) (hc1 : k0_cond2 i = 1#1)
    (x0 x1 x2 x3 : Vec F S1x512x128 .f32) (x4 : Vec F S2x128 .f32) (x5 : Vec F S1x128 .f32) (x6 : Vec F S1x1x128x128 .f32) (x7 : Vec F S2048x64 .bf16) (st : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare st
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (yK x0 x1 x2 x3 x4 x5 x7 st) ∗ owns (c : Thread nD τ) arg12 fullShare (k0_pay3 (stK x1 x2 x4 st)) ∗ owns (c : Thread nD τ) arg13 fullShare (stK x1 x2 x4 st)) -∗ K ⟨⟩))
      ⊢ wp frame (wpE (defs₀ (F := F)) Variants.none c none) E (cc0_hgrn2 i arg3 harg3 arg4 harg4 arg5 harg5 arg6 harg6 arg7 harg7 arg8 harg8 arg9 harg9 arg10 harg10 arg11 harg11 arg12 harg12 arg13 harg13) K := by
  simp only [cc0_hgrn2_eq_skeleton]; unfold cc0_hgrn2_skel
  simp only [k0_part10_eq_skeleton, k0_part11_eq_skeleton, k0_part12_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13
  sl_exec (disch := first | sl_exact hc0 | sl_exact hc1)
  rw [wp_bind]
  have hL := fun (v14 v16 v18 : FVec F S1x128 .f32) (v25 : FVec F S64x64 .bf16) (v76 v125 : IVec S64x64 1) (v128 : BitVec 32) (v130 v131 : IVec S64x128 32) (d : Vec F S1x512x128 .f32) => loopRun c i arg3 harg3 arg4 harg4 arg5 harg5 arg6 harg6 arg7 harg7 arg8 harg8 arg9 harg9 arg10 harg10 arg11 harg11 arg12 harg12 arg13 harg13 v14 v16 v18 v25 v76 v125 v128 v130 v131 x0 x1 x2 x3 x7 d st E
  unfold owns at hL
  iapply hL
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H10]
  · iexists _; isplitr; · ipureintro; exact harg10.read_unread _
    iexact H10
  isplitl [H11]
  · iexists _; isplitr
    swap; · iexact H11
    ipureintro; rfl
  isplitl [H13]
  · iexists _; isplitr; · ipureintro; exact harg13.read_unread _
    iexact H13
  iintro ⟨H3, H4, H5, H6, H10, H11, ⟨%f13', %hf13', H13⟩⟩
  obtain rfl := harg13.eq_unread hf13'
  sl_exec (disch := first | sl_exact hc0 | sl_exact hc1)
  sl_step
  iapply Hk
  isplitl [H3]; · iexact H3
  isplitl [H4]; · iexact H4
  isplitl [H5]; · iexact H5
  isplitl [H6]; · iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]; · iexact H10
  isplitl [H11]
  · icases H11 with ⟨%f, %hf, H11⟩
    iexists _; isplitr
    swap; · iexact H11
    ipureintro
    refine hf.trans ?_
    sl_unfold_words
    simp only [View.readAt_eq_ld, harg7.read_unread, harg8.read_unread]
    unfold yK
    refine congrArg₂ (fun a b => yF (k0_pay51 a) (k0_pay52 a) (k0_pay53 b) (k0_pay54 (F := F)) m76 m125 m142 x0 x1 x2 x3 x7 _) (ld_lb x4 _) (ld_nw x5 _)
  isplitl [H12]
  · iexists _; isplitr
    swap; · iexact H12
    ipureintro
    sl_unfold_words
    simp only [View.readAt_eq_ld, harg7.read_unread, harg13.read_unread]
    refine (View.read_writes_full _ _ _ _ _).trans ?_
    refine congrArg k0_pay3 ((ld_st _ _).trans ?_)
    exact congrArg (fun a => stN (k0_pay51 a) (k0_pay52 a) (k0_pay54 (F := F)) x1 x2 st 8) (ld_lb x4 _)
  · iexists _; isplitr
    swap; · iexact H13
    ipureintro
    refine (harg13.read_unread _).trans ?_
    sl_unfold_words
    simp only [View.readAt_eq_ld, harg7.read_unread]
    exact congrArg (fun a => stN (k0_pay51 a) (k0_pay52 a) (k0_pay54 (F := F)) x1 x2 st 8) (ld_lb x4 _)

end Cert.HgrnIdeal.Run

end
-- ==== Proof.HgrnIdealFrame.lean ====
module

public import proofs.«01_k».proof.Proof.Gen.HgrnIdeal.Frame.Runs
public import Idealize.ShloMosaic.Lib.Pointwise
public import Idealize.ShloMosaic.Lib.VecWindow
public import Idealize.ShloMosaic.Lib.Claim
public import Idealize.ShloMosaic.Lib.ValueLayout
public import proofs.«01_k».proof.Proof.HgrnIdealRun

@[expose] public section

set_option maxRecDepth 16384

noncomputable section

namespace Cert.HgrnIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HgrnIdeal.Gen Cert.HgrnIdeal.Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state after point `n`: at the first point of a sequence it starts from the transposed initial state. -/
def stAt (c : Dev nD) : (n : ℕ) → n < cfg0.N → Vec F S128x128 .f32
  | 0, h => stK (iblk m c 1 ⟨0, h⟩) (iblk m c 2 ⟨0, h⟩) (iblk m c 4 ⟨0, h⟩) (k0_pay50 (iblk m c 6 ⟨0, h⟩))
  | n + 1, h => stK (iblk m c 1 ⟨n + 1, h⟩) (iblk m c 2 ⟨n + 1, h⟩) (iblk m c 4 ⟨n + 1, h⟩)
      (if (n + 1) % 4 = 0 then k0_pay50 (iblk m c 6 ⟨n + 1, h⟩) else stAt c n (Nat.lt_of_succ_lt h))

/-- The state a point starts with. -/
def befAt (c : Dev nD) (t : Fin cfg0.N) : Vec F S128x128 .f32 :=
  if t.val % 4 = 0 then k0_pay50 (iblk m c 6 t) else stAt m c (t.val - 1) (lt_of_le_of_lt (Nat.sub_le _ _) t.isLt)

theorem stAt_eq (c : Dev nD) (t : Fin cfg0.N) :
    stAt m c t.val t.isLt = stK (iblk m c 1 t) (iblk m c 2 t) (iblk m c 4 t) (befAt m c t) := by
  obtain ⟨n, h⟩ := t
  cases n with
  | zero => unfold befAt; rw [if_pos (show (⟨0, h⟩ : Fin cfg0.N).val % 4 = 0 from rfl)]; rfl
  | succ n => rfl

/-- The block of results at point `t`. -/
def yAt (c : Dev nD) (t : Fin cfg0.N) : Vec F S1x512x128 .f32 :=
  yK (iblk m c 0 t) (iblk m c 1 t) (iblk m c 2 t) (iblk m c 3 t) (iblk m c 4 t) (iblk m c 5 t) (iblk m c 7 t) (befAt m c t)

/-- The final state's block, stored at the last point of a sequence. -/
def sAt (c : Dev nD) (t : Fin cfg0.N) : Vec F S1x1x128x128 .f32 := k0_pay3 (stAt m c t.val t.isLt)

/-- Between points: before the first nothing is known; after point `n` the scratch holds the state. -/
def PhiS (c : Dev nD) : (n : ℕ) → n ≤ cfg0.N → sProp 𝕄
  | 0, _ => Pipeline.ΦA spec0 c
  | n + 1, hn => iprop(owns (c : Thread nD τ) scM0_0 fullShare (stAt m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (stAt m c n hn) ∗ (∃ r, prngReg c r)) := rfl

theorem PhiS_pos (c : Dev nD) (n : ℕ) (h : n ≤ cfg0.N) (hz : n ≠ 0) :
    PhiS m c n h = iprop(owns (c : Thread nD τ) scM0_0 fullShare (stAt m c (n - 1) (by omega)) ∗ (∃ r, prngReg c r)) := by
  cases n with
  | zero => exact absurd rfl hz
  | succ n => rfl

/-- The proof data: arrays as the region finds them, inputs left in place, outputs at their blocks, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yAt m c t
    | ⟨9, _⟩ => sAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = yAt m c t := by dsimp only [dats]
theorem after9 (c : Dev nD) (t : Fin cfg0.N) : (dats m 0 c).after 9 t = sAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem leaves0 (c : Dev nD) (t : Fin cfg0.N) : (dats m 0 c).leavesExact 0 t = owns (c : Thread nD τ) (ms0_0 t) fullShare (iblk m c 0 t) := by
  unfold Dat.leavesExact; rw [liveAt0_0 t, after0]
theorem leaves1 (c : Dev nD) (t : Fin cfg0.N) : (dats m 0 c).leavesExact 1 t = owns (c : Thread nD τ) (ms0_1 t) fullShare (iblk m c 1 t) := by
  unfold Dat.leavesExact; rw [liveAt0_1 t, after1]
theorem leaves2 (c : Dev nD) (t : Fin cfg0.N) : (dats m 0 c).leavesExact 2 t = owns (c : Thread nD τ) (ms0_2 t) fullShare (iblk m c 2 t) := by
  unfold Dat.leavesExact; rw [liveAt0_2 t, after2]
theorem leaves3 (c : Dev nD) (t : Fin cfg0.N) : (dats m 0 c).leavesExact 3 t = owns (c : Thread nD τ) (ms0_3 t) fullShare (iblk m c 3 t) := by
  unfold Dat.leavesExact; rw [liveAt0_3 t, after3]
theorem leaves4 (c : Dev nD) (t : Fin cfg0.N) : (dats m 0 c).leavesExact 4 t = owns (c : Thread nD τ) (ms0_4 t) fullShare (iblk m c 4 t) := by
  unfold Dat.leavesExact; rw [liveAt0_4 t, after4]
theorem leaves5 (c : Dev nD) (t : Fin cfg0.N) : (dats m 0 c).leavesExact 5 t = owns (c : Thread nD τ) (ms0_5 t) fullShare (iblk m c 5 t) := by
  unfold Dat.leavesExact; rw [liveAt0_5 t, after5]
theorem leaves6 (c : Dev nD) (t : Fin cfg0.N) : (dats m 0 c).leavesExact 6 t = owns (c : Thread nD τ) (ms0_6 t) fullShare (iblk m c 6 t) := by
  unfold Dat.leavesExact; rw [liveAt0_6 t, after6]
theorem leaves7 (c : Dev nD) (t : Fin cfg0.N) : (dats m 0 c).leavesExact 7 t = owns (c : Thread nD τ) (ms0_7 t) fullShare (iblk m c 7 t) := by
  unfold Dat.leavesExact; rw [liveAt0_7 t, after7]
theorem leaves8 (c : Dev nD) (t : Fin cfg0.N) : (dats m 0 c).leavesExact 8 t = owns (c : Thread nD τ) (ms0_8 t) fullShare (yAt m c t) := by
  unfold Dat.leavesExact; rw [liveAt0_8 t, after8]
theorem leaves9 (c : Dev nD) (t : Fin cfg0.N) (h0 : ¬cond0_0 (grid0.coords t)) (h1 : cond0_1 (grid0.coords t)) :
    (dats m 0 c).leavesExact 9 t = owns (c : Thread nD τ) (ms0_9 t) fullShare (sAt m c t) := by
  unfold Dat.leavesExact; rw [liveAt0_9_C t h0 h1, after9]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body, at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8]
  rw [PhiS_castSucc]
  rw [stAt_eq]
  unfold yAt
  by_cases h0 : t.val % 4 = 0
  · have h1 : ¬ t.val % 4 = 3 := by omega
    rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
    rw [show befAt m c t = _ from if_pos h0]
    have hS : PhiS m c t.val (Nat.le_of_lt t.isLt) ⊢ iprop(iprop((∃ d, owns (c : Thread nD τ) scM0_0 fullShare d)) ∗ (∃ r, prngReg c r)) := by
      by_cases hz : t.val = 0
      · rw [PhiS_zero m c _ _ hz, PhiA0_eq]; try exact Idealize.SL.BI.Entails.refl _
      · rw [PhiS_pos m c _ _ hz]
        iintro ⟨HS, Hg⟩
        isplitl [HS]
        · iexists _; iexact HS
        iexact Hg
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HQ := hS $$ HP
    icases HQ with ⟨HS, Hg⟩
    iapply runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) ((dats m 0 c).before 9 t d9) Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS]; · iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h1 : t.val % 4 = 3
    · rw [leaves9 m c t (fun h => h0 ((hcond0_0 t).mp h)) ((hcond0_1 t).mpr h1)]
      unfold sAt
      rw [stAt_eq]
      rw [show befAt m c t = _ from if_neg h0]
      have hz : t.val ≠ 0 := fun h => h0 (by rw [h])
      rw [PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (stAt m c (t.val - 1) (lt_of_le_of_lt (Nat.sub_le _ _) t.isLt)) Set.univ
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, H8, H9, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [show befAt m c t = _ from if_neg h0]
      have hz : t.val ≠ 0 := fun h => h0 (by rw [h])
      rw [PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (stAt m c (t.val - 1) (lt_of_le_of_lt (Nat.sub_le _ _) t.isLt)) ((dats m 0 c).before 9 t d9) Set.univ
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS]; · iexact HS
      iintro ⟨H0, H1, H2, H3, H4, H5, H6, H7, H8, H9, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 512 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨HS, Hg⟩
  isplitl [HS]
  · iexists _; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.HgrnIdeal.Frm

end
-- ==== Proof.HgrnMask.lean ====
/- The recurrence kernel's masks, entry by entry. -/
module

public import proofs.«01_k».proof.Proof.HgrnIdealRun
public import Idealize.ShloMosaic.Lib.Pointwise

@[expose] public section

set_option maxRecDepth 16384

noncomputable section

open Idealize.ShloMosaic Idealize.ShloMosaic.TcCoe

namespace Cert.HgrnIdeal.Val

open Cert.HgrnIdeal Cert.HgrnIdeal.Gen Cert.HgrnIdeal.Run

/-- The lower triangle of the diagonal subchunks. -/
theorem m76_at : ∀ t s : Fin 64, m76 (ix2 t s) = if t.val / 16 = s.val / 16 ∧ s.val ≤ t.val then 1#1 else 0#1 := by decide +kernel
/-- What lies across subchunks. -/
theorem m125_at : ∀ t s : Fin 64, m125 (ix2 t s) = if s.val / 16 < t.val / 16 then 1#1 else 0#1 := by decide +kernel
/-- A row's place in its subchunk. -/
theorem m142_at : ∀ t : Fin 64, ∀ κ : Fin 128, m142 (ix2 t κ) = BitVec.ofNat 32 (t.val % 16) := by decide +kernel
/-- The lower triangle. -/
theorem lt_at : ∀ t s : Fin 64, (cmpi .sle (iota .tc S64x64 32 [1] iota_S64x64_d1_w32) (iota .tc S64x64 32 [0] iota_S64x64_d0_w32)) (ix2 t s) = if s.val ≤ t.val then 1#1 else 0#1 := by decide +kernel
/-- A place against a piece's number. -/
theorem ge_at : ∀ r j : Fin 16, IntOp.cmpi CmpIPredicate.sge (BitVec.ofNat 32 r.val) (BitVec.ofNat 32 j.val) = if j.val ≤ r.val then 1#1 else 0#1 := by decide +kernel

theorem sel_if (p : Prop) [Decidable p] (a b : EReal) : Scalar.select (if p then 1#1 else 0#1) a b = if p then a else b := by
  by_cases h : p
  · rw [if_pos h, if_pos h]; rfl
  · rw [if_neg h, if_neg h]; rfl

end Cert.HgrnIdeal.Val

end
-- ==== Proof.HgrnAlg.lean ====
/- The arithmetic of one chunk of the recurrence, over the extended reals: the running sums of logarithms that are at most
   nothing fall, so an exponential of a difference splits at any row between. -/
module

public import Idealize.ShloMosaic.Lib.Pointwise

@[expose] public section

noncomputable section

open Idealize.ShloMosaic

namespace Cert.HgrnAlg

/-- The running sum of `l` down the rows, column by column. -/
def cum (l : Fin 64 → Fin 128 → EReal) (t : Fin 64) (k : Fin 128) : EReal := ∑ s : Fin 64, if s.val ≤ t.val then l s k else 0

theorem cum_nonpos (l : Fin 64 → Fin 128 → EReal) (h : ∀ s k, l s k ≤ 0) (t : Fin 64) (k : Fin 128) : cum l t k ≤ 0 := by
  refine Finset.sum_nonpos fun s _ => ?_
  split
  · exact h s k
  · exact le_refl _

theorem cum_anti (l : Fin 64 → Fin 128 → EReal) (h : ∀ s k, l s k ≤ 0) (t s : Fin 64) (hs : s.val ≤ t.val) (k : Fin 128) :
    cum l t k ≤ cum l s k := by
  refine Finset.sum_le_sum fun r _ => ?_
  by_cases h1 : r.val ≤ s.val
  · rw [if_pos h1, if_pos (le_trans h1 hs)]
  · rw [if_neg h1]
    split
    · exact h r k
    · exact le_refl _

theorem exp_bot : Ideal.exp ⊥ = 0 := rfl
theorem exp_coe (r : ℝ) : Ideal.exp (r : EReal) = ((Real.exp r : ℝ) : EReal) := rfl

/-- An exponential of a difference splits at a value between. -/
theorem exp_split (a b c : EReal) (hab : a ≤ b) (hbc : b ≤ c) (hc : c ≤ 0) :
    Ideal.exp (a - b) * Ideal.exp (min (b - c) 0) = Ideal.exp (a - c) := by
  induction c using EReal.rec with
  | top => exact absurd hc (by simp)
  | bot =>
    obtain rfl : b = ⊥ := le_bot_iff.mp hbc
    obtain rfl : a = ⊥ := le_bot_iff.mp hab
    simp [exp_bot]
  | coe c =>
    induction b using EReal.rec with
    | top => exact absurd hbc (by simp)
    | bot =>
      obtain rfl : a = ⊥ := le_bot_iff.mp hab
      simp [exp_bot]
    | coe b =>
      induction a using EReal.rec with
      | top => exact absurd hab (by simp)
      | bot => simp [exp_bot]
      | coe a =>
        have h : b ≤ c := EReal.coe_le_coe_iff.mp hbc
        rw [← EReal.coe_sub, ← EReal.coe_sub, ← EReal.coe_sub, min_eq_left (by exact_mod_cast sub_nonpos.mpr h), exp_coe, exp_coe, exp_coe, ← EReal.coe_mul, ← Real.exp_add]
        congr 2
        ring

theorem sub_min (a c : EReal) (hac : a ≤ c) (hc : c ≤ 0) : min (a - c) 0 = a - c := by
  refine min_eq_left ?_
  induction c using EReal.rec with
  | top => exact absurd hc (by simp)
  | bot =>
    obtain rfl : a = ⊥ := le_bot_iff.mp hac
    simp
  | coe c =>
    induction a using EReal.rec with
    | top => exact absurd hac (by simp)
    | bot => simp
    | coe a =>
      rw [← EReal.coe_sub]
      exact_mod_cast sub_nonpos.mpr (EReal.coe_le_coe_iff.mp hac)

/-- A value at most nothing and what subtracting it twice leaves add up to it. -/
theorem parts (l : EReal) (h : l ≤ 0) : l + (l - l) + (l - l - (l - l)) = l := by
  induction l using EReal.rec with
  | top => exact absurd h (by simp)
  | bot => simp
  | coe l =>
    rw [← EReal.coe_sub, ← EReal.coe_sub, ← EReal.coe_add, ← EReal.coe_add]
    congr 1
    ring

theorem cum_parts (l : Fin 64 → Fin 128 → EReal) (h : ∀ s k, l s k ≤ 0) (t : Fin 64) (k : Fin 128) :
    (∑ s : Fin 64, (if s.val ≤ t.val then (1 : EReal) else 0) * l s k) + (∑ s : Fin 64, (if s.val ≤ t.val then (1 : EReal) else 0) * (l s k - l s k))
      + (∑ s : Fin 64, (if s.val ≤ t.val then (1 : EReal) else 0) * (l s k - l s k - (l s k - l s k))) = cum l t k := by
  rw [← Finset.sum_add_distrib, ← Finset.sum_add_distrib]
  refine Finset.sum_congr rfl fun s _ => ?_
  by_cases hs : s.val ≤ t.val
  · simp only [if_pos hs, one_mul]
    exact parts _ (h s k)
  · simp only [if_neg hs, zero_mul, add_zero]

/-- The attention of a row to a row, as the problem states it. -/
def att (q k a : Fin 64 → Fin 128 → EReal) (t s : Fin 64) : EReal :=
  ∑ κ : Fin 128, q t κ * k s κ * Ideal.exp (if s.val ≤ t.val then a t κ - a s κ else ⊥)

/-- The row before a subchunk. -/
abbrev bd (t : Fin 64) : Fin 64 := ⟨16 * (t.val / 16) - 1, by omega⟩

/-- The attention in two parts: across subchunks, split at the row before the subchunk, and inside one. -/
theorem att_parts (q k a : Fin 64 → Fin 128 → EReal) (h0 : ∀ t κ, a t κ ≤ 0) (ha : ∀ t s : Fin 64, s.val ≤ t.val → ∀ κ, a t κ ≤ a s κ) (t s : Fin 64) :
    (if s.val / 16 < t.val / 16 then ∑ κ : Fin 128, (q t κ * Ideal.exp (a t κ - a (bd t) κ)) * (k s κ * Ideal.exp (min (a (bd t) κ - a s κ) 0)) else 0)
      + (if t.val / 16 = s.val / 16 ∧ s.val ≤ t.val then ∑ κ : Fin 128, q t κ * k s κ * Ideal.exp (min (a t κ - a s κ) 0) else 0) = att q k a t s := by
  unfold att
  by_cases h1 : s.val / 16 < t.val / 16
  · rw [if_pos h1, if_neg (by omega), add_zero]
    refine Finset.sum_congr rfl fun κ _ => ?_
    rw [if_pos (by omega), ← exp_split (a t κ) (a (bd t) κ) (a s κ) (ha _ _ (by show 16 * (t.val / 16) - 1 ≤ t.val; omega) κ) (ha _ _ (by show s.val ≤ 16 * (t.val / 16) - 1; omega) κ) (h0 _ _)]
    exact mul_mul_mul_comm _ _ _ _
  · rw [if_neg h1, zero_add]
    by_cases h2 : t.val / 16 = s.val / 16 ∧ s.val ≤ t.val
    · rw [if_pos h2]
      refine Finset.sum_congr rfl fun κ _ => ?_
      rw [if_pos h2.2, sub_min _ _ (ha _ _ h2.2 κ) (h0 _ _)]
    · rw [if_neg h2]
      refine (Finset.sum_eq_zero fun κ _ => ?_).symm
      rw [if_neg (by omega), exp_bot, mul_zero]

/-- A row's results: the attention's sum over the rows and the state's part. -/
def outC (q k a v : Fin 64 → Fin 128 → EReal) (S : Fin 128 → Fin 128 → EReal) (t : Fin 64) (d : Fin 128) : EReal :=
  (∑ s : Fin 64, att q k a t s * v s d) + ∑ κ : Fin 128, (q t κ * Ideal.exp (a t κ)) * S κ d

/-- The state after a chunk. -/
def stS (k a v : Fin 64 → Fin 128 → EReal) (S : Fin 128 → Fin 128 → EReal) (κ d : Fin 128) : EReal :=
  Ideal.exp (a 63 κ) * S κ d + ∑ t : Fin 64, (k t κ * Ideal.exp (a 63 κ - a t κ)) * v t d

theorem top_one : ¬ (⊤ : EReal) ≤ 1 := fun h => EReal.coe_ne_top 1 (top_le_iff.mp h)

/-- A sigmoid is between nothing and one. -/
theorem sig_le (x : EReal) : 0 ≤ Ideal.div 1 (1 + Ideal.exp x) ∧ Ideal.div 1 (1 + Ideal.exp x) ≤ 1 := by
  have hn : ∀ r : ℝ, 0 < 1 + Real.exp r := fun r => by have := Real.exp_pos r; linarith
  induction x using EReal.rec with
  | bot => rw [exp_bot]; simp [Ideal.div]
  | top =>
    have : Ideal.exp ⊤ = ⊤ := rfl
    have h1 : (1 : EReal) + ⊤ = ⊤ := by rw [← EReal.coe_one]; exact EReal.coe_add_top 1
    rw [this, h1]; simp [Ideal.div]
  | coe r =>
    have e : Ideal.div 1 (1 + Ideal.exp (r : EReal)) = (((1 + Real.exp r)⁻¹ : ℝ) : EReal) := by
      rw [exp_coe, ← EReal.coe_one, ← EReal.coe_add]
      unfold Ideal.div
      rw [if_neg (by exact_mod_cast (hn r).ne'), ← EReal.coe_inv, ← EReal.coe_mul, one_mul]
    rw [e]
    refine ⟨by exact_mod_cast (inv_pos.mpr (hn r)).le, ?_⟩
    have := Real.exp_pos r
    exact_mod_cast inv_le_one_of_one_le₀ (by linarith)

theorem log_le (x : EReal) (h : x ≤ 1) : Ideal.log x ≤ 0 := by
  induction x using EReal.rec with
  | bot => exact bot_le
  | top => exact absurd h top_one
  | coe r =>
    show (if r ≤ 0 then (⊥ : EReal) else (Real.log r : EReal)) ≤ 0
    split
    · exact bot_le
    · rename_i h0
      exact_mod_cast Real.log_nonpos (by linarith) (by exact_mod_cast h)

/-- A mixture of a lower bound and one by a sigmoid is at most one. -/
theorem mix_le (b s : EReal) (hb : b ≤ 1) (h0 : 0 ≤ s) (h1 : s ≤ 1) : b + (1 - b) * s ≤ 1 := by
  induction s using EReal.rec with
  | bot => exact absurd h0 (by simp)
  | top => exact absurd h1 top_one
  | coe s =>
    have h0' : 0 ≤ s := by exact_mod_cast h0
    have h1' : s ≤ 1 := by exact_mod_cast h1
    induction b using EReal.rec with
    | top => exact absurd hb top_one
    | bot => simp
    | coe b =>
      have hb' : b ≤ 1 := by exact_mod_cast hb
      rw [← EReal.coe_one, ← EReal.coe_sub, ← EReal.coe_mul, ← EReal.coe_add]
      exact_mod_cast (by nlinarith : b + (1 - b) * s ≤ 1)

/-- A share of two exponentials is at most one. -/
theorem share_le (x y m : EReal) (hx : x ≤ m) (hy : y ≤ m) : Ideal.div (Ideal.exp (x - m)) (Ideal.exp (x - m) + Ideal.exp (y - m)) ≤ 1 := by
  have nn : ∀ z : EReal, 0 ≤ Ideal.exp z := fun z => by
    induction z using EReal.rec with
    | bot => exact le_refl _
    | top => exact le_top
    | coe r => rw [exp_coe]; exact_mod_cast (Real.exp_pos r).le
  have le1 : ∀ z : EReal, z ≤ m → Ideal.exp (z - m) ≤ 1 := fun z hz => by
    induction m using EReal.rec with
    | top => rw [EReal.sub_top]; simp [exp_bot]
    | bot => obtain rfl : z = ⊥ := le_bot_iff.mp hz; simp [exp_bot]
    | coe m =>
      induction z using EReal.rec with
      | top => exact absurd hz (by simp)
      | bot => simp [exp_bot]
      | coe z =>
        rw [← EReal.coe_sub, exp_coe]
        exact_mod_cast Real.exp_le_one_iff.mpr (sub_nonpos.mpr (EReal.coe_le_coe_iff.mp hz))
  have nx := nn (x - m)
  have ny := nn (y - m)
  have lx := le1 x hx
  have ly := le1 y hy
  generalize Ideal.exp (x - m) = p at *
  generalize Ideal.exp (y - m) = r at *
  induction p using EReal.rec with
  | bot => exact absurd nx (by simp)
  | top => exact absurd lx top_one
  | coe p =>
    induction r using EReal.rec with
    | bot => exact absurd ny (by simp)
    | top => exact absurd ly top_one
    | coe r =>
      have hp : 0 ≤ p := by exact_mod_cast nx
      have hr : 0 ≤ r := by exact_mod_cast ny
      rw [← EReal.coe_add]
      unfold Ideal.div
      by_cases h : p + r = 0
      · have : p = 0 := by linarith
        subst this
        simp [h]
      · rw [if_neg (by exact_mod_cast h), ← EReal.coe_inv, ← EReal.coe_mul, ← div_eq_mul_inv]
        exact_mod_cast div_le_one_of_le₀ (by linarith) (by linarith)

end Cert.HgrnAlg

end
-- ==== Proof.HgrnKer.lean ====
/- One chunk of the recurrence's kernel, entry by entry. -/
module

public import proofs.«01_k».proof.Proof.HgrnMask
public import proofs.«01_k».proof.Proof.HgrnAlg
public import Idealize.ShloMosaic.Lib.Pointwise

@[expose] public section

set_option maxRecDepth 16384

noncomputable section

open Idealize.ShloMosaic Idealize.ShloMosaic.TcCoe Cert.HgrnAlg

namespace Cert.HgrnIdeal.Val

open Cert.HgrnIdeal Cert.HgrnIdeal.Gen Cert.HgrnIdeal.Run

theorem p54_at (t s : Fin 64) : (k0_pay54 (F := Ideal) : S64x64.Idx → EReal) (ix2 t s) = if s.val ≤ t.val then (1 : EReal) else 0 := by
  refine Eq.trans ?_ (sel_if (s.val ≤ t.val) 1 0)
  rw [← lt_at t s]
  pointwise [k0_pay54]

/-- The running sums of `l`, at most nothing. -/
theorem p13_at (l : FVec Ideal S64x128 .f32) (hl : ∀ (t : Fin 64) (κ : Fin 128), (l : S64x128.Idx → EReal) (ix2 t κ) ≤ 0) (t : Fin 64) (κ : Fin 128) :
    (k0_pay13 (k0_pay54 (F := Ideal)) l : S64x128.Idx → EReal) (ix2 t κ) = cum (fun t κ => (l : S64x128.Idx → EReal) (ix2 t κ)) t κ := by
  pointwise [k0_pay13]
  simp only [p54_at]
  exact cum_parts (fun t κ => (l : S64x128.Idx → EReal) (ix2 t κ)) hl t κ

/-- The gates' logarithms. -/
theorem p9_at (v14 v16 : FVec Ideal S1x128 .f32) (x : Vec Ideal S1x64x128 .f32) (t : Fin 64) (κ : Fin 128) :
    (k0_pay9 v14 v16 x : S64x128.Idx → EReal) (ix2 t κ)
      = Ideal.log ((v14 : S1x128.Idx → EReal) (ix2 0 κ) + (v16 : S1x128.Idx → EReal) (ix2 0 κ) * Ideal.div 1 (1 + Ideal.exp (-((x : S1x64x128.Idx → EReal) (ix3 0 t κ))))) := by
  pointwise [k0_pay9, k0_pay4]
  simp only [zero_sub]

/-- The keys. -/
theorem p8_at (v16 : FVec Ideal S1x128 .f32) (x : Vec Ideal S1x64x128 .f32) (t : Fin 64) (κ : Fin 128) :
    (k0_pay8 v16 x : S64x128.Idx → EReal) (ix2 t κ)
      = (v16 : S1x128.Idx → EReal) (ix2 0 κ) * Ideal.div 1 (1 + Ideal.exp (-(-((x : S1x64x128.Idx → EReal) (ix3 0 t κ))))) := by
  pointwise [k0_pay8, k0_pay4]
  simp only [zero_sub]

/-- The queries. -/
theorem qC_at (x : Vec Ideal S1x64x128 .f32) (t : Fin 64) (κ : Fin 128) :
    (qC x : S64x128.Idx → EReal) (ix2 t κ)
      = (x : S1x64x128.Idx → EReal) (ix3 0 t κ) * Ideal.div 1 (1 + Ideal.exp (-((x : S1x64x128.Idx → EReal) (ix3 0 t κ)))) := by
  unfold qC
  pointwise [k0_pay12, k0_pay5, k0_pay10, k0_pay11]
  simp only [zero_sub]

/-- The larger of two logits, nothing being the least. -/
def mx (x : Fin 2 → EReal) : EReal := Finset.fold max (Ideal.ofBits FTy.f32 4286578688#32) x Finset.univ

/-- The lower bound. -/
theorem lb_at (x : Vec Ideal S2x128 .f32) (κ : Fin 128) :
    (k0_pay51 x : S1x128.Idx → EReal) (ix2 0 κ)
      = Ideal.div (Ideal.exp ((x : S2x128.Idx → EReal) (ix2 0 κ) - mx fun r => (x : S2x128.Idx → EReal) (ix2 r κ)))
          (Ideal.exp ((x : S2x128.Idx → EReal) (ix2 0 κ) - mx fun r => (x : S2x128.Idx → EReal) (ix2 r κ)) + Ideal.exp ((x : S2x128.Idx → EReal) (ix2 1 κ) - mx fun r => (x : S2x128.Idx → EReal) (ix2 r κ))) := by
  unfold mx
  pointwise [k0_pay51]
  rw [Fin.sum_univ_two, Fin.sum_univ_one]

theorem lb1_at (x : Vec Ideal S2x128 .f32) (κ : Fin 128) :
    (k0_pay52 x : S1x128.Idx → EReal) (ix2 0 κ) = 1 - (k0_pay51 x : S1x128.Idx → EReal) (ix2 0 κ) := by
  pointwise [k0_pay52]

/-- The state's part of the results. -/
theorem p15_at (v25 : FVec Ideal S64x64 .bf16) (v154 v183 v186 v187 : FVec Ideal S64x128 .f32) (st : Vec Ideal S128x128 .f32) (t : Fin 64) (d : Fin 128) :
    (k0_pay15 v25 v154 v183 v186 v187 st : S64x128.Idx → EReal) (ix2 t d)
      = ∑ κ : Fin 128, (k0_pay12 v154 v186 v187 : S64x128.Idx → EReal) (ix2 t κ) * Ideal.exp ((k0_pay13 v25 v183 : S64x128.Idx → EReal) (ix2 t κ)) * (st : S128x128.Idx → EReal) (ix2 d κ) := by
  pointwise [k0_pay15]

/-- The state after a chunk. -/
theorem p48_at (k a : FVec Ideal S64x128 .f32) (st : Vec Ideal S128x128 .f32) (v : FVec Ideal S64x128 .f32) (d κ : Fin 128) :
    (k0_pay48 k a st (k0_pay14 v) : S128x128.Idx → EReal) (ix2 d κ)
      = stS (fun t κ => (k : S64x128.Idx → EReal) (ix2 t κ)) (fun t κ => (a : S64x128.Idx → EReal) (ix2 t κ)) (fun t d => (v : S64x128.Idx → EReal) (ix2 t d)) (fun κ d => (st : S128x128.Idx → EReal) (ix2 d κ)) κ d := by
  unfold stS
  pointwise [k0_pay48, k0_pay14]
  congr 1
  · exact mul_comm _ _
  · exact Finset.sum_congr rfl fun t _ => mul_comm _ _

/-- The attention across subchunks, second rows of sixteen. -/
theorem p17_at (v25 : FVec Ideal S64x64 .bf16) (v154 k l v186 v187 : FVec Ideal S64x128 .f32) (t : Fin 16) (s : Fin 64) :
    (k0_pay17 v25 v154 k l v186 v187 : S16x64.Idx → EReal) (ix2 t s)
      = ∑ κ : Fin 128, (k0_pay12 v154 v186 v187 : S64x128.Idx → EReal) (ix2 ⟨16 + t.val, by omega⟩ κ) * Ideal.exp ((k0_pay13 v25 l : S64x128.Idx → EReal) (ix2 ⟨16 + t.val, by omega⟩ κ) - (k0_pay13 v25 l : S64x128.Idx → EReal) (ix2 15 κ))
          * ((k : S64x128.Idx → EReal) (ix2 s κ) * Ideal.exp (min ((k0_pay13 v25 l : S64x128.Idx → EReal) (ix2 15 κ) - (k0_pay13 v25 l : S64x128.Idx → EReal) (ix2 s κ)) 0)) := by
  pointwise [k0_pay17]

theorem p19_at (v25 : FVec Ideal S64x64 .bf16) (v154 l v186 v187 : FVec Ideal S64x128 .f32) (t : Fin 16) (κ : Fin 128) :
    (k0_pay19 v25 v154 l v186 v187 : S16x128.Idx → EReal) (ix2 t κ)
      = (k0_pay12 v154 v186 v187 : S64x128.Idx → EReal) (ix2 ⟨32 + t.val, by omega⟩ κ) * Ideal.exp ((k0_pay13 v25 l : S64x128.Idx → EReal) (ix2 ⟨32 + t.val, by omega⟩ κ) - (k0_pay13 v25 l : S64x128.Idx → EReal) (ix2 31 κ)) := by
  pointwise [k0_pay19, k0_pay18]

theorem p20_at (v25 : FVec Ideal S64x64 .bf16) (l : FVec Ideal S64x128 .f32) (s : Fin 64) (κ : Fin 128) :
    (k0_pay20 v25 l : S64x128.Idx → EReal) (ix2 s κ) = (k0_pay13 v25 l : S64x128.Idx → EReal) (ix2 31 κ) - (k0_pay13 v25 l : S64x128.Idx → EReal) (ix2 s κ) := by
  pointwise [k0_pay20, k0_pay18]

theorem p21_at (v125 : IVec S64x64 1) (k q a : FVec Ideal S64x128 .f32) (v211 v227 : FVec Ideal S16x64 .f32) (v234 : FVec Ideal S16x128 .f32) (v236 : FVec Ideal S64x128 .f32) (t s : Fin 64) :
    (k0_pay21 v125 k q a v211 v227 v234 v236 (Scalar.ofBits .f32 0x00000000#32) : S64x64.Idx → EReal) (ix2 t s)
      = Scalar.select (v125 (ix2 t s))
      (if h : t.val < 16 then (v211 : S16x64.Idx → EReal) (ix2 ⟨t.val, h⟩ s)
      else
        if h : t.val - 16 < 16 then (v227 : S16x64.Idx → EReal) (ix2 ⟨t.val - 16, h⟩ s)
        else
          if h : t.val - 16 - 16 < 16 then
            ∑ x : Fin 128, (v234 : S16x128.Idx → EReal) (ix2 ⟨t.val - 16 - 16, h⟩ x) * ((k : S64x128.Idx → EReal) (ix2 s x) * Ideal.exp (min ((v236 : S64x128.Idx → EReal) (ix2 s x)) 0))
          else
            ∑ x : Fin 128,
              (q : S64x128.Idx → EReal) (ix2 ⟨48 + (t.val - 16 - 16 - 16), by omega⟩ x) *
                  Ideal.exp ((a : S64x128.Idx → EReal) (ix2 ⟨48 + (t.val - 16 - 16 - 16), by omega⟩ x) - (a : S64x128.Idx → EReal) (ix2 47 x)) *
                ((k : S64x128.Idx → EReal) (ix2 s x) * Ideal.exp (min ((a : S64x128.Idx → EReal) (ix2 47 x) - (a : S64x128.Idx → EReal) (ix2 s x)) 0))) (0 : EReal) := by
  pointwise [k0_pay21]

/-- The attention across subchunks. -/
theorem off_at (v14 v16 : FVec Ideal S1x128 .f32) (v25 : FVec Ideal S64x64 .bf16) (b0 b1 : Vec Ideal S1x64x128 .f32) (q k a : Fin 64 → Fin 128 → EReal)
    (hq : ∀ t κ, (qC b0 : S64x128.Idx → EReal) (ix2 t κ) = q t κ) (hk : ∀ t κ, (k0_pay8 v16 b1 : S64x128.Idx → EReal) (ix2 t κ) = k t κ)
    (ha : ∀ t κ, (aC v14 v16 v25 b1 : S64x128.Idx → EReal) (ix2 t κ) = a t κ) (t s : Fin 64) :
    (offC v14 v16 v25 m125 b0 b1 : S64x64.Idx → EReal) (ix2 t s)
      = if s.val / 16 < t.val / 16 then ∑ κ : Fin 128, (q t κ * Ideal.exp (a t κ - a (bd t) κ)) * (k s κ * Ideal.exp (min (a (bd t) κ - a s κ) 0)) else 0 := by
  have ht := t.isLt
  have hs := s.isLt
  unfold qC at hq
  unfold aC at ha
  unfold offC qC aC
  rw [p21_at, m125_at t s, sel_if]
  by_cases h : s.val / 16 < t.val / 16
  swap
  · rw [if_neg h, if_neg h]
  rw [if_pos h, if_pos h, dif_neg (by omega)]
  by_cases h1 : t.val - 16 < 16
  · rw [dif_pos h1]
    refine (p17_at _ _ _ _ _ _ _ _).trans ?_
    simp only [hq, hk, ha]
    have e1 : (⟨16 + (t.val - 16), by omega⟩ : Fin 64) = t := Fin.ext (by show 16 + (t.val - 16) = t.val; omega)
    have e2 : (15 : Fin 64) = bd t := Fin.ext (by show 15 = 16 * (t.val / 16) - 1; omega)
    rw [e1, e2]
  rw [dif_neg h1]
  by_cases h2 : t.val - 16 - 16 < 16
  · rw [dif_pos h2]
    simp only [p19_at, p20_at, hq, hk, ha]
    have e1 : (⟨32 + (t.val - 16 - 16), by omega⟩ : Fin 64) = t := Fin.ext (by show 32 + (t.val - 16 - 16) = t.val; omega)
    have e2 : (31 : Fin 64) = bd t := Fin.ext (by show 31 = 16 * (t.val / 16) - 1; omega)
    rw [e1, e2]
  · rw [dif_neg h2]
    simp only [hq, hk, ha]
    have e1 : (⟨48 + (t.val - 16 - 16 - 16), by omega⟩ : Fin 64) = t := Fin.ext (by show 48 + (t.val - 16 - 16 - 16) = t.val; omega)
    have e2 : (47 : Fin 64) = bd t := Fin.ext (by show 47 = 16 * (t.val / 16) - 1; omega)
    rw [e1, e2]

end Cert.HgrnIdeal.Val

end
-- ==== Proof.HgrnDiag.lean ====
/- The attention within a subchunk: sixteen columns of one row, summed through a table. -/
module

public import proofs.«01_k».proof.Proof.HgrnKer
public import Idealize.ShloMosaic.Lib.Pipeline.ValueKit

@[expose] public section

set_option maxRecDepth 16384

noncomputable section

open Idealize.ShloMosaic Idealize.ShloMosaic.TcCoe Cert.HgrnAlg

namespace Cert.HgrnIdeal.Val

open Cert.HgrnIdeal Cert.HgrnIdeal.Gen Cert.HgrnIdeal.Run

/-- One entry of the column `j`: a row against the row `j` of its own sixteen. -/
def pcv (v142 : IVec S64x128 32) (q k a : FVec Ideal S64x128 .f32) (j : ℕ) (hj : j < 16) (t : Fin 64) (κ : Fin 128) : EReal :=
  Scalar.select (IntOp.cmpi .sge (v142 (ix2 t κ)) (BitVec.ofNat 32 j))
    ((q : S64x128.Idx → EReal) (ix2 t κ) * (k : S64x128.Idx → EReal) (ix2 ⟨t.val / 16 * 16 + j, by omega⟩ κ)
      * Ideal.exp (min ((a : S64x128.Idx → EReal) (ix2 t κ) - (a : S64x128.Idx → EReal) (ix2 ⟨t.val / 16 * 16 + j, by omega⟩ κ)) 0)) (0 : EReal)

/-- The last column but one. -/
def z14 (v544 : FVec Ideal S64x128 .f32) (v546 : IVec S64x128 1) (v547 : FVec Ideal S64x128 .f32) : FVec Ideal S64x128 .bf16 :=
  truncf .bf16 (select v546 v544 v547) bitsLt_bf16_f32

/-- The last column. -/
def z15 (v142 : IVec S64x128 32) (q a : FVec Ideal S64x128 .f32) (v263 v264 : FVec Ideal S4x16x128 .f32) : FVec Ideal S64x128 .bf16 :=
  truncf .bf16 (select (cmpi .sge v142 (broadcast S64x128 15#32))
    (mulf (mulf q (shapeCast S64x128 (broadcastTo S4x16x128 (shapeCast S4x1x128 (extractStridedSlice S4x1x128 ![0, 15, 0] v264 slices_S4x16x128_o0_15_0_S4x1x128) shapeCasts_S4x1x128_S4x1x128) broadcasts_S4x1x128_S4x16x128) shapeCasts_S4x16x128_S64x128))
      (exp (minimumf (subf a (shapeCast S64x128 (broadcastTo S4x16x128 (shapeCast S4x1x128 (extractStridedSlice S4x1x128 ![0, 15, 0] v263 slices_S4x16x128_o0_15_0_S4x1x128) shapeCasts_S4x1x128_S4x1x128) broadcasts_S4x1x128_S4x16x128) shapeCasts_S4x16x128_S64x128))
        (broadcast S64x128 (Scalar.ofBits .f32 0x00000000#32)))))
    (broadcast S64x128 (Scalar.ofBits .f32 0x00000000#32))) bitsLt_bf16_f32

theorem pc0_at (v142 : IVec S64x128 32) (q k a : FVec Ideal S64x128 .f32) (t : Fin 64) (κ : Fin 128) : (k0_pay24 v142 k q a : S64x128.Idx → EReal) (ix2 t κ) = pcv v142 q k a 0 (by decide) t κ := by
  unfold pcv
  pointwise [k0_pay24, k0_pay22, k0_pay23]

theorem pc1_at (v142 : IVec S64x128 32) (q k a : FVec Ideal S64x128 .f32) (t : Fin 64) (κ : Fin 128) : (k0_pay27 v142 q a (k0_pay25 a) (k0_pay26 k) : S64x128.Idx → EReal) (ix2 t κ) = pcv v142 q k a 1 (by decide) t κ := by
  unfold pcv
  pointwise [k0_pay27, k0_pay25, k0_pay26, k0_pay22, k0_pay23]

theorem pc2_at (v142 : IVec S64x128 32) (q k a : FVec Ideal S64x128 .f32) (t : Fin 64) (κ : Fin 128) : (k0_pay28 v142 q a (k0_pay22 a) (k0_pay23 k) : S64x128.Idx → EReal) (ix2 t κ) = pcv v142 q k a 2 (by decide) t κ := by
  unfold pcv
  pointwise [k0_pay28, k0_pay22, k0_pay23]

theorem pc3_at (v142 : IVec S64x128 32) (q k a : FVec Ideal S64x128 .f32) (t : Fin 64) (κ : Fin 128) : (k0_pay29 v142 q a (k0_pay22 a) (k0_pay23 k) : S64x128.Idx → EReal) (ix2 t κ) = pcv v142 q k a 3 (by decide) t κ := by
  unfold pcv
  pointwise [k0_pay29, k0_pay22, k0_pay23]

theorem pc4_at (v142 : IVec S64x128 32) (q k a : FVec Ideal S64x128 .f32) (t : Fin 64) (κ : Fin 128) : (k0_pay30 v142 q a (k0_pay22 a) (k0_pay23 k) : S64x128.Idx → EReal) (ix2 t κ) = pcv v142 q k a 4 (by decide) t κ := by
  unfold pcv
  pointwise [k0_pay30, k0_pay22, k0_pay23]

theorem pc5_at (v142 : IVec S64x128 32) (q k a : FVec Ideal S64x128 .f32) (t : Fin 64) (κ : Fin 128) : (k0_pay31 v142 q a (k0_pay22 a) (k0_pay23 k) : S64x128.Idx → EReal) (ix2 t κ) = pcv v142 q k a 5 (by decide) t κ := by
  unfold pcv
  pointwise [k0_pay31, k0_pay22, k0_pay23]

theorem pc6_at (v142 : IVec S64x128 32) (q k a : FVec Ideal S64x128 .f32) (t : Fin 64) (κ : Fin 128) : (k0_pay33 v142 (k0_pay32 q a (k0_pay22 a) (k0_pay23 k)) 6#32 : S64x128.Idx → EReal) (ix2 t κ) = pcv v142 q k a 6 (by decide) t κ := by
  unfold pcv
  pointwise [k0_pay33, k0_pay32, k0_pay22, k0_pay23]

theorem pc7_at (v142 : IVec S64x128 32) (q k a : FVec Ideal S64x128 .f32) (t : Fin 64) (κ : Fin 128) : (k0_pay34 v142 q a (k0_pay22 a) (k0_pay23 k) : S64x128.Idx → EReal) (ix2 t κ) = pcv v142 q k a 7 (by decide) t κ := by
  unfold pcv
  pointwise [k0_pay34, k0_pay22, k0_pay23]

theorem pc8_at (v142 : IVec S64x128 32) (q k a : FVec Ideal S64x128 .f32) (t : Fin 64) (κ : Fin 128) : (k0_pay35 v142 q a (k0_pay22 a) (k0_pay23 k) : S64x128.Idx → EReal) (ix2 t κ) = pcv v142 q k a 8 (by decide) t κ := by
  unfold pcv
  pointwise [k0_pay35, k0_pay22, k0_pay23]

theorem pc9_at (v142 : IVec S64x128 32) (q k a : FVec Ideal S64x128 .f32) (t : Fin 64) (κ : Fin 128) : (k0_pay38 v142 (k0_pay36 q (k0_pay23 k)) (k0_pay37 a (k0_pay22 a)) : S64x128.Idx → EReal) (ix2 t κ) = pcv v142 q k a 9 (by decide) t κ := by
  unfold pcv
  pointwise [k0_pay38, k0_pay36, k0_pay37, k0_pay22, k0_pay23]

theorem pc10_at (v142 : IVec S64x128 32) (q k a : FVec Ideal S64x128 .f32) (t : Fin 64) (κ : Fin 128) : (k0_pay39 v142 q a (k0_pay22 a) (k0_pay23 k) : S64x128.Idx → EReal) (ix2 t κ) = pcv v142 q k a 10 (by decide) t κ := by
  unfold pcv
  pointwise [k0_pay39, k0_pay22, k0_pay23]

theorem pc11_at (v142 : IVec S64x128 32) (q k a : FVec Ideal S64x128 .f32) (t : Fin 64) (κ : Fin 128) : (k0_pay40 v142 q a (k0_pay22 a) (k0_pay23 k) : S64x128.Idx → EReal) (ix2 t κ) = pcv v142 q k a 11 (by decide) t κ := by
  unfold pcv
  pointwise [k0_pay40, k0_pay22, k0_pay23]

theorem pc12_at (v142 : IVec S64x128 32) (q k a : FVec Ideal S64x128 .f32) (t : Fin 64) (κ : Fin 128) : (k0_pay42 v142 q a (k0_pay23 k) (k0_pay41 (k0_pay22 a)) : S64x128.Idx → EReal) (ix2 t κ) = pcv v142 q k a 12 (by decide) t κ := by
  unfold pcv
  pointwise [k0_pay42, k0_pay41, k0_pay22, k0_pay23]

theorem pc13_at (v142 : IVec S64x128 32) (q k a : FVec Ideal S64x128 .f32) (t : Fin 64) (κ : Fin 128) : (k0_pay43 v142 q a (k0_pay22 a) (k0_pay23 k) : S64x128.Idx → EReal) (ix2 t κ) = pcv v142 q k a 13 (by decide) t κ := by
  unfold pcv
  pointwise [k0_pay43, k0_pay22, k0_pay23]

theorem pc14_at (v142 : IVec S64x128 32) (q k a : FVec Ideal S64x128 .f32) (t : Fin 64) (κ : Fin 128) : (z14 (k0_pay44 q a (k0_pay22 a) (k0_pay23 k)) (k0_pay45 v142) k0_pay46 : S64x128.Idx → EReal) (ix2 t κ) = pcv v142 q k a 14 (by decide) t κ := by
  unfold pcv
  pointwise [z14, k0_pay44, k0_pay45, k0_pay46, k0_pay22, k0_pay23]

theorem pc15_at (v142 : IVec S64x128 32) (q k a : FVec Ideal S64x128 .f32) (t : Fin 64) (κ : Fin 128) : (z15 v142 q a (k0_pay22 a) (k0_pay23 k) : S64x128.Idx → EReal) (ix2 t κ) = pcv v142 q k a 15 (by decide) t κ := by
  unfold pcv
  pointwise [z15, k0_pay22, k0_pay23]

/-- The sixteen columns. -/
def zs (v142 : IVec S64x128 32) (q k a : FVec Ideal S64x128 .f32) : Fin 16 → FVec Ideal S64x128 .bf16 := ![k0_pay24 v142 k q a, k0_pay27 v142 q a (k0_pay25 a) (k0_pay26 k), k0_pay28 v142 q a (k0_pay22 a) (k0_pay23 k), k0_pay29 v142 q a (k0_pay22 a) (k0_pay23 k), k0_pay30 v142 q a (k0_pay22 a) (k0_pay23 k), k0_pay31 v142 q a (k0_pay22 a) (k0_pay23 k), k0_pay33 v142 (k0_pay32 q a (k0_pay22 a) (k0_pay23 k)) 6#32, k0_pay34 v142 q a (k0_pay22 a) (k0_pay23 k), k0_pay35 v142 q a (k0_pay22 a) (k0_pay23 k), k0_pay38 v142 (k0_pay36 q (k0_pay23 k)) (k0_pay37 a (k0_pay22 a)), k0_pay39 v142 q a (k0_pay22 a) (k0_pay23 k), k0_pay40 v142 q a (k0_pay22 a) (k0_pay23 k), k0_pay42 v142 q a (k0_pay23 k) (k0_pay41 (k0_pay22 a)), k0_pay43 v142 q a (k0_pay22 a) (k0_pay23 k), z14 (k0_pay44 q a (k0_pay22 a) (k0_pay23 k)) (k0_pay45 v142) k0_pay46, z15 v142 q a (k0_pay22 a) (k0_pay23 k)]

theorem zs_at (v142 : IVec S64x128 32) (q k a : FVec Ideal S64x128 .f32) (j : Fin 16) (t : Fin 64) (κ : Fin 128) : (zs v142 q k a j : S64x128.Idx → EReal) (ix2 t κ) = pcv v142 q k a j.val j.isLt t κ := by
  fin_cases j
  · exact pc0_at v142 q k a t κ
  · exact pc1_at v142 q k a t κ
  · exact pc2_at v142 q k a t κ
  · exact pc3_at v142 q k a t κ
  · exact pc4_at v142 q k a t κ
  · exact pc5_at v142 q k a t κ
  · exact pc6_at v142 q k a t κ
  · exact pc7_at v142 q k a t κ
  · exact pc8_at v142 q k a t κ
  · exact pc9_at v142 q k a t κ
  · exact pc10_at v142 q k a t κ
  · exact pc11_at v142 q k a t κ
  · exact pc12_at v142 q k a t κ
  · exact pc13_at v142 q k a t κ
  · exact pc14_at v142 q k a t κ
  · exact pc15_at v142 q k a t κ

/-- Sixteen columns side by side. -/
def cat (z : Fin 16 → FVec Ideal S64x128 .bf16) : FVec Ideal S64x2048 .bf16 := concatenate S64x2048 1 [⟨S64x128, z 0⟩, ⟨S64x128, z 1⟩, ⟨S64x128, z 2⟩, ⟨S64x128, z 3⟩, ⟨S64x128, z 4⟩, ⟨S64x128, z 5⟩, ⟨S64x128, z 6⟩, ⟨S64x128, z 7⟩, ⟨S64x128, z 8⟩, ⟨S64x128, z 9⟩, ⟨S64x128, z 10⟩, ⟨S64x128, z 11⟩, ⟨S64x128, z 12⟩, ⟨S64x128, z 13⟩, ⟨S64x128, z 14⟩, ⟨S64x128, z 15⟩] concatenates_S64x128_S64x128_S64x128_S64x128_S64x128_S64x128_S64x128_S64x128_S64x128_S64x128_S64x128_S64x128_S64x128_S64x128_S64x128_S64x128_S64x2048_d1

theorem cat_at (z : Fin 16 → FVec Ideal S64x128 .bf16) (t : Fin 64) (p : Fin 2048) :
    (cat z : S64x2048.Idx → EReal) (ix2 t p) = (z ⟨p.val / 128, by omega⟩ : S64x128.Idx → EReal) (ix2 t ⟨p.val % 128, by omega⟩) :=
  concatenate_ofFn_apply (α := EReal) (t := S64x2048) (s₁ := S64x128) 1 z concatenates_S64x128_S64x128_S64x128_S64x128_S64x128_S64x128_S64x128_S64x128_S64x128_S64x128_S64x128_S64x128_S64x128_S64x128_S64x128_S64x128_S64x2048_d1 rfl 128 rfl (ix2 t p) ⟨p.val / 128, by omega⟩ rfl (ix2 t ⟨p.val % 128, by omega⟩) rfl
    (fun b hb => by
      have hb2 : b.val < 2 := b.isLt
      match b, hb2 with
      | ⟨0, _⟩, _ => rfl
      | ⟨1, _⟩, _ => exact absurd rfl hb)

/-- The results, from the columns and the table that sums them. -/
def outF (v76 : IVec S64x64 1) (vb : FVec Ideal S64x128 .bf16) (o0 : FVec Ideal S64x128 .f32) (off : FVec Ideal S64x64 .f32) (e : Vec Ideal S2048x64 .bf16) (Z : FVec Ideal S64x2048 .bf16) : FVec Ideal S64x128 .f32 :=
  addf o0 (matmul dot_S64x64_S64x128_S64x128_1_0_0_1_n_n none
    (truncf .bf16 (addf off (select v76 (matmul (φ₂ := .bf16) dot_S64x2048_S2048x64_S64x64_1_0_0_1_n_n none Z e (constant S64x64 .f32 0x00000000#32)) (broadcast S64x64 (Scalar.ofBits .f32 0x00000000#32)))) bitsLt_bf16_f32)
    vb (constant S64x128 .f32 0x00000000#32))

theorem outF_at (v76 : IVec S64x64 1) (vb : FVec Ideal S64x128 .bf16) (o0 : FVec Ideal S64x128 .f32) (off : FVec Ideal S64x64 .f32) (e : Vec Ideal S2048x64 .bf16) (Z : FVec Ideal S64x2048 .bf16)
    (t : Fin 64) (d : Fin 128) :
    (outF v76 vb o0 off e Z : S64x128.Idx → EReal) (ix2 t d)
      = (o0 : S64x128.Idx → EReal) (ix2 t d) + ∑ s : Fin 64, ((off : S64x64.Idx → EReal) (ix2 t s)
          + Scalar.select (v76 (ix2 t s)) (∑ p : Fin 2048, (Z : S64x2048.Idx → EReal) (ix2 t p) * (e : S2048x64.Idx → EReal) (ix2 p s)) (0 : EReal)) * (vb : S64x128.Idx → EReal) (ix2 s d) := by
  pointwise [outF]

theorem p47_eq (v76 : IVec S64x64 1) (v142 : IVec S64x128 32) (q k a : FVec Ideal S64x128 .f32) (vb : FVec Ideal S64x128 .bf16) (o0 : FVec Ideal S64x128 .f32) (off : FVec Ideal S64x64 .f32) (e : Vec Ideal S2048x64 .bf16) :
    oF v76 v142 k q a vb o0 off e = outF v76 vb o0 off e (cat (zs v142 q k a)) := rfl

theorem p49_at (v76 : IVec S64x64 1) (v142 : IVec S64x128 32) (q k a : FVec Ideal S64x128 .f32) (vb : FVec Ideal S64x128 .bf16) (o0 : FVec Ideal S64x128 .f32) (off : FVec Ideal S64x64 .f32) (e : Vec Ideal S2048x64 .bf16) (t : Fin 64) :
    (msF v76 v142 k q a vb o0 off e : S64x1.Idx → EReal) (ix2 t 0)
      = ∑ d : Fin 128, (oF v76 v142 k q a vb o0 off e : S64x128.Idx → EReal) (ix2 t d) * (oF v76 v142 k q a vb o0 off e : S64x128.Idx → EReal) (ix2 t d) := by
  have g : ∀ o : FVec Ideal S64x128 .f32, ((shapeCast S64x1 (multiReduction .add [1] S64 (mulf o o) 0x00000000#32 reduces_S64x128_S64 (.inl rfl) rfl) shapeCasts_S64_S64x1 : FVec Ideal S64x1 .f32) : S64x1.Idx → EReal) (ix2 t 0)
      = ∑ d : Fin 128, (o : S64x128.Idx → EReal) (ix2 t d) * (o : S64x128.Idx → EReal) (ix2 t d) := fun o => by pointwise []
  exact g _

/-- The table's sum takes one column. -/
theorem tab_sum (Z : Fin 2048 → EReal) (s : Fin 64) :
    (∑ p : Fin 2048, Z p * (if p.val / 128 = s.val % 16 then (1 : EReal) else 0)) = ∑ κ : Fin 128, Z ⟨128 * (s.val % 16) + κ.val, by omega⟩ := by
  simp only [mul_ite, mul_one, mul_zero]
  rw [← Finset.sum_filter]
  symm
  refine Finset.sum_bij (fun κ _ => ⟨128 * (s.val % 16) + κ.val, by omega⟩) ?_ ?_ ?_ ?_
  · intro κ _
    refine Finset.mem_filter.mpr ⟨Finset.mem_univ _, ?_⟩
    show (128 * (s.val % 16) + κ.val) / 128 = _
    omega
  · intro x _ y _ h
    have := congrArg Fin.val h
    exact Fin.ext (by simpa using this)
  · intro p hp
    have := (Finset.mem_filter.mp hp).2
    exact ⟨⟨p.val % 128, by omega⟩, Finset.mem_univ _, Fin.ext (by show 128 * (s.val % 16) + p.val % 128 = p.val; omega)⟩
  · intro κ _
    rfl

theorem cat_sum (z : Fin 16 → FVec Ideal S64x128 .bf16) (e : Vec Ideal S2048x64 .bf16)
    (he : ∀ (p : Fin 2048) (s : Fin 64), (e : S2048x64.Idx → EReal) (ix2 p s) = if p.val / 128 = s.val % 16 then (1 : EReal) else 0) (t s : Fin 64) :
    (∑ p : Fin 2048, (cat z : S64x2048.Idx → EReal) (ix2 t p) * (e : S2048x64.Idx → EReal) (ix2 p s)) = ∑ κ : Fin 128, (z ⟨s.val % 16, by omega⟩ : S64x128.Idx → EReal) (ix2 t κ) := by
  simp only [he]
  refine (tab_sum (fun p => (cat z : S64x2048.Idx → EReal) (ix2 t p)) s).trans (Finset.sum_congr rfl fun κ _ => (cat_at z t _).trans ?_)
  have hp : (⟨(128 * (s.val % 16) + κ.val) / 128, by omega⟩ : Fin 16) = ⟨s.val % 16, by omega⟩ := Fin.ext (by show (128 * (s.val % 16) + κ.val) / 128 = s.val % 16; omega)
  have hκ : (⟨(128 * (s.val % 16) + κ.val) % 128, by omega⟩ : Fin 128) = κ := Fin.ext (by show (128 * (s.val % 16) + κ.val) % 128 = κ.val; omega)
  dsimp only
  rw [hp, hκ]

theorem pcv_at (q k a : FVec Ideal S64x128 .f32) (t : Fin 64) (j : Fin 16) (κ : Fin 128) :
    pcv m142 q k a j.val j.isLt t κ = if j.val ≤ t.val % 16 then (q : S64x128.Idx → EReal) (ix2 t κ) * (k : S64x128.Idx → EReal) (ix2 ⟨t.val / 16 * 16 + j.val, by omega⟩ κ)
      * Ideal.exp (min ((a : S64x128.Idx → EReal) (ix2 t κ) - (a : S64x128.Idx → EReal) (ix2 ⟨t.val / 16 * 16 + j.val, by omega⟩ κ)) 0) else 0 := by
  unfold pcv
  have g := ge_at ⟨t.val % 16, by omega⟩ j
  dsimp only at g
  rw [m142_at, g, sel_if]

/-- A chunk's results, its parts at hand. -/
theorem oF_at (q k a : FVec Ideal S64x128 .f32) (vb : FVec Ideal S64x128 .bf16) (o0 : FVec Ideal S64x128 .f32) (off : FVec Ideal S64x64 .f32) (e : Vec Ideal S2048x64 .bf16)
    (he : ∀ (p : Fin 2048) (s : Fin 64), (e : S2048x64.Idx → EReal) (ix2 p s) = if p.val / 128 = s.val % 16 then (1 : EReal) else 0) (t : Fin 64) (d : Fin 128) :
    (oF m76 m142 k q a vb o0 off e : S64x128.Idx → EReal) (ix2 t d)
      = (o0 : S64x128.Idx → EReal) (ix2 t d) + ∑ s : Fin 64, ((off : S64x64.Idx → EReal) (ix2 t s)
          + if t.val / 16 = s.val / 16 ∧ s.val ≤ t.val then (∑ κ : Fin 128, if s.val % 16 ≤ t.val % 16 then (q : S64x128.Idx → EReal) (ix2 t κ) * (k : S64x128.Idx → EReal) (ix2 ⟨t.val / 16 * 16 + s.val % 16, by omega⟩ κ)
      * Ideal.exp (min ((a : S64x128.Idx → EReal) (ix2 t κ) - (a : S64x128.Idx → EReal) (ix2 ⟨t.val / 16 * 16 + s.val % 16, by omega⟩ κ)) 0) else 0) else 0) * (vb : S64x128.Idx → EReal) (ix2 s d) := by
  rw [p47_eq, outF_at]
  congr 1
  refine Finset.sum_congr rfl fun s _ => ?_
  rw [m76_at, sel_if, cat_sum _ e he t s]
  congr 3
  refine Finset.sum_congr rfl fun κ _ => ?_
  exact (zs_at m142 q k a ⟨s.val % 16, by omega⟩ t κ).trans (pcv_at q k a t ⟨s.val % 16, by omega⟩ κ)

/-- The gated, normalized results. -/
theorem p2_at (w : FVec Ideal S1x128 .f32) (g o : FVec Ideal S64x128 .f32) (ms : FVec Ideal S64x1 .f32) (t : Fin 64) (d : Fin 128) :
    (k0_pay2 w g o ms : S1x64x128.Idx → EReal) (ix3 0 t d)
      = (o : S64x128.Idx → EReal) (ix2 t d) * Ideal.rsqrt (Ideal.div ((ms : S64x1.Idx → EReal) (ix2 t 0)) (Ideal.ofBits FTy.f32 1124073472#32) + Ideal.ofBits FTy.f32 897988541#32) * (w : S1x128.Idx → EReal) (ix2 0 d)
          * ((g : S64x128.Idx → EReal) (ix2 t d) * Ideal.div 1 (1 + Ideal.exp (-(g : S64x128.Idx → EReal) (ix2 t d)))) := by
  pointwise [k0_pay2]
  simp only [zero_sub]

end Cert.HgrnIdeal.Val

end
-- ==== Proof.HgrnChunk.lean ====
/- One chunk of the recurrence's kernel, whole: its state and its results. -/
module

public import proofs.«01_k».proof.Proof.HgrnDiag

@[expose] public section

set_option maxRecDepth 16384

noncomputable section

open Idealize.ShloMosaic Idealize.ShloMosaic.TcCoe Cert.HgrnAlg

namespace Cert.HgrnIdeal.Val

open Cert.HgrnIdeal Cert.HgrnIdeal.Gen Cert.HgrnIdeal.Run

theorem p14_at (x : Vec Ideal S1x64x128 .f32) (t : Fin 64) (d : Fin 128) : (k0_pay14 (k0_pay6 x) : S64x128.Idx → EReal) (ix2 t d) = (x : S1x64x128.Idx → EReal) (ix3 0 t d) := by
  pointwise [k0_pay14, k0_pay6]

theorem p6_at (x : Vec Ideal S1x64x128 .f32) (t : Fin 64) (d : Fin 128) : (k0_pay6 x : S64x128.Idx → EReal) (ix2 t d) = (x : S1x64x128.Idx → EReal) (ix3 0 t d) := by
  pointwise [k0_pay6]

theorem p7_at (x : Vec Ideal S1x64x128 .f32) (t : Fin 64) (d : Fin 128) : (k0_pay7 x : S64x128.Idx → EReal) (ix2 t d) = (x : S1x64x128.Idx → EReal) (ix3 0 t d) := by
  pointwise [k0_pay7]

section Chunk

variable {v14 v16 : FVec Ideal S1x128 .f32} {b0 b1 b2 b3 : Vec Ideal S1x64x128 .f32} {q k l v g : Fin 64 → Fin 128 → EReal}
  (hq : ∀ t κ, (qC b0 : S64x128.Idx → EReal) (ix2 t κ) = q t κ) (hk : ∀ t κ, (k0_pay8 v16 b1 : S64x128.Idx → EReal) (ix2 t κ) = k t κ)
  (hl : ∀ t κ, (k0_pay9 v14 v16 b1 : S64x128.Idx → EReal) (ix2 t κ) = l t κ) (h0 : ∀ t κ, l t κ ≤ 0)
  (hv : ∀ t κ, (b2 : S1x64x128.Idx → EReal) (ix3 0 t κ) = v t κ) (hg : ∀ t κ, (b3 : S1x64x128.Idx → EReal) (ix3 0 t κ) = g t κ)

include hl h0 in
theorem aC_at (t : Fin 64) (κ : Fin 128) : (aC v14 v16 (k0_pay54 (F := Ideal)) b1 : S64x128.Idx → EReal) (ix2 t κ) = cum l t κ := by
  unfold aC
  rw [p13_at _ (fun t κ => (hl t κ).trans_le (h0 t κ))]
  congr 1
  exact funext fun t => funext fun κ => hl t κ

include hk hl h0 hv in
theorem stC_at (st : Vec Ideal S128x128 .f32) (d κ : Fin 128) :
    (stC v14 v16 (k0_pay54 (F := Ideal)) b1 b2 st : S128x128.Idx → EReal) (ix2 d κ) = stS k (cum l) v (fun κ d => (st : S128x128.Idx → EReal) (ix2 d κ)) κ d := by
  unfold stC
  rw [p48_at]
  have e1 : (fun t κ => (k0_pay8 v16 b1 : S64x128.Idx → EReal) (ix2 t κ)) = k := funext fun t => funext fun κ => hk t κ
  have e2 : (fun t κ => (aC v14 v16 (k0_pay54 (F := Ideal)) b1 : S64x128.Idx → EReal) (ix2 t κ)) = cum l := funext fun t => funext fun κ => aC_at hl h0 t κ
  have e3 : (fun t κ => (k0_pay6 b2 : S64x128.Idx → EReal) (ix2 t κ)) = v := funext fun t => funext fun κ => (p6_at b2 t κ).trans (hv t κ)
  rw [e1, e2, e3]

variable (e : Vec Ideal S2048x64 .bf16) (he : ∀ (p : Fin 2048) (s : Fin 64), (e : S2048x64.Idx → EReal) (ix2 p s) = if p.val / 128 = s.val % 16 then (1 : EReal) else 0)

include hq hk hl h0 hv he in
theorem oF_out (st : Vec Ideal S128x128 .f32) (t : Fin 64) (d : Fin 128) :
    (oF m76 m142 (k0_pay8 v16 b1) (qC b0) (aC v14 v16 (k0_pay54 (F := Ideal)) b1) (k0_pay14 (k0_pay6 b2))
        (k0_pay15 (k0_pay54 (F := Ideal)) (k0_pay5 b0) (k0_pay9 v14 v16 b1) (k0_pay10 b0) k0_pay11 st) (offC v14 v16 (k0_pay54 (F := Ideal)) m125 b0 b1) e : S64x128.Idx → EReal) (ix2 t d)
      = outC q k (cum l) v (fun κ d => (st : S128x128.Idx → EReal) (ix2 d κ)) t d := by
  rw [oF_at _ _ _ _ _ _ e he, p15_at]
  unfold outC
  rw [add_comm]
  congr 1
  · refine Finset.sum_congr rfl fun s _ => ?_
    rw [p14_at, hv, off_at v14 v16 _ b0 b1 q k (cum l) hq hk (aC_at hl h0), ← att_parts q k (cum l) (cum_nonpos l h0) (cum_anti l h0)]
    congr 2
    by_cases hs : t.val / 16 = s.val / 16 ∧ s.val ≤ t.val
    · rw [if_pos hs, if_pos hs]
      refine Finset.sum_congr rfl fun κ _ => ?_
      have e1 : (⟨t.val / 16 * 16 + s.val % 16, by omega⟩ : Fin 64) = s := Fin.ext (by show t.val / 16 * 16 + s.val % 16 = s.val; omega)
      rw [if_pos (by omega), e1, hq, hk, aC_at hl h0, aC_at hl h0]
    · rw [if_neg hs, if_neg hs]
  · refine Finset.sum_congr rfl fun κ _ => ?_
    have e1 := hq t κ
    have e2 := aC_at hl h0 t κ
    unfold qC at e1
    unfold aC at e2
    rw [e1, e2]

include hq hk hl h0 hv hg he in
theorem oC_at (v18 : FVec Ideal S1x128 .f32) (st : Vec Ideal S128x128 .f32) (t : Fin 64) (d : Fin 128) :
    (oC v14 v16 v18 (k0_pay54 (F := Ideal)) m76 m125 m142 b0 b1 b2 b3 e st : S1x64x128.Idx → EReal) (ix3 0 t d)
      = outC q k (cum l) v (fun κ d => (st : S128x128.Idx → EReal) (ix2 d κ)) t d
          * Ideal.rsqrt (Ideal.div (∑ x : Fin 128, outC q k (cum l) v (fun κ d => (st : S128x128.Idx → EReal) (ix2 d κ)) t x * outC q k (cum l) v (fun κ d => (st : S128x128.Idx → EReal) (ix2 d κ)) t x) (Ideal.ofBits FTy.f32 1124073472#32) + Ideal.ofBits FTy.f32 897988541#32)
          * (v18 : S1x128.Idx → EReal) (ix2 0 d) * (g t d * Ideal.div 1 (1 + Ideal.exp (-g t d))) := by
  unfold oC
  rw [p2_at, p49_at]
  simp only [oF_out hq hk hl h0 hv e he, p7_at, hg]

end Chunk

end Cert.HgrnIdeal.Val

end
-- ==== Proof.HgrnLit.lean ====
/- The recurrence's table of ones: entry (p, s) is one where p / 128 = s mod 16, else zero. -/
module

public import proofs.«01_k».proof.HgrnIdeal
public import Idealize.ShloMosaic.Lib.Pointwise

@[expose] public section

set_option maxRecDepth 16384

namespace Cert.HgrnIdeal.Lit

/-- An entry of the table: one where the piece is the column's. -/
def T (j r : ℕ) : BitVec 16 := if j = r then 0x3F80#16 else 0x0000#16

theorem base0 (i : ℕ) : lit0t0_0 i = T 0 (i % 16) := by
  have h : ∀ r : Fin 128, lit0t0_0 r.val = T 0 (r.val % 16) := by decide +kernel
  have e : lit0t0_0 i = lit0t0_0 (i % 128) := by unfold lit0t0_0; rw [Nat.mod_mod]
  rw [e, show i % 16 = i % 128 % 16 by omega]
  exact h ⟨i % 128, Nat.mod_lt _ (by decide)⟩

theorem base1 (i : ℕ) : lit0t0_64 i = T 1 (i % 16) := by
  have h : ∀ r : Fin 128, lit0t0_64 r.val = T 1 (r.val % 16) := by decide +kernel
  have e : lit0t0_64 i = lit0t0_64 (i % 128) := by unfold lit0t0_64; rw [Nat.mod_mod]
  rw [e, show i % 16 = i % 128 % 16 by omega]
  exact h ⟨i % 128, Nat.mod_lt _ (by decide)⟩

theorem part0 (i : ℕ) : lit0t1_0 i = T (0 + i / 128 % 128 / 64) (i % 16) := by
  unfold lit0t1_0
  have h : i / 128 % 128 < 128 := Nat.mod_lt _ (by decide)
  generalize i / 128 % 128 = c at h ⊢
  interval_cases c
  iterate 64 (exact base0 i)
  iterate 64 (exact base1 i)

theorem base2 (i : ℕ) : lit0t0_128 i = T 2 (i % 16) := by
  have h : ∀ r : Fin 128, lit0t0_128 r.val = T 2 (r.val % 16) := by decide +kernel
  have e : lit0t0_128 i = lit0t0_128 (i % 128) := by unfold lit0t0_128; rw [Nat.mod_mod]
  rw [e, show i % 16 = i % 128 % 16 by omega]
  exact h ⟨i % 128, Nat.mod_lt _ (by decide)⟩

theorem base3 (i : ℕ) : lit0t0_192 i = T 3 (i % 16) := by
  have h : ∀ r : Fin 128, lit0t0_192 r.val = T 3 (r.val % 16) := by decide +kernel
  have e : lit0t0_192 i = lit0t0_192 (i % 128) := by unfold lit0t0_192; rw [Nat.mod_mod]
  rw [e, show i % 16 = i % 128 % 16 by omega]
  exact h ⟨i % 128, Nat.mod_lt _ (by decide)⟩

theorem part1 (i : ℕ) : lit0t1_1 i = T (2 + i / 128 % 128 / 64) (i % 16) := by
  unfold lit0t1_1
  have h : i / 128 % 128 < 128 := Nat.mod_lt _ (by decide)
  generalize i / 128 % 128 = c at h ⊢
  interval_cases c
  iterate 64 (exact base2 i)
  iterate 64 (exact base3 i)

theorem base4 (i : ℕ) : lit0t0_256 i = T 4 (i % 16) := by
  have h : ∀ r : Fin 128, lit0t0_256 r.val = T 4 (r.val % 16) := by decide +kernel
  have e : lit0t0_256 i = lit0t0_256 (i % 128) := by unfold lit0t0_256; rw [Nat.mod_mod]
  rw [e, show i % 16 = i % 128 % 16 by omega]
  exact h ⟨i % 128, Nat.mod_lt _ (by decide)⟩

theorem base5 (i : ℕ) : lit0t0_320 i = T 5 (i % 16) := by
  have h : ∀ r : Fin 128, lit0t0_320 r.val = T 5 (r.val % 16) := by decide +kernel
  have e : lit0t0_320 i = lit0t0_320 (i % 128) := by unfold lit0t0_320; rw [Nat.mod_mod]
  rw [e, show i % 16 = i % 128 % 16 by omega]
  exact h ⟨i % 128, Nat.mod_lt _ (by decide)⟩

theorem part2 (i : ℕ) : lit0t1_2 i = T (4 + i / 128 % 128 / 64) (i % 16) := by
  unfold lit0t1_2
  have h : i / 128 % 128 < 128 := Nat.mod_lt _ (by decide)
  generalize i / 128 % 128 = c at h ⊢
  interval_cases c
  iterate 64 (exact base4 i)
  iterate 64 (exact base5 i)

theorem base6 (i : ℕ) : lit0t0_384 i = T 6 (i % 16) := by
  have h : ∀ r : Fin 128, lit0t0_384 r.val = T 6 (r.val % 16) := by decide +kernel
  have e : lit0t0_384 i = lit0t0_384 (i % 128) := by unfold lit0t0_384; rw [Nat.mod_mod]
  rw [e, show i % 16 = i % 128 % 16 by omega]
  exact h ⟨i % 128, Nat.mod_lt _ (by decide)⟩

theorem base7 (i : ℕ) : lit0t0_448 i = T 7 (i % 16) := by
  have h : ∀ r : Fin 128, lit0t0_448 r.val = T 7 (r.val % 16) := by decide +kernel
  have e : lit0t0_448 i = lit0t0_448 (i % 128) := by unfold lit0t0_448; rw [Nat.mod_mod]
  rw [e, show i % 16 = i % 128 % 16 by omega]
  exact h ⟨i % 128, Nat.mod_lt _ (by decide)⟩

theorem part3 (i : ℕ) : lit0t1_3 i = T (6 + i / 128 % 128 / 64) (i % 16) := by
  unfold lit0t1_3
  have h : i / 128 % 128 < 128 := Nat.mod_lt _ (by decide)
  generalize i / 128 % 128 = c at h ⊢
  interval_cases c
  iterate 64 (exact base6 i)
  iterate 64 (exact base7 i)

theorem base8 (i : ℕ) : lit0t0_512 i = T 8 (i % 16) := by
  have h : ∀ r : Fin 128, lit0t0_512 r.val = T 8 (r.val % 16) := by decide +kernel
  have e : lit0t0_512 i = lit0t0_512 (i % 128) := by unfold lit0t0_512; rw [Nat.mod_mod]
  rw [e, show i % 16 = i % 128 % 16 by omega]
  exact h ⟨i % 128, Nat.mod_lt _ (by decide)⟩

theorem base9 (i : ℕ) : lit0t0_576 i = T 9 (i % 16) := by
  have h : ∀ r : Fin 128, lit0t0_576 r.val = T 9 (r.val % 16) := by decide +kernel
  have e : lit0t0_576 i = lit0t0_576 (i % 128) := by unfold lit0t0_576; rw [Nat.mod_mod]
  rw [e, show i % 16 = i % 128 % 16 by omega]
  exact h ⟨i % 128, Nat.mod_lt _ (by decide)⟩

theorem part4 (i : ℕ) : lit0t1_4 i = T (8 + i / 128 % 128 / 64) (i % 16) := by
  unfold lit0t1_4
  have h : i / 128 % 128 < 128 := Nat.mod_lt _ (by decide)
  generalize i / 128 % 128 = c at h ⊢
  interval_cases c
  iterate 64 (exact base8 i)
  iterate 64 (exact base9 i)

theorem base10 (i : ℕ) : lit0t0_640 i = T 10 (i % 16) := by
  have h : ∀ r : Fin 128, lit0t0_640 r.val = T 10 (r.val % 16) := by decide +kernel
  have e : lit0t0_640 i = lit0t0_640 (i % 128) := by unfold lit0t0_640; rw [Nat.mod_mod]
  rw [e, show i % 16 = i % 128 % 16 by omega]
  exact h ⟨i % 128, Nat.mod_lt _ (by decide)⟩

theorem base11 (i : ℕ) : lit0t0_704 i = T 11 (i % 16) := by
  have h : ∀ r : Fin 128, lit0t0_704 r.val = T 11 (r.val % 16) := by decide +kernel
  have e : lit0t0_704 i = lit0t0_704 (i % 128) := by unfold lit0t0_704; rw [Nat.mod_mod]
  rw [e, show i % 16 = i % 128 % 16 by omega]
  exact h ⟨i % 128, Nat.mod_lt _ (by decide)⟩

theorem part5 (i : ℕ) : lit0t1_5 i = T (10 + i / 128 % 128 / 64) (i % 16) := by
  unfold lit0t1_5
  have h : i / 128 % 128 < 128 := Nat.mod_lt _ (by decide)
  generalize i / 128 % 128 = c at h ⊢
  interval_cases c
  iterate 64 (exact base10 i)
  iterate 64 (exact base11 i)

theorem base12 (i : ℕ) : lit0t0_768 i = T 12 (i % 16) := by
  have h : ∀ r : Fin 128, lit0t0_768 r.val = T 12 (r.val % 16) := by decide +kernel
  have e : lit0t0_768 i = lit0t0_768 (i % 128) := by unfold lit0t0_768; rw [Nat.mod_mod]
  rw [e, show i % 16 = i % 128 % 16 by omega]
  exact h ⟨i % 128, Nat.mod_lt _ (by decide)⟩

theorem base13 (i : ℕ) : lit0t0_832 i = T 13 (i % 16) := by
  have h : ∀ r : Fin 128, lit0t0_832 r.val = T 13 (r.val % 16) := by decide +kernel
  have e : lit0t0_832 i = lit0t0_832 (i % 128) := by unfold lit0t0_832; rw [Nat.mod_mod]
  rw [e, show i % 16 = i % 128 % 16 by omega]
  exact h ⟨i % 128, Nat.mod_lt _ (by decide)⟩

theorem part6 (i : ℕ) : lit0t1_6 i = T (12 + i / 128 % 128 / 64) (i % 16) := by
  unfold lit0t1_6
  have h : i / 128 % 128 < 128 := Nat.mod_lt _ (by decide)
  generalize i / 128 % 128 = c at h ⊢
  interval_cases c
  iterate 64 (exact base12 i)
  iterate 64 (exact base13 i)

theorem base14 (i : ℕ) : lit0t0_896 i = T 14 (i % 16) := by
  have h : ∀ r : Fin 128, lit0t0_896 r.val = T 14 (r.val % 16) := by decide +kernel
  have e : lit0t0_896 i = lit0t0_896 (i % 128) := by unfold lit0t0_896; rw [Nat.mod_mod]
  rw [e, show i % 16 = i % 128 % 16 by omega]
  exact h ⟨i % 128, Nat.mod_lt _ (by decide)⟩

theorem base15 (i : ℕ) : lit0t0_960 i = T 15 (i % 16) := by
  have h : ∀ r : Fin 128, lit0t0_960 r.val = T 15 (r.val % 16) := by decide +kernel
  have e : lit0t0_960 i = lit0t0_960 (i % 128) := by unfold lit0t0_960; rw [Nat.mod_mod]
  rw [e, show i % 16 = i % 128 % 16 by omega]
  exact h ⟨i % 128, Nat.mod_lt _ (by decide)⟩

theorem part7 (i : ℕ) : lit0t1_7 i = T (14 + i / 128 % 128 / 64) (i % 16) := by
  unfold lit0t1_7
  have h : i / 128 % 128 < 128 := Nat.mod_lt _ (by decide)
  generalize i / 128 % 128 = c at h ⊢
  interval_cases c
  iterate 64 (exact base14 i)
  iterate 64 (exact base15 i)

/-- The table, entry by entry. -/
theorem lit_at (n : Fin 131072) : lit0 n = if n.val / 8192 = n.val % 16 then 0x3F80#16 else 0x0000#16 := by
  obtain ⟨i, hi⟩ := n
  show lit0t i = T (i / 8192) (i % 16)
  unfold lit0t
  have h : i / 16384 < 8 := by omega
  have e : i / 8192 = 2 * (i / 16384) + i / 128 % 128 / 64 := by omega
  rw [e]
  generalize i / 16384 = c at h ⊢
  interval_cases c
  exact part0 i
  exact part1 i
  exact part2 i
  exact part3 i
  exact part4 i
  exact part5 i
  exact part6 i
  exact part7 i

end Cert.HgrnIdeal.Lit

end
-- ==== Proof.HgrnRefVal.lean ====
/- The recurrence's reference, entry by entry: what the loop's operands hold, and what a trip makes of the state. -/
module

public import proofs.«01_k».proof.Proof.Gen.HgrnRefIdeal.Step
public import proofs.«01_k».proof.Proof.HgrnAlg
public import Idealize.ShloMosaic.Lib.Pointwise

@[expose] public section

set_option maxRecDepth 16384

noncomputable section

open Idealize.ShloMosaic Idealize.ShloMosaic.TcCoe Cert.HgrnAlg

namespace Cert.HgrnRefIdeal.Val

open Cert.HgrnRefIdeal Cert.HgrnRefIdeal.Gen Cert.HgrnRefIdeal.Step

theorem foldl_sum {ι : Type} (l : List ι) (g : ι → EReal) (v : EReal) : l.foldl (fun r n => r + g n) v = v + (l.map g).sum := by
  induction l generalizing v with
  | nil => simp
  | cons a l ih => simp only [List.foldl_cons, List.map_cons, List.sum_cons, ih, add_assoc]

/-- A window sum from nothing is the sum over the window's places. -/
theorem window_at {s t u : Shape} (window strides lo hi : Fin s.rank → ℕ) (x : s.Idx → EReal) (init : u.Idx → EReal)
    (h : s.ReduceWindows window strides lo hi t) (hu : 0 < u.numel) (h0 : init (Shape.Idx.first hu) = 0) (j : t.Idx) :
    (Host.reduceWindowAdd (F := Ideal) (φ := .f32) window strides lo hi x init h hu : t.Idx → EReal) j
      = ∑ w : (⟨s.rank, window⟩ : Shape).Idx, (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0) := by
  show Host.reduceWindow (· + ·) window strides lo hi x (fun _ : (⟨0, ![]⟩ : Shape).Idx => init (Shape.Idx.first hu)) h (by decide) j = _
  rw [h0]
  unfold Host.reduceWindow
  refine (foldl_sum _ _ _).trans ?_
  rw [zero_add, ← Fin.sum_univ_def]
  refine Eq.trans (Finset.sum_congr rfl fun n _ => ?_) (Equiv.sum_comp (Shape.rowMajor ⟨s.rank, window⟩).symm (fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0))
  dsimp only
  split <;> rfl

/-- The places of a window of 64 rows. -/
def rowsE : (⟨4, ![1, 1, 64, 1]⟩ : Shape).Idx ≃ Fin 64 where
  toFun w := w 2
  invFun n := ix4 (0 : Fin 1) (0 : Fin 1) n (0 : Fin 1)
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv n := rfl

/-- The places of a window of two. -/
def twoE : (⟨2, ![2, 1]⟩ : Shape).Idx ≃ Fin 2 where
  toFun w := w 0
  invFun n := ix2 n (0 : Fin 1)
  left_inv w := by
    funext a
    match a with
    | ⟨0, _⟩ => rfl
    | ⟨1, _⟩ => exact Subsingleton.elim (α := Fin 1) _ _
  right_inv n := rfl

/-- The running sums down a chunk's rows. -/
theorem b26_at (j : ℕ) (s : State Ideal) (b : Fin 32) (h : Fin 4) (t : Fin 64) (κ : Fin 128) :
    (b26 j s : S32x4x64x128.Idx → EReal) (ix4 b h t κ) = cum (fun t κ => (b11 j s : S32x4x64x128.Idx → EReal) (ix4 b h t κ)) t κ := by
  unfold b26
  refine (window_at _ _ _ _ _ _ _ _ (by pointwise [b25, b24]) _).trans ?_
  rw [← Equiv.sum_comp rowsE.symm]
  unfold cum
  generalize (b11 j s : S32x4x64x128.Idx → EReal) = x
  have hb := b.isLt
  have hh := h.isLt
  have ht := t.isLt
  have hκ := κ.isLt
  have e : ∀ n : Fin 64, (if hin : ∀ a, (![0, 0, 63, 0] : Fin 4 → ℕ) a ≤ ((ix4 b h t κ : S32x4x64x128.Idx) a).val * (![1, 1, 1, 1] : Fin 4 → ℕ) a + ((rowsE.symm n) a).val ∧ ((ix4 b h t κ : S32x4x64x128.Idx) a).val * (![1, 1, 1, 1] : Fin 4 → ℕ) a + ((rowsE.symm n) a).val - (![0, 0, 63, 0] : Fin 4 → ℕ) a < S32x4x64x128.size a
          then x (fun a => ⟨((ix4 b h t κ : S32x4x64x128.Idx) a).val * (![1, 1, 1, 1] : Fin 4 → ℕ) a + ((rowsE.symm n) a).val - (![0, 0, 63, 0] : Fin 4 → ℕ) a, (hin a).2⟩) else 0)
      = if hn : 63 ≤ t.val + n.val then x (ix4 b h (⟨t.val + n.val - 63, by omega⟩ : Fin 64) κ) else 0 := by
    intro n
    have hn := n.isLt
    by_cases h1 : 63 ≤ t.val + n.val
    · rw [dif_pos h1, dif_pos (fun a => by
        match a with
        | ⟨0, _⟩ => exact ⟨Nat.zero_le _, by show b.val * 1 + 0 - 0 < 32; omega⟩
        | ⟨1, _⟩ => exact ⟨Nat.zero_le _, by show h.val * 1 + 0 - 0 < 4; omega⟩
        | ⟨2, _⟩ => exact ⟨by show 63 ≤ t.val * 1 + n.val; omega, by show t.val * 1 + n.val - 63 < 64; omega⟩
        | ⟨3, _⟩ => exact ⟨Nat.zero_le _, by show κ.val * 1 + 0 - 0 < 128; omega⟩)]
      refine congrArg x (funext fun a => Fin.ext ?_)
      match a with
      | ⟨0, _⟩ => show b.val * 1 + 0 - 0 = b.val; omega
      | ⟨1, _⟩ => show h.val * 1 + 0 - 0 = h.val; omega
      | ⟨2, _⟩ => show t.val * 1 + n.val - 63 = t.val + n.val - 63; omega
      | ⟨3, _⟩ => show κ.val * 1 + 0 - 0 = κ.val; omega
    · rw [dif_neg h1, dif_neg (fun hin => h1 (by have := (hin (2 : Fin 4)).1; change 63 ≤ t.val * 1 + n.val at this; omega))]
  refine (Finset.sum_congr rfl fun n _ => e n).trans ?_
  refine Finset.sum_bij_ne_zero (fun n _ _ => (⟨(t.val + n.val - 63) % 64, Nat.mod_lt _ (by decide)⟩ : Fin 64)) (fun _ _ _ => Finset.mem_univ _) ?_ ?_ ?_
  · intro n _ hn n' _ hn' he
    have h1 : 63 ≤ t.val + n.val := by by_contra hc; exact hn (dif_neg hc)
    have h2 : 63 ≤ t.val + n'.val := by by_contra hc; exact hn' (dif_neg hc)
    have := congrArg Fin.val he
    have q1 := n.isLt
    have q2 := n'.isLt
    change (t.val + n.val - 63) % 64 = (t.val + n'.val - 63) % 64 at this
    exact Fin.ext (by omega)
  · intro r _ hr
    have h1 : r.val ≤ t.val := by by_contra hc; exact hr (if_neg hc)
    have hn : 63 ≤ t.val + (⟨r.val + 63 - t.val, by omega⟩ : Fin 64).val := by show 63 ≤ t.val + (r.val + 63 - t.val); omega
    refine ⟨⟨r.val + 63 - t.val, by omega⟩, Finset.mem_univ _, ?_, ?_⟩
    · rw [dif_pos hn]
      rw [if_pos h1] at hr
      have : (⟨t.val + (r.val + 63 - t.val) - 63, by omega⟩ : Fin 64) = r := Fin.ext (by show t.val + (r.val + 63 - t.val) - 63 = r.val; omega)
      rw [this]
      exact hr
    · exact Fin.ext (by show (t.val + (r.val + 63 - t.val) - 63) % 64 = r.val; omega)
  · intro n _ hn
    have h1 : 63 ≤ t.val + n.val := by by_contra hc; exact hn (dif_neg hc)
    have q1 := n.isLt
    rw [dif_pos h1, if_pos (by show (t.val + n.val - 63) % 64 ≤ t.val; omega)]
    refine congrArg (fun r => x (ix4 b h r κ)) (Fin.ext ?_)
    show t.val + n.val - 63 = (t.val + n.val - 63) % 64
    omega

/-- The lower bound's column is the first share. -/
theorem v16_at (z : S32x2048x2048.Idx → EReal) (x : S2x512.Idx → EReal) (k : Fin 512) :
    (A_main_v16 (F := Ideal) z x : S512.Idx → EReal) (ix1 k) = (A_main_v13 (F := Ideal) z x : S2x512.Idx → EReal) (ix2 0 k) := by
  have hk := k.isLt
  refine Eq.trans (b := (A_main_v14 (F := Ideal) z x : S2x512.Idx → EReal) (ix2 0 k)) (by pointwise [A_main_v16, A_main_v15]) ?_
  unfold A_main_v14
  refine (window_at _ _ _ _ _ _ _ _ (by pointwise [K_main_call0_call0_v0, K_main_call0_call0_cst]) _).trans ?_
  rw [← Equiv.sum_comp twoE.symm, Fin.sum_univ_two]
  generalize (A_main_v13 (F := Ideal) z x : S2x512.Idx → EReal) = y
  rw [dif_neg (fun hin => by have := (hin (0 : Fin 2)).1; change 1 ≤ 0 * 1 + 0 at this; omega), zero_add, dif_pos (fun a => by
    match a with
    | ⟨0, _⟩ => exact ⟨by show 1 ≤ 0 * 1 + 1; omega, by show 0 * 1 + 1 - 1 < 2; omega⟩
    | ⟨1, _⟩ => exact ⟨Nat.zero_le _, by show k.val * 1 + 0 - 0 < 512; omega⟩)]
  refine congrArg y (funext fun a => Fin.ext ?_)
  match a with
  | ⟨0, _⟩ => rfl
  | ⟨1, _⟩ => show k.val * 1 + 0 - 0 = k.val; omega

/-- The larger of two logits, nothing being the least. -/
def mx (x : Fin 2 → EReal) : EReal := Finset.fold max (Ideal.ofBits FTy.f32 4286578688#32) x Finset.univ

theorem mx_ge (x : Fin 2 → EReal) (r : Fin 2) : x r ≤ mx x := Finset.le_fold_max _ |>.mpr (Or.inr ⟨r, Finset.mem_univ _, le_refl _⟩)

theorem mx_bot (x : Fin 2 → EReal) : max (Ideal.ofBits FTy.f32 4286578688#32) (mx x) = mx x :=
  max_eq_right (Finset.le_fold_max _ |>.mpr (Or.inl (le_refl _)))

/-- The lower bound of a column. -/
def lb (x : S2x512.Idx → EReal) (k : Fin 512) : EReal :=
  Ideal.div (Ideal.exp (x (ix2 0 k) - mx fun r => x (ix2 r k))) (Ideal.exp (x (ix2 0 k) - mx fun r => x (ix2 r k)) + Ideal.exp (x (ix2 1 k) - mx fun r => x (ix2 r k)))

theorem lb_le (x : S2x512.Idx → EReal) (k : Fin 512) : lb x k ≤ 1 :=
  share_le _ _ _ (mx_ge (fun r => x (ix2 r k)) 0) (mx_ge (fun r => x (ix2 r k)) 1)

theorem lbR_at (z : S32x2048x2048.Idx → EReal) (x : S2x512.Idx → EReal) (k : Fin 512) :
    (A_main_v16 (F := Ideal) z x : S512.Idx → EReal) (ix1 k) = lb x k := by
  refine (v16_at z x k).trans ?_
  unfold lb
  pointwise [A_main_v13, A_main_v12, A_main_v11, A_main_v10, A_main_v9, A_main_v8, A_main_v7, A_main_v6, A_main_v5, A_main_v3, K_main_v4, K_main_cst, K_main_cst_0, K_main_cst_1]
  rw [Fin.sum_univ_two]
  have e := mx_bot (fun r => x (ix2 r k))
  unfold mx at e ⊢
  rw [e]

/-- A row and a column of the rows. -/
abbrev rw' (j : Fin 32) (t : Fin 64) : Fin 2048 := ⟨j.val * 64 + t.val, by omega⟩
abbrev cl (h : Fin 4) (κ : Fin 128) : Fin 512 := ⟨h.val * 128 + κ.val, by omega⟩

/-- A chunk's queries, keys, logarithms of gates, and values. -/
def qR (z : S32x2048x2048.Idx → EReal) (b j : Fin 32) (h : Fin 4) (t : Fin 64) (κ : Fin 128) : EReal :=
  z (ix3 b (rw' j t) ⟨h.val * 128 + κ.val, by omega⟩) * Ideal.div 1 (1 + Ideal.exp (-z (ix3 b (rw' j t) ⟨h.val * 128 + κ.val, by omega⟩)))
def fR (z : S32x2048x2048.Idx → EReal) (b j : Fin 32) (h : Fin 4) (t : Fin 64) (κ : Fin 128) : EReal :=
  z (ix3 b (rw' j t) ⟨512 + (h.val * 128 + κ.val), by omega⟩)
def kR (z : S32x2048x2048.Idx → EReal) (x : S2x512.Idx → EReal) (b j : Fin 32) (h : Fin 4) (t : Fin 64) (κ : Fin 128) : EReal :=
  (1 - lb x (cl h κ)) * Ideal.div 1 (1 + Ideal.exp (-(-fR z b j h t κ)))
def lR (z : S32x2048x2048.Idx → EReal) (x : S2x512.Idx → EReal) (b j : Fin 32) (h : Fin 4) (t : Fin 64) (κ : Fin 128) : EReal :=
  Ideal.log (lb x (cl h κ) + (1 - lb x (cl h κ)) * Ideal.div 1 (1 + Ideal.exp (-fR z b j h t κ)))
def vR (z : S32x2048x2048.Idx → EReal) (b j : Fin 32) (h : Fin 4) (t : Fin 64) (κ : Fin 128) : EReal :=
  z (ix3 b (rw' j t) ⟨1024 + (h.val * 128 + κ.val), by omega⟩)

theorem lR_le (z : S32x2048x2048.Idx → EReal) (x : S2x512.Idx → EReal) (b j : Fin 32) (h : Fin 4) (t : Fin 64) (κ : Fin 128) : lR z x b j h t κ ≤ 0 :=
  log_le _ (mix_le _ _ (lb_le x _) (sig_le _).1 (sig_le _).2)

theorem v54_at (z : S32x2048x2048.Idx → EReal) (x : S2x512.Idx → EReal) (j b : Fin 32) (h : Fin 4) (t : Fin 64) (κ : Fin 128) :
    (A_main_v54 (F := Ideal) z x : S32x32x4x64x128.Idx → EReal) (ix5 j b h t κ) = qR z b j h t κ := by
  unfold qR
  pointwise [A_main_v54, A_main_v53, A_main_v45, A_main_v43, A_main_call1_v5, A_main_call1_v3, A_main_call1_v1, A_main_call1_v0, A_main_v0, K_main_call1_v4, K_main_call1_v2, K_main_call1_cst, K_main_call1_cst_0]

theorem v56_at (z : S32x2048x2048.Idx → EReal) (x : S2x512.Idx → EReal) (j b : Fin 32) (h : Fin 4) (t : Fin 64) (κ : Fin 128) :
    (A_main_v56 (F := Ideal) z x : S32x32x4x64x128.Idx → EReal) (ix5 j b h t κ) = lR z x b j h t κ := by
  unfold lR fR
  pointwise [A_main_v56, A_main_v55, A_main_v47, A_main_v46, A_main_v30, A_main_v29, A_main_v28, A_main_v27, A_main_v26, A_main_v25, A_main_v24, A_main_v22, A_main_v20, A_main_v19, A_main_v1, A_main_v18, K_main_v17, K_main_v21, K_main_v23, K_main_cst_2, K_main_cst_3, K_main_cst_4]
  simp only [lbR_at]

theorem v58_at (z : S32x2048x2048.Idx → EReal) (x : S2x512.Idx → EReal) (j b : Fin 32) (h : Fin 4) (t : Fin 64) (κ : Fin 128) :
    (A_main_v58 (F := Ideal) z x : S32x32x4x64x128.Idx → EReal) (ix5 j b h t κ) = kR z x b j h t κ := by
  unfold kR fR
  pointwise [A_main_v58, A_main_v57, A_main_v48, A_main_v42, A_main_v41, A_main_v40, A_main_v39, A_main_v37, A_main_v35, A_main_v34, A_main_v33, A_main_v32, A_main_v1, K_main_v31, K_main_v36, K_main_v38, K_main_cst_5, K_main_cst_6, K_main_cst_7]
  simp only [lbR_at]

theorem v60_at (z : S32x2048x2048.Idx → EReal) (x : S2x512.Idx → EReal) (j b : Fin 32) (h : Fin 4) (t : Fin 64) (κ : Fin 128) :
    (A_main_v60 (F := Ideal) z x : S32x32x4x64x128.Idx → EReal) (ix5 j b h t κ) = vR z b j h t κ := by
  unfold vR
  pointwise [A_main_v60, A_main_v59, A_main_v49, A_main_v2]

theorem mask_at : ∀ t s : Fin 64, (K_main_v52 (F := Ideal)) (ix3 t s 0) = if s.val ≤ t.val then 1#1 else 0#1 := by decide +kernel

theorem sel_if (p : Prop) [Decidable p] (a b : EReal) : Scalar.select (if p then 1#1 else 0#1) a b = if p then a else b := by
  by_cases h : p
  · rw [if_pos h, if_pos h]; rfl
  · rw [if_neg h, if_neg h]; rfl

theorem neg_inf : Ideal.ofBits FTy.f32 4286578688#32 = ⊥ := by simp [Ideal.ofBits, Ideal.ieee]

/-- A trip's attention. -/
theorem b45_at (j : ℕ) (s : State Ideal) (b : Fin 32) (h : Fin 4) (t t' : Fin 64) :
    (b45 j s : S32x4x64x64.Idx → EReal) (ix4 b h t t')
      = att (fun t κ => (b5 j s : S32x4x64x128.Idx → EReal) (ix4 b h t κ)) (fun t κ => (b17 j s : S32x4x64x128.Idx → EReal) (ix4 b h t κ)) (fun t κ => (b26 j s : S32x4x64x128.Idx → EReal) (ix4 b h t κ)) t t' := by
  unfold att
  pointwise [b45, b44, b43, b42, b41, b40, b39, b38, b37, b36, b35, b34, b33, b32, b31, b30, b29, b28, b27]
  refine Finset.sum_congr rfl fun κ _ => ?_
  rw [mask_at, sel_if, neg_inf]

/-- A trip's results. -/
theorem b50_at (j : ℕ) (s : State Ideal) (b : Fin 32) (h : Fin 4) (t : Fin 64) (d : Fin 128) :
    (b50 j s : S32x4x64x128.Idx → EReal) (ix4 b h t d)
      = outC (fun t κ => (b5 j s : S32x4x64x128.Idx → EReal) (ix4 b h t κ)) (fun t κ => (b17 j s : S32x4x64x128.Idx → EReal) (ix4 b h t κ)) (fun t κ => (b26 j s : S32x4x64x128.Idx → EReal) (ix4 b h t κ))
          (fun t κ => (b23 j s : S32x4x64x128.Idx → EReal) (ix4 b h t κ)) (fun κ d => (s.main_v62_6 : S32x4x128x128.Idx → EReal) (ix4 b h κ d)) t d := by
  unfold outC
  pointwise [b50, b49, b48, b47, b46]
  simp only [b45_at]

/-- A trip's state. -/
theorem b62_at (j : ℕ) (s : State Ideal) (b : Fin 32) (h : Fin 4) (κ : Fin 128) (d : Fin 128) :
    (b62 j s : S32x4x128x128.Idx → EReal) (ix4 b h κ d)
      = stS (fun t κ => (b17 j s : S32x4x64x128.Idx → EReal) (ix4 b h t κ)) (fun t κ => (b26 j s : S32x4x64x128.Idx → EReal) (ix4 b h t κ))
          (fun t κ => (b23 j s : S32x4x64x128.Idx → EReal) (ix4 b h t κ)) (fun κ d => (s.main_v62_6 : S32x4x128x128.Idx → EReal) (ix4 b h κ d)) κ d := by
  unfold stS
  pointwise [b62, b61, b60, b59, b58, b57, b56, b55, b54, b53, b52, b51]

/-- A trip's slices start at its number. -/
theorem starts (j : Fin 32) : ∀ (a : Fin 5), Host.clampedStart S32x32x4x64x128 S1x32x4x64x128 rfl (fun k => (((![(constantI S_ 32 (BitVec.ofNat 32 j.val) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k (Shape.Idx.first h_S_)).toInt) a = (![j.val, 0, 0, 0, 0] : Fin 5 → ℕ) a := by
  revert j
  decide +kernel

theorem ix5_ext {n0 n1 n2 n3 n4 : ℕ} {a a' : Fin n0} {b b' : Fin n1} {c c' : Fin n2} {d d' : Fin n3} {e e' : Fin n4}
    (ha : a = a') (hb : b = b') (hc : c = c') (hd : d = d') (he : e = e') : ix5 a b c d e = ix5 a' b' c' d' e' := by
  rw [ha, hb, hc, hd, he]

theorem ix4_ext {n0 n1 n2 n3 : ℕ} {a a' : Fin n0} {b b' : Fin n1} {c c' : Fin n2} {d d' : Fin n3}
    (ha : a = a') (hb : b = b') (hc : c = c') (hd : d = d') : ix4 a b c d = ix4 a' b' c' d' := by
  rw [ha, hb, hc, hd]

/-- A trip reads its own chunk. -/
theorem b5_at (j : Fin 32) (s : State Ideal) (b : Fin 32) (h : Fin 4) (t : Fin 64) (κ : Fin 128) :
    (b5 j.val s : S32x4x64x128.Idx → EReal) (ix4 b h t κ) = (s.main_v62_0 : S32x32x4x64x128.Idx → EReal) (ix5 j b h t κ) := by
  pointwise [b5, b4, b0, b1, b2, b3]
  refine congrArg (s.main_v62_0 : S32x32x4x64x128.Idx → EReal) (ix5_ext (Fin.ext ?_) (Fin.ext ?_) (Fin.ext ?_) (Fin.ext ?_) (Fin.ext ?_))
  · exact starts j 0
  · exact (congrArg (· + b.val) (starts j 1)).trans (Nat.zero_add _)
  · exact (congrArg (· + h.val) (starts j 2)).trans (Nat.zero_add _)
  · exact (congrArg (· + t.val) (starts j 3)).trans (Nat.zero_add _)
  · exact (congrArg (· + κ.val) (starts j 4)).trans (Nat.zero_add _)

theorem b11_at (j : Fin 32) (s : State Ideal) (b : Fin 32) (h : Fin 4) (t : Fin 64) (κ : Fin 128) :
    (b11 j.val s : S32x4x64x128.Idx → EReal) (ix4 b h t κ) = (s.main_v62_1 : S32x32x4x64x128.Idx → EReal) (ix5 j b h t κ) := by
  pointwise [b11, b10, b6, b7, b8, b9]
  refine congrArg (s.main_v62_1 : S32x32x4x64x128.Idx → EReal) (ix5_ext (Fin.ext ?_) (Fin.ext ?_) (Fin.ext ?_) (Fin.ext ?_) (Fin.ext ?_))
  · exact starts j 0
  · exact (congrArg (· + b.val) (starts j 1)).trans (Nat.zero_add _)
  · exact (congrArg (· + h.val) (starts j 2)).trans (Nat.zero_add _)
  · exact (congrArg (· + t.val) (starts j 3)).trans (Nat.zero_add _)
  · exact (congrArg (· + κ.val) (starts j 4)).trans (Nat.zero_add _)

theorem b17_at (j : Fin 32) (s : State Ideal) (b : Fin 32) (h : Fin 4) (t : Fin 64) (κ : Fin 128) :
    (b17 j.val s : S32x4x64x128.Idx → EReal) (ix4 b h t κ) = (s.main_v62_2 : S32x32x4x64x128.Idx → EReal) (ix5 j b h t κ) := by
  pointwise [b17, b16, b12, b13, b14, b15]
  refine congrArg (s.main_v62_2 : S32x32x4x64x128.Idx → EReal) (ix5_ext (Fin.ext ?_) (Fin.ext ?_) (Fin.ext ?_) (Fin.ext ?_) (Fin.ext ?_))
  · exact starts j 0
  · exact (congrArg (· + b.val) (starts j 1)).trans (Nat.zero_add _)
  · exact (congrArg (· + h.val) (starts j 2)).trans (Nat.zero_add _)
  · exact (congrArg (· + t.val) (starts j 3)).trans (Nat.zero_add _)
  · exact (congrArg (· + κ.val) (starts j 4)).trans (Nat.zero_add _)

theorem b23_at (j : Fin 32) (s : State Ideal) (b : Fin 32) (h : Fin 4) (t : Fin 64) (κ : Fin 128) :
    (b23 j.val s : S32x4x64x128.Idx → EReal) (ix4 b h t κ) = (s.main_v62_3 : S32x32x4x64x128.Idx → EReal) (ix5 j b h t κ) := by
  pointwise [b23, b22, b18, b19, b20, b21]
  refine congrArg (s.main_v62_3 : S32x32x4x64x128.Idx → EReal) (ix5_ext (Fin.ext ?_) (Fin.ext ?_) (Fin.ext ?_) (Fin.ext ?_) (Fin.ext ?_))
  · exact starts j 0
  · exact (congrArg (· + b.val) (starts j 1)).trans (Nat.zero_add _)
  · exact (congrArg (· + h.val) (starts j 2)).trans (Nat.zero_add _)
  · exact (congrArg (· + t.val) (starts j 3)).trans (Nat.zero_add _)
  · exact (congrArg (· + κ.val) (starts j 4)).trans (Nat.zero_add _)

/-- A trip writes its own chunk. -/
theorem b68_at (j : Fin 32) (s : State Ideal) (i b : Fin 32) (h : Fin 4) (t : Fin 64) (d : Fin 128) :
    (b68 j.val s : S32x32x4x64x128.Idx → EReal) (ix5 i b h t d) = if i = j then (b50 j.val s : S32x4x64x128.Idx → EReal) (ix4 b h t d) else (s.main_v62_7 : S32x32x4x64x128.Idx → EReal) (ix5 i b h t d) := by
  pointwise [b68, b67, b66, b65, b64, b63]
  have s0 := starts j 0
  have s1 := starts j 1
  have s2 := starts j 2
  have s3 := starts j 3
  have s4 := starts j 4
  simp only [Matrix.cons_val] at s0 s1 s2 s3 s4
  by_cases hij : i = j
  · subst hij
    rw [if_pos rfl]
    refine (dif_pos ⟨⟨le_of_eq s0, lt_of_lt_of_eq (Nat.lt_succ_self _) (congrArg (· + 1) s0.symm)⟩, (le_of_eq s1).trans (Nat.zero_le _), (le_of_eq s2).trans (Nat.zero_le _), (le_of_eq s3).trans (Nat.zero_le _), (le_of_eq s4).trans (Nat.zero_le _)⟩).trans ?_
    refine congrArg (b50 i.val s : S32x4x64x128.Idx → EReal) (ix4_ext (Fin.ext ?_) (Fin.ext ?_) (Fin.ext ?_) (Fin.ext ?_))
    · exact (congrArg (b.val - ·) s1).trans (Nat.sub_zero _)
    · exact (congrArg (h.val - ·) s2).trans (Nat.sub_zero _)
    · exact (congrArg (t.val - ·) s3).trans (Nat.sub_zero _)
    · exact (congrArg (d.val - ·) s4).trans (Nat.sub_zero _)
  · rw [if_neg hij]
    refine dif_neg fun hc => hij (Fin.ext (le_antisymm (Nat.lt_succ_iff.mp (lt_of_lt_of_eq hc.1.2 (congrArg (· + 1) s0))) ((le_of_eq s0.symm).trans hc.1.1)))

end Cert.HgrnRefIdeal.Val

end
-- ==== Proof.HgrnRefRun.lean ====
/- The reference's run over its trips: a valuation that carries a state takes one trip to a valuation that carries the next state. -/
module

public import proofs.«01_k».proof.Proof.Gen.HgrnRefIdeal.Run
public import proofs.«01_k».proof.Proof.Gen.HgrnRefIdeal.Step

@[expose] public section

noncomputable section

namespace Cert.HgrnRefIdeal.Trips

open Idealize.ShloMosaic Idealize.ShloMosaic.TcCoe Idealize.SL.Sem Idealize.ShloMosaic.StableHlo
open Cert.HgrnRefIdeal Cert.HgrnRefIdeal.Gen Cert.HgrnRefIdeal.Value

variable {F : FTy → Type} [FloatOps F]
variable (V : Valuation τ sig (Elt F)) (s : Step.State F) (n : ℕ)

/-- What a valuation before trip `n` holds: the state's arrays, the trip's number, the causal mask. -/
structure Carries : Prop where
  st : V (Proc.devRef .tc main_v62_6) = s.main_v62_6
  out : V (Proc.devRef .tc main_v62_7) = s.main_v62_7
  qs : V (Proc.devRef .tc main_v62_0) = s.main_v62_0
  ls : V (Proc.devRef .tc main_v62_1) = s.main_v62_1
  ks : V (Proc.devRef .tc main_v62_2) = s.main_v62_2
  vs : V (Proc.devRef .tc main_v62_3) = s.main_v62_3
  num : V (Proc.devRef .tc main_v62_5) = constantI S_ 32 (BitVec.ofNat 32 n)
  mask : V (Proc.devRef .tc main_v62_4) = Step.K_main_v52 (F := F)

variable {V s n}

set_option maxRecDepth 16384 in
theorem next_st (h : Carries V s n) : step_main_v62_6 V = (Step.step n s).main_v62_6 := by
  unfold step_main_v62_6 res_main_while0b_v86 res_main_while0b_v87 res_main_while0b_v108 res_main_while0b_v88
  simp only [h.st, h.ls, h.ks, h.vs, h.num, h.mask]
  rfl

set_option maxRecDepth 16384 in
theorem next_out (h : Carries V s n) : step_main_v62_7 V = (Step.step n s).main_v62_7 := by
  unfold step_main_v62_7 res_main_while0b_v84 res_main_while0b_v86 res_main_while0b_v87 res_main_while0b_v88
  simp only [h.st, h.out, h.qs, h.ls, h.ks, h.vs, h.num, h.mask]
  rfl

theorem next_num (h : Carries V s n) : step_main_v62_5 V = constantI S_ 32 (BitVec.ofNat 32 (n + 1)) := by
  unfold step_main_v62_5
  rw [h.num]
  funext y
  show BitVec.ofNat 32 n + 1#32 = BitVec.ofNat 32 (n + 1)
  rw [BitVec.ofNat_add]

theorem next (h : Carries V s n) : Carries (STEP V) (Step.step n s) (n + 1) :=
  ⟨(STEP_main_v62_6 V).trans (next_st h), (STEP_main_v62_7 V).trans (next_out h), (STEP_main_v62_0 V).trans h.qs,
    (STEP_main_v62_1 V).trans h.ls, (STEP_main_v62_2 V).trans h.ks, (STEP_main_v62_3 V).trans h.vs,
    (STEP_main_v62_5 V).trans (next_num h), (STEP_main_v62_4 V).trans h.mask⟩

variable (m : (ℓ : Loc nD τ sig) → Buf (Elt F) ℓ) (c : Dev nD)

/-- The arrays the loop starts from. -/
abbrev start : Step.State F :=
  Step.init (m ((c.tc : Thread nD τ).loc main_arg0)) (m ((c.tc : Thread nD τ).loc main_arg1))

/-- The state before trip `n`. -/
def states : ℕ → Step.State F
  | 0 => start m c
  | n + 1 => Step.step n (states n)

set_option maxRecDepth 65536 in
set_option maxHeartbeats 1000000 in
theorem carries_zero : Carries (entryContents preI m c) (start m c) 0 := by
  refine ⟨?_, ?_, ?_, ?_, ?_, ?_, ?_, ?_⟩ <;>
    (simp only [entryContents, afterL_cons, afterL_nil]; after_reads_simp; rfl)

theorem carries (n : ℕ) : Carries (STEP^[n] (entryContents preI m c)) (states m c n) n := by
  induction n with
  | zero => exact carries_zero m c
  | succ n ih => rw [Function.iterate_succ_apply']; exact next ih

set_option maxRecDepth 16384 in
theorem out_last {V : Valuation τ sig (Elt F)} {s : Step.State F} {n : ℕ} (h : Carries V s n)
    {x0 : (⟨S32x2048x2048, .f32⟩ : BufTy).Contents (Elt F)} (h0 : V (Proc.devRef .tc main_arg0) = x0)
    {x2 : (⟨S1x512, .f32⟩ : BufTy).Contents (Elt F)} (h2 : V (Proc.devRef .tc main_arg2) = x2) :
    out_main_v83 V = Step.R_main_v83 s x0 x2 := by
  unfold out_main_v83
  simp only [h.out, h0, h2]
  rfl

/-- The reference ends with its results read off the state after the 32nd trip, the arguments as they were. -/
theorem runs (ρ : Dev nD → PrngReg) :
    θ_run (defs (F := F)) (onTc (τ := τ) (main (F := F))) ⟨m, fun _ => 0, ρ⟩ fun r => ∀ c : Dev nD,
      r.2.mem ((c.tc : Thread nD τ).loc main_v83) = Step.R_main_v83 (states m c 32)
          (m ((c.tc : Thread nD τ).loc main_arg0)) (m ((c.tc : Thread nD τ).loc main_arg2))
      ∧ r.2.mem ((c.tc : Thread nD τ).loc main_v62_6) = (states m c 32).main_v62_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (out_last (carries m c 32) (iter_main_arg0 m c 32) (iter_main_arg2 m c 32)),
      (h c).2.1.trans (carries m c 32).st, (h c).2.2⟩) (Value.run m ρ)

end Cert.HgrnRefIdeal.Trips

end
-- ==== Proof.HgrnRefFinal.lean ====
/- The recurrence's reference, whole: the loop's state after its trips, and what is made of the chunks' results. -/
module

public import proofs.«01_k».proof.Proof.HgrnRefVal
public import proofs.«01_k».proof.Proof.HgrnRefRun

@[expose] public section

set_option maxRecDepth 16384

noncomputable section

open Idealize.ShloMosaic Idealize.ShloMosaic.TcCoe Idealize.SL.Sem Cert.HgrnAlg

namespace Cert.HgrnRefIdeal.Val

open Cert.HgrnRefIdeal Cert.HgrnRefIdeal.Gen Cert.HgrnRefIdeal.Step Cert.HgrnRefIdeal.Trips

/-- What a trip leaves as it was. -/
structure Fed (z : S32x2048x2048.Idx → EReal) (x : S2x512.Idx → EReal) (s : State Ideal) : Prop where
  q : s.main_v62_0 = A_main_v54 z x
  l : s.main_v62_1 = A_main_v56 z x
  k : s.main_v62_2 = A_main_v58 z x
  v : s.main_v62_3 = A_main_v60 z x

/-- The running sums of a chunk's logarithms. -/
def aR (z : S32x2048x2048.Idx → EReal) (x : S2x512.Idx → EReal) (b j : Fin 32) (h : Fin 4) : Fin 64 → Fin 128 → EReal := cum (lR z x b j h)

section Trip

variable {z : S32x2048x2048.Idx → EReal} {x : S2x512.Idx → EReal} {s : State Ideal} (f : Fed z x s) (j b : Fin 32) (h : Fin 4)

include f

theorem q_eq : (fun t κ => (b5 j.val s : S32x4x64x128.Idx → EReal) (ix4 b h t κ)) = qR z b j h := by
  funext t κ
  rw [b5_at, f.q, v54_at]

theorem k_eq : (fun t κ => (b17 j.val s : S32x4x64x128.Idx → EReal) (ix4 b h t κ)) = kR z x b j h := by
  funext t κ
  rw [b17_at, f.k, v58_at]

theorem v_eq : (fun t κ => (b23 j.val s : S32x4x64x128.Idx → EReal) (ix4 b h t κ)) = vR z b j h := by
  funext t κ
  rw [b23_at, f.v, v60_at]

theorem a_eq : (fun t κ => (b26 j.val s : S32x4x64x128.Idx → EReal) (ix4 b h t κ)) = aR z x b j h := by
  funext t κ
  rw [b26_at]
  unfold aR
  congr 1
  funext t κ
  rw [b11_at, f.l, v56_at]

theorem fed_step : Fed z x (step j.val s) := ⟨f.q, f.l, f.k, f.v⟩

theorem st_step (κ d : Fin 128) : ((step j.val s).main_v62_6 : S32x4x128x128.Idx → EReal) (ix4 b h κ d)
    = stS (kR z x b j h) (aR z x b j h) (vR z b j h) (fun κ d => (s.main_v62_6 : S32x4x128x128.Idx → EReal) (ix4 b h κ d)) κ d := by
  rw [step_main_v62_6, b62_at, k_eq f, a_eq f, v_eq f]

theorem out_step (i : Fin 32) (t : Fin 64) (d : Fin 128) : ((step j.val s).main_v62_7 : S32x32x4x64x128.Idx → EReal) (ix5 i b h t d)
    = if i = j then outC (qR z b j h) (kR z x b j h) (aR z x b j h) (vR z b j h) (fun κ d => (s.main_v62_6 : S32x4x128x128.Idx → EReal) (ix4 b h κ d)) t d
      else (s.main_v62_7 : S32x32x4x64x128.Idx → EReal) (ix5 i b h t d) := by
  rw [step_main_v62_7, b68_at, b50_at, k_eq f, a_eq f, v_eq f, q_eq f]

end Trip

/-- A number's chunk. -/
def J (n : ℕ) : Fin 32 := ⟨n % 32, Nat.mod_lt _ (by decide)⟩

theorem J_val (j : Fin 32) : J j.val = j := Fin.ext (Nat.mod_eq_of_lt j.isLt)

/-- The state after `n` chunks. -/
def SR (z : S32x2048x2048.Idx → EReal) (x : S2x512.Idx → EReal) (b : Fin 32) (h : Fin 4) : ℕ → Fin 128 → Fin 128 → EReal
  | 0 => fun _ _ => 0
  | n + 1 => stS (kR z x b (J n) h) (aR z x b (J n) h) (vR z b (J n) h) (SR z x b h n)

theorem SR_succ (z : S32x2048x2048.Idx → EReal) (x : S2x512.Idx → EReal) (b : Fin 32) (h : Fin 4) (n : ℕ) :
    SR z x b h (n + 1) = stS (kR z x b (J n) h) (aR z x b (J n) h) (vR z b (J n) h) (SR z x b h n) := rfl

/-- A chunk's results. -/
def OR (z : S32x2048x2048.Idx → EReal) (x : S2x512.Idx → EReal) (b j : Fin 32) (h : Fin 4) (t : Fin 64) (d : Fin 128) : EReal :=
  outC (qR z b j h) (kR z x b j h) (aR z x b j h) (vR z b j h) (SR z x b h j.val) t d

/-- The layer's results: normalized over a head's columns, weighted and gated. -/
def yR (z : S32x2048x2048.Idx → EReal) (x : S2x512.Idx → EReal) (w : S1x512.Idx → EReal) (b j : Fin 32) (h : Fin 4) (t : Fin 64) (d : Fin 128) : EReal :=
  OR z x b j h t d * Ideal.rsqrt (Ideal.div (∑ e : Fin 128, OR z x b j h t e * OR z x b j h t e) (Ideal.ofBits FTy.f32 1124073472#32) + Ideal.ofBits FTy.f32 897988541#32)
    * w (ix2 0 (cl h d))
    * (z (ix3 b (rw' j t) ⟨1536 + (h.val * 128 + d.val), by omega⟩) * Ideal.div 1 (1 + Ideal.exp (-z (ix3 b (rw' j t) ⟨1536 + (h.val * 128 + d.val), by omega⟩))))

variable (m : (ℓ : Loc nD τ sig) → Buf (Elt Ideal) ℓ) (c : Dev nD)

/-- The arrays the program is called with. -/
abbrev zA : S32x2048x2048.Idx → EReal := m ((c.tc : Thread nD τ).loc main_arg0)
abbrev xA : S2x512.Idx → EReal := m ((c.tc : Thread nD τ).loc main_arg1)
abbrev wA : S1x512.Idx → EReal := m ((c.tc : Thread nD τ).loc main_arg2)

theorem fed (n : ℕ) (hn : n ≤ 32) : Fed (zA m c) (xA m c) (states m c n) := by
  induction n with
  | zero => exact ⟨rfl, rfl, rfl, rfl⟩
  | succ n ih => exact fed_step (ih (by omega)) ⟨n, by omega⟩

theorem st_at (n : ℕ) (hn : n ≤ 32) (b : Fin 32) (h : Fin 4) (κ d : Fin 128) :
    ((states m c n).main_v62_6 : S32x4x128x128.Idx → EReal) (ix4 b h κ d) = SR (zA m c) (xA m c) b h n κ d := by
  induction n generalizing κ d with
  | zero =>
    show (K_main_v44 (F := Ideal) : S32x4x128x128.Idx → EReal) (ix4 b h κ d) = 0
    pointwise [K_main_v44, K_main_cst_8]
  | succ n ih =>
    have e : J n = ⟨n, by omega⟩ := J_val ⟨n, by omega⟩
    refine (st_step (fed m c n (by omega)) ⟨n, by omega⟩ b h κ d).trans ?_
    rw [show (fun κ d => ((states m c n).main_v62_6 : S32x4x128x128.Idx → EReal) (ix4 b h κ d)) = SR (zA m c) (xA m c) b h n from funext fun κ => funext fun d => ih (by omega) κ d]
    rw [SR_succ, e]

theorem out_at (n : ℕ) (hn : n ≤ 32) (i b : Fin 32) (hi : i.val < n) (h : Fin 4) (t : Fin 64) (d : Fin 128) :
    ((states m c n).main_v62_7 : S32x32x4x64x128.Idx → EReal) (ix5 i b h t d) = OR (zA m c) (xA m c) b i h t d := by
  induction n with
  | zero => exact absurd hi (Nat.not_lt_zero _)
  | succ n ih =>
    refine (out_step (fed m c n (by omega)) ⟨n, by omega⟩ b h i t d).trans ?_
    by_cases e : i = ⟨n, by omega⟩
    · rw [if_pos e, show (fun κ d => ((states m c n).main_v62_6 : S32x4x128x128.Idx → EReal) (ix4 b h κ d)) = SR (zA m c) (xA m c) b h n from funext fun κ => funext fun d => st_at m c n (by omega) b h κ d]
      obtain rfl : n = i.val := (congrArg Fin.val e).symm
      rfl
    · rw [if_neg e]
      refine ih (by omega) ?_
      have : i.val ≠ n := fun q => e (Fin.ext q)
      omega

theorem v83_at (s : State Ideal) (z : S32x2048x2048.Idx → EReal) (w : S1x512.Idx → EReal) (b j : Fin 32) (h : Fin 4) (t : Fin 64) (d : Fin 128) :
    (R_main_v83 s z w : S32x2048x512.Idx → EReal) (ix3 b (rw' j t) (cl h d))
      = (s.main_v62_7 : S32x32x4x64x128.Idx → EReal) (ix5 j b h t d) * Ideal.rsqrt (Ideal.div (∑ e : Fin 128, (s.main_v62_7 : S32x32x4x64x128.Idx → EReal) (ix5 j b h t e) * (s.main_v62_7 : S32x32x4x64x128.Idx → EReal) (ix5 j b h t e)) (Ideal.ofBits FTy.f32 1124073472#32) + Ideal.ofBits FTy.f32 897988541#32)
    * w (ix2 0 (cl h d))
    * (z (ix3 b (rw' j t) ⟨1536 + (h.val * 128 + d.val), by omega⟩) * Ideal.div 1 (1 + Ideal.exp (-z (ix3 b (rw' j t) ⟨1536 + (h.val * 128 + d.val), by omega⟩)))) := by
  have e1 : (⟨(j.val * 64 + t.val) / 64, by omega⟩ : Fin 32) = j := Fin.ext (by show (j.val * 64 + t.val) / 64 = j.val; omega)
  have e2 : (⟨(h.val * 128 + d.val) / 128, by omega⟩ : Fin 4) = h := Fin.ext (by show (h.val * 128 + d.val) / 128 = h.val; omega)
  have e3 : (⟨(j.val * 64 + t.val) % 64, by omega⟩ : Fin 64) = t := Fin.ext (by show (j.val * 64 + t.val) % 64 = t.val; omega)
  have e4 : (⟨(h.val * 128 + d.val) % 128, by omega⟩ : Fin 128) = d := Fin.ext (by show (h.val * 128 + d.val) % 128 = d.val; omega)
  have e5 : (⟨(h.val * 128 + d.val) / 128 * 128 + (h.val * 128 + d.val) % 128, by omega⟩ : Fin 512) = cl h d := Fin.ext (by show (h.val * 128 + d.val) / 128 * 128 + (h.val * 128 + d.val) % 128 = h.val * 128 + d.val; omega)
  pointwise [R_main_v83]
  simp only [e1, e2, e3, e4, e5]

theorem y_at (b j : Fin 32) (h : Fin 4) (t : Fin 64) (d : Fin 128) :
    (R_main_v83 (states m c 32) (zA m c) (wA m c) : S32x2048x512.Idx → EReal) (ix3 b (rw' j t) (cl h d))
      = yR (zA m c) (xA m c) (wA m c) b j h t d := by
  rw [v83_at]
  unfold yR
  simp only [out_at m c 32 (le_refl _) j b j.isLt]

end Cert.HgrnRefIdeal.Val

end
-- ==== Proof.HgrnBlocks.lean ====
/- The recurrence's kernel over the whole grid: its blocks of the arrays, the state carried from point to point, and its two
   arrays after the run. -/
module

public import proofs.«01_k».proof.Proof.HgrnIdealFrame
public import proofs.«01_k».proof.Proof.HgrnChunk
public import proofs.«01_k».proof.Proof.HgrnLit
public import proofs.«01_k».proof.Proof.HgrnRefFinal
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.HgrnIdeal.Final

open Cert.HgrnIdeal Cert.HgrnIdeal.Gen Cert.HgrnIdeal.Run Cert.HgrnIdeal.Frm Cert.HgrnIdeal.Val Cert.HgrnAlg
open Cert.HgrnRefIdeal.Val (cl rw' lb lb_le qR kR lR lR_le vR fR aR SR SR_succ J OR yR)

variable (m : (ℓ : Loc nD τ sig) → Buf (Elt Ideal) ℓ)

/-- Where each window sits at a point: the batch row is `t / 16`, the head `t % 16 / 4`, the row block `t % 4`. -/
theorem idx : ∀ t : Fin cfg0.N, win0_0.index t = ![t.val / 16, t.val % 4, t.val % 16 / 4] ∧ win0_1.index t = ![t.val / 16, t.val % 4, 4 + t.val % 16 / 4]
    ∧ win0_2.index t = ![t.val / 16, t.val % 4, 8 + t.val % 16 / 4] ∧ win0_3.index t = ![t.val / 16, t.val % 4, 12 + t.val % 16 / 4]
    ∧ win0_4.index t = ![0, t.val % 16 / 4] ∧ win0_5.index t = ![0, t.val % 16 / 4] ∧ win0_6.index t = ![t.val / 16, t.val % 16 / 4, 0, 0] ∧ win0_7.index t = ![0, 0]
    ∧ win0_8.index t = ![t.val / 16, t.val % 4, t.val % 16 / 4] ∧ win0_9.index t = ![t.val / 16, t.val % 16 / 4, 0, 0] :=
  (by decide +kernel : ∀ t : Fin grid0.N, _)

/-- The batch row of a point, -/
abbrev bt (t : Fin cfg0.N) : Fin 32 := ⟨t.val / 16, by have := t.isLt; have : cfg0.N = 512 := N_0; omega⟩
/-- its head, -/
abbrev hd (t : Fin cfg0.N) : Fin 4 := ⟨t.val % 16 / 4, by omega⟩
/-- and the row of the sequence that is row `r` of its block. -/
abbrev rt (t : Fin cfg0.N) (r : Fin 512) : Fin 2048 := ⟨t.val % 4 * 512 + r.val, by omega⟩

/-- The arrays the program is called with. -/
abbrev zA (c : Dev nD) : S32x2048x2048.Idx → EReal := m ((c : Thread nD τ).loc main_arg0)
abbrev xA (c : Dev nD) : S2x512.Idx → EReal := m ((c : Thread nD τ).loc main_arg1)
abbrev wA (c : Dev nD) : S1x512.Idx → EReal := m ((c : Thread nD τ).loc main_arg2)

theorem V5_at (c : Dev nD) (k : Fin 512) : (V m c main_v2 : S1x512.Idx → EReal) (ix2 0 k) = wA m c (ix2 0 k) := by
  unfold V
  simp only [hostOps0, List.flatten_cons, List.flatten_nil, List.append_nil, List.cons_append, List.nil_append]
  after_reads_at

theorem V6_at (c : Dev nD) (b : Fin 32) (h : Fin 4) (κ d : Fin 128) : (V m c main_v1 : S32x4x128x128.Idx → EReal) (ix4 b h κ d) = (0 : EReal) := by
  unfold V
  simp only [hostOps0, List.flatten_cons, List.flatten_nil, List.append_nil, List.cons_append, List.nil_append]
  after_reads_at

theorem b0 (c : Dev nD) (t : Fin cfg0.N) (r : Fin 512) (k : Fin 128) :
    (iblk m c 0 t : S1x512x128.Idx → EReal) (ix3 0 r k) = zA m c (ix3 (bt t) (rt t r) ⟨(hd t).val * 128 + k.val, by omega⟩) := by
  refine Eq.trans ?_ (congrFun (V_main_arg0 m c) (ix3 (bt t) (rt t r) ⟨(hd t).val * 128 + k.val, by omega⟩))
  blk_ext [iblk, idx t]

theorem b1 (c : Dev nD) (t : Fin cfg0.N) (r : Fin 512) (k : Fin 128) :
    (iblk m c 1 t : S1x512x128.Idx → EReal) (ix3 0 r k) = zA m c (ix3 (bt t) (rt t r) ⟨512 + ((hd t).val * 128 + k.val), by omega⟩) := by
  refine Eq.trans ?_ (congrFun (V_main_arg0 m c) (ix3 (bt t) (rt t r) ⟨512 + ((hd t).val * 128 + k.val), by omega⟩))
  blk_ext [iblk, idx t]

theorem b2 (c : Dev nD) (t : Fin cfg0.N) (r : Fin 512) (k : Fin 128) :
    (iblk m c 2 t : S1x512x128.Idx → EReal) (ix3 0 r k) = zA m c (ix3 (bt t) (rt t r) ⟨1024 + ((hd t).val * 128 + k.val), by omega⟩) := by
  refine Eq.trans ?_ (congrFun (V_main_arg0 m c) (ix3 (bt t) (rt t r) ⟨1024 + ((hd t).val * 128 + k.val), by omega⟩))
  blk_ext [iblk, idx t]

theorem b3 (c : Dev nD) (t : Fin cfg0.N) (r : Fin 512) (k : Fin 128) :
    (iblk m c 3 t : S1x512x128.Idx → EReal) (ix3 0 r k) = zA m c (ix3 (bt t) (rt t r) ⟨1536 + ((hd t).val * 128 + k.val), by omega⟩) := by
  refine Eq.trans ?_ (congrFun (V_main_arg0 m c) (ix3 (bt t) (rt t r) ⟨1536 + ((hd t).val * 128 + k.val), by omega⟩))
  blk_ext [iblk, idx t]

theorem b4 (c : Dev nD) (t : Fin cfg0.N) (r : Fin 2) (k : Fin 128) :
    (iblk m c 4 t : S2x128.Idx → EReal) (ix2 r k) = xA m c (ix2 r (cl (hd t) k)) := by
  refine Eq.trans ?_ (congrFun (V_main_arg1 m c) (ix2 r (cl (hd t) k)))
  blk_ext [iblk, idx t]

theorem b5 (c : Dev nD) (t : Fin cfg0.N) (k : Fin 128) :
    (iblk m c 5 t : S1x128.Idx → EReal) (ix2 0 k) = wA m c (ix2 0 (cl (hd t) k)) := by
  refine Eq.trans ?_ (V5_at m c (cl (hd t) k))
  blk_ext [iblk, idx t]

theorem b6 (c : Dev nD) (t : Fin cfg0.N) (κ d : Fin 128) :
    (iblk m c 6 t : S1x1x128x128.Idx → EReal) (ix4 0 0 κ d) = (0 : EReal) := by
  refine Eq.trans ?_ (V6_at m c (bt t) (hd t) κ d)
  blk_ext [iblk, idx t]

theorem lit_of (n : Fin 131072) (p : Fin 2048) (s : Fin 64) (hn : n.val = p.val * 64 + s.val) : Ideal.ofBits .bf16 (lit0 n) = if p.val / 128 = s.val % 16 then (1 : EReal) else 0 := by
  have q1 : (p.val * 64 + s.val) / 8192 = p.val / 128 := by omega
  have q2 : (p.val * 64 + s.val) % 16 = s.val % 16 := by omega
  rw [Cert.HgrnIdeal.Lit.lit_at, hn, q1, q2]
  by_cases h : p.val / 128 = s.val % 16
  · rw [if_pos h, if_pos h]
    exact Ideal.ofBits_one_bf16
  · rw [if_neg h, if_neg h]
    exact Ideal.ofBits_zero_bf16

theorem V7_at (c : Dev nD) (p : Fin 2048) (s : Fin 64) : (V m c main_cst : S2048x64.Idx → EReal) (ix2 p s) = if p.val / 128 = s.val % 16 then (1 : EReal) else 0 := by
  have e : (V m c main_cst : S2048x64.Idx → EReal) (ix2 p s) = Ideal.ofBits .bf16 (lit0 (S2048x64.rowMajor (ix2 p s))) := by
    unfold V
    simp only [hostOps0, List.flatten_cons, List.flatten_nil, List.append_nil, List.cons_append, List.nil_append]
    after_reads_at
  exact e.trans (lit_of (S2048x64.rowMajor (ix2 p s)) p s (Shape.rowMajor_val_two (ix2 p s)))

theorem b7 (c : Dev nD) (t : Fin cfg0.N) (p : Fin 2048) (s : Fin 64) :
    (iblk m c 7 t : S2048x64.Idx → EReal) (ix2 p s) = if p.val / 128 = s.val % 16 then (1 : EReal) else 0 := by
  refine Eq.trans ?_ (V7_at m c p s)
  blk_ext [iblk, idx t]

end Cert.HgrnIdeal.Final

end
-- ==== Proof.HgrnValue.lean ====
/- The recurrence's kernel over the whole grid: the state carried from point to point, and its two arrays after the run. -/
module

public import proofs.«01_k».proof.Proof.HgrnBlocks

@[expose] public section

set_option maxRecDepth 16384

noncomputable section

open Idealize.ShloMosaic Idealize.ShloMosaic.TcCoe Idealize.SL.Sem
open Idealize.ShloMosaic.Pipeline (Dat)

namespace Cert.HgrnIdeal.Final

open Cert.HgrnIdeal Cert.HgrnIdeal.Gen Cert.HgrnIdeal.Run Cert.HgrnIdeal.Frm Cert.HgrnIdeal.Val Cert.HgrnAlg
open Cert.HgrnRefIdeal.Val (cl rw' lb lb_le qR kR lR lR_le vR fR aR SR SR_succ J OR yR)

variable (m : (ℓ : Loc nD τ sig) → Buf (Elt Ideal) ℓ)

/-- A chunk's row, in its block. -/
theorem ch_at (x : Vec Ideal S1x512x128 .f32) (n : Fin 8) (t : Fin 64) (κ : Fin 128) :
    (ch x n : S1x64x128.Idx → EReal) (ix3 0 t κ) = (x : S1x512x128.Idx → EReal) (ix3 0 ⟨64 * n.val + t.val, by omega⟩ κ) := by
  unfold ch
  show x _ = x _
  refine congrArg x (funext fun a => Fin.ext ?_)
  fin_cases a
  · rfl
  · show 64 * n.val + 1 * t.val = 64 * n.val + t.val
    omega
  · show 0 + 1 * κ.val = κ.val
    omega

/-- The chunk of the sequence that is chunk `n` of a point's block. -/
abbrev jt (t : Fin cfg0.N) (n : Fin 8) : Fin 32 := ⟨t.val % 4 * 8 + n.val, by omega⟩

theorem row_eq (t : Fin cfg0.N) (n : Fin 8) (r : Fin 64) : rt t ⟨64 * n.val + r.val, by omega⟩ = rw' (jt t n) r :=
  Fin.ext (by show t.val % 4 * 512 + (64 * n.val + r.val) = (t.val % 4 * 8 + n.val) * 64 + r.val; omega)

section Point

variable (c : Dev nD) (t : Fin cfg0.N) (n : Fin 8)

theorem lb_pt (κ : Fin 128) : (k0_pay51 (iblk m c 4 t) : S1x128.Idx → EReal) (ix2 0 κ) = lb (xA m c) (cl (hd t) κ) := by
  rw [lb_at]
  simp only [b4 m c t]
  rfl

theorem lb1_pt (κ : Fin 128) : (k0_pay52 (iblk m c 4 t) : S1x128.Idx → EReal) (ix2 0 κ) = 1 - lb (xA m c) (cl (hd t) κ) := by
  rw [lb1_at, lb_pt]

theorem q_pt (r : Fin 64) (κ : Fin 128) : (qC (ch (iblk m c 0 t) n) : S64x128.Idx → EReal) (ix2 r κ) = qR (zA m c) (bt t) (jt t n) (hd t) r κ := by
  rw [qC_at, ch_at, b0 m c t, row_eq]
  rfl

theorem f_pt (r : Fin 64) (κ : Fin 128) : (ch (iblk m c 1 t) n : S1x64x128.Idx → EReal) (ix3 0 r κ) = fR (zA m c) (bt t) (jt t n) (hd t) r κ := by
  rw [ch_at, b1 m c t, row_eq]
  rfl

theorem v_pt (r : Fin 64) (κ : Fin 128) : (ch (iblk m c 2 t) n : S1x64x128.Idx → EReal) (ix3 0 r κ) = vR (zA m c) (bt t) (jt t n) (hd t) r κ := by
  rw [ch_at, b2 m c t, row_eq]
  rfl

theorem g_pt (r : Fin 64) (κ : Fin 128) : (ch (iblk m c 3 t) n : S1x64x128.Idx → EReal) (ix3 0 r κ) = zA m c (ix3 (bt t) (rw' (jt t n) r) ⟨1536 + ((hd t).val * 128 + κ.val), by omega⟩) := by
  rw [ch_at, b3 m c t, row_eq]

theorem k_pt (r : Fin 64) (κ : Fin 128) : (k0_pay8 (k0_pay52 (iblk m c 4 t)) (ch (iblk m c 1 t) n) : S64x128.Idx → EReal) (ix2 r κ) = kR (zA m c) (xA m c) (bt t) (jt t n) (hd t) r κ := by
  rw [p8_at, lb1_pt, f_pt]
  rfl

theorem l_pt (r : Fin 64) (κ : Fin 128) : (k0_pay9 (k0_pay51 (iblk m c 4 t)) (k0_pay52 (iblk m c 4 t)) (ch (iblk m c 1 t) n) : S64x128.Idx → EReal) (ix2 r κ) = lR (zA m c) (xA m c) (bt t) (jt t n) (hd t) r κ := by
  rw [p9_at, lb_pt, lb1_pt, f_pt]
  rfl

/-- A chunk takes the reference's state to the reference's next. -/
theorem chunk_st (st : Vec Ideal S128x128 .f32) (h : ∀ d κ, (st : S128x128.Idx → EReal) (ix2 d κ) = SR (zA m c) (xA m c) (bt t) (hd t) (t.val % 4 * 8 + n.val) κ d) (d κ : Fin 128) :
    (stC (k0_pay51 (iblk m c 4 t)) (k0_pay52 (iblk m c 4 t)) (k0_pay54 (F := Ideal)) (ch (iblk m c 1 t) n) (ch (iblk m c 2 t) n) st : S128x128.Idx → EReal) (ix2 d κ)
      = SR (zA m c) (xA m c) (bt t) (hd t) (t.val % 4 * 8 + (n.val + 1)) κ d := by
  rw [stC_at (k_pt m c t n) (l_pt m c t n) (lR_le (zA m c) (xA m c) (bt t) (jt t n) (hd t)) (v_pt m c t n)]
  rw [show (fun κ d => (st : S128x128.Idx → EReal) (ix2 d κ)) = SR (zA m c) (xA m c) (bt t) (hd t) (t.val % 4 * 8 + n.val) from funext fun κ => funext fun d => h d κ]
  rw [show t.val % 4 * 8 + (n.val + 1) = (t.val % 4 * 8 + n.val) + 1 from rfl, SR_succ,
    show J (t.val % 4 * 8 + n.val) = jt t n from Cert.HgrnRefIdeal.Val.J_val (jt t n)]
  rfl

/-- So the state before a point's chunk `n` is the reference's. -/
theorem chunks_st (st : Vec Ideal S128x128 .f32) (h : ∀ d κ, (st : S128x128.Idx → EReal) (ix2 d κ) = SR (zA m c) (xA m c) (bt t) (hd t) (t.val % 4 * 8) κ d) (k : ℕ) (hk : k ≤ 8) (d κ : Fin 128) :
    (stN (k0_pay51 (iblk m c 4 t)) (k0_pay52 (iblk m c 4 t)) (k0_pay54 (F := Ideal)) (iblk m c 1 t) (iblk m c 2 t) st k : S128x128.Idx → EReal) (ix2 d κ)
      = SR (zA m c) (xA m c) (bt t) (hd t) (t.val % 4 * 8 + k) κ d := by
  induction k generalizing d κ with
  | zero => exact h d κ
  | succ k ih =>
    rw [stN_succ _ _ _ _ _ _ ⟨k, hk⟩]
    exact chunk_st m c t ⟨k, hk⟩ _ (fun d κ => ih (by omega) d κ) d κ

end Point

theorem init_pt (c : Dev nD) (t : Fin cfg0.N) (d κ : Fin 128) : (k0_pay50 (iblk m c 6 t) : S128x128.Idx → EReal) (ix2 d κ) = (0 : EReal) := by
  have g : ∀ x : Vec Ideal S1x1x128x128 .f32, (k0_pay50 x : S128x128.Idx → EReal) (ix2 d κ) = (x : S1x1x128x128.Idx → EReal) (ix4 0 0 κ d) := fun x => by pointwise [k0_pay50]
  rw [g, b6 m c t]

/-- The state a point starts with is the reference's. -/
theorem bef_of (c : Dev nD) (t : Fin cfg0.N)
    (ih : ∀ (k : ℕ) (hk : k < cfg0.N), k < t.val → ∀ d κ : Fin 128, (stAt m c k hk : S128x128.Idx → EReal) (ix2 d κ) = SR (zA m c) (xA m c) (bt ⟨k, hk⟩) (hd ⟨k, hk⟩) (k % 4 * 8 + 8) κ d)
    (d κ : Fin 128) : (befAt m c t : S128x128.Idx → EReal) (ix2 d κ) = SR (zA m c) (xA m c) (bt t) (hd t) (t.val % 4 * 8) κ d := by
  unfold befAt
  by_cases h : t.val % 4 = 0
  · rw [if_pos h, init_pt, h]
    rfl
  · rw [if_neg h]
    refine (ih (t.val - 1) _ (by omega) d κ).trans ?_
    have e1 : bt ⟨t.val - 1, lt_of_le_of_lt (Nat.sub_le _ _) t.isLt⟩ = bt t := Fin.ext (by show (t.val - 1) / 16 = t.val / 16; omega)
    have e2 : hd ⟨t.val - 1, lt_of_le_of_lt (Nat.sub_le _ _) t.isLt⟩ = hd t := Fin.ext (by show (t.val - 1) % 16 / 4 = t.val % 16 / 4; omega)
    have e3 : (t.val - 1) % 4 * 8 + 8 = t.val % 4 * 8 := by omega
    rw [e1, e2, e3]

/-- The state after a point is the reference's. -/
theorem st_pt (c : Dev nD) (n : ℕ) : ∀ (hn : n < cfg0.N) (d κ : Fin 128),
    (stAt m c n hn : S128x128.Idx → EReal) (ix2 d κ) = SR (zA m c) (xA m c) (bt ⟨n, hn⟩) (hd ⟨n, hn⟩) (n % 4 * 8 + 8) κ d := by
  induction n using Nat.strong_induction_on with
  | _ n ih =>
    intro hn d κ
    rw [show stAt m c n hn = _ from stAt_eq m c ⟨n, hn⟩]
    unfold stK
    exact chunks_st m c ⟨n, hn⟩ _ (bef_of m c ⟨n, hn⟩ fun k hk hlt d κ => ih k hlt hk d κ) 8 le_rfl d κ

theorem bef_pt (c : Dev nD) (t : Fin cfg0.N) (d κ : Fin 128) :
    (befAt m c t : S128x128.Idx → EReal) (ix2 d κ) = SR (zA m c) (xA m c) (bt t) (hd t) (t.val % 4 * 8) κ d :=
  bef_of m c t (fun k hk _ d κ => st_pt m c k hk d κ) d κ

/-- A block of results, row by row. -/
theorem y_pt (c : Dev nD) (t : Fin cfg0.N) (n : Fin 8) (r : Fin 64) (d : Fin 128) :
    (oC (k0_pay51 (iblk m c 4 t)) (k0_pay52 (iblk m c 4 t)) (k0_pay53 (iblk m c 5 t)) (k0_pay54 (F := Ideal)) m76 m125 m142 (ch (iblk m c 0 t) n) (ch (iblk m c 1 t) n) (ch (iblk m c 2 t) n) (ch (iblk m c 3 t) n) (iblk m c 7 t)
        (stN (k0_pay51 (iblk m c 4 t)) (k0_pay52 (iblk m c 4 t)) (k0_pay54 (F := Ideal)) (iblk m c 1 t) (iblk m c 2 t) (befAt m c t) n.val) : S1x64x128.Idx → EReal) (ix3 0 r d)
      = yR (zA m c) (xA m c) (wA m c) (bt t) (jt t n) (hd t) r d := by
  rw [oC_at (q_pt m c t n) (k_pt m c t n) (l_pt m c t n) (lR_le (zA m c) (xA m c) (bt t) (jt t n) (hd t)) (v_pt m c t n) (g_pt m c t n) (iblk m c 7 t) (b7 m c t)]
  rw [show (fun κ d => (stN (k0_pay51 (iblk m c 4 t)) (k0_pay52 (iblk m c 4 t)) (k0_pay54 (F := Ideal)) (iblk m c 1 t) (iblk m c 2 t) (befAt m c t) n.val : S128x128.Idx → EReal) (ix2 d κ)) = SR (zA m c) (xA m c) (bt t) (hd t) (t.val % 4 * 8 + n.val)
    from funext fun κ => funext fun d => chunks_st m c t _ (bef_pt m c t) n.val (le_of_lt n.isLt) d κ]
  have g : ∀ x : Vec Ideal S1x128 .f32, (k0_pay53 x : S1x128.Idx → EReal) (ix2 0 d) = (x : S1x128.Idx → EReal) (ix2 0 d) := fun x => by pointwise [k0_pay53]
  rw [g, b5 m c t]
  rfl

/-- The arrays the reference returns, of the arrays it is called with. -/
def yArr (z : S32x2048x2048.Idx → EReal) (x : S2x512.Idx → EReal) (w : S1x512.Idx → EReal) : S32x2048x512.Idx → EReal := fun i =>
  have h1 : (i 1).val < 2048 := (i 1).isLt
  have h2 : (i 2).val < 512 := (i 2).isLt
  yR z x w (i 0) ⟨(i 1).val / 64, by omega⟩ ⟨(i 2).val / 128, by omega⟩ ⟨(i 1).val % 64, by omega⟩ ⟨(i 2).val % 128, by omega⟩

def sArr (z : S32x2048x2048.Idx → EReal) (x : S2x512.Idx → EReal) : S32x4x128x128.Idx → EReal := fun i => SR z x (i 0) (i 1) 32 (i 2) (i 3)

theorem yArr_at (z : S32x2048x2048.Idx → EReal) (x : S2x512.Idx → EReal) (w : S1x512.Idx → EReal) (b j : Fin 32) (h : Fin 4) (t : Fin 64) (d : Fin 128) :
    yArr z x w (ix3 b (rw' j t) (cl h d)) = yR z x w b j h t d := by
  have e1 : (⟨(j.val * 64 + t.val) / 64, by omega⟩ : Fin 32) = j := Fin.ext (by show (j.val * 64 + t.val) / 64 = j.val; omega)
  have e2 : (⟨(h.val * 128 + d.val) / 128, by omega⟩ : Fin 4) = h := Fin.ext (by show (h.val * 128 + d.val) / 128 = h.val; omega)
  have e3 : (⟨(j.val * 64 + t.val) % 64, by omega⟩ : Fin 64) = t := Fin.ext (by show (j.val * 64 + t.val) % 64 = t.val; omega)
  have e4 : (⟨(h.val * 128 + d.val) % 128, by omega⟩ : Fin 128) = d := Fin.ext (by show (h.val * 128 + d.val) % 128 = d.val; omega)
  show yR z x w b ⟨(j.val * 64 + t.val) / 64, _⟩ ⟨(h.val * 128 + d.val) / 128, _⟩ ⟨(j.val * 64 + t.val) % 64, _⟩ ⟨(h.val * 128 + d.val) % 128, _⟩ = _
  rw [e1, e2, e3, e4]

theorem yAt_pt (c : Dev nD) (t : Fin cfg0.N) (r : Fin 512) (d : Fin 128) :
    (yAt m c t : S1x512x128.Idx → EReal) (ix3 0 r d) = yArr (zA m c) (xA m c) (wA m c) (ix3 (bt t) (rt t r) (cl (hd t) d)) := by
  have e : rt t r = rw' (jt t ⟨r.val / 64, by omega⟩) ⟨r.val % 64, by omega⟩ := Fin.ext (by show t.val % 4 * 512 + r.val = (t.val % 4 * 8 + r.val / 64) * 64 + r.val % 64; omega)
  rw [e, yArr_at]
  exact y_pt m c t ⟨r.val / 64, by omega⟩ ⟨r.val % 64, by omega⟩ d

/-- The result array after the run is the reference's result. -/
theorem final8 (c : Dev nD) : (dats m 0 c).arrAt 8 (cfgs 0).N = yArr (zA m c) (xA m c) (wA m c) := by
  refine (dats m 0 c).arrAt_eq_of_covers 8 _ (by decide +kernel) fun t _ y => ?_
  blk_simp
  rw [after8]
  idx_vars y
  obtain rfl : y0 = 0 := Subsingleton.elim _ _
  refine (yAt_pt m c t y1 y2).trans ?_
  refine congrArg _ ?_
  blk_ext [idx t]

/-- The array of final states after the run is the reference's result. -/
theorem final9 (c : Dev nD) : (dats m 0 c).arrAt 9 (cfgs 0).N = sArr (zA m c) (xA m c) := by
  refine (dats m 0 c).arrAt_eq_of_covers 9 _ (by decide +kernel) fun t ht y => ?_
  have h3 : t.val % 4 = 3 := (flush0_9 t).mp ht
  blk_simp
  rw [after9]
  idx_vars y
  obtain rfl : y0 = 0 := Subsingleton.elim _ _
  obtain rfl : y1 = 0 := Subsingleton.elim _ _
  have g : ∀ x : Vec Ideal S128x128 .f32, (k0_pay3 x : S1x1x128x128.Idx → EReal) (ix4 0 0 y2 y3) = (x : S128x128.Idx → EReal) (ix2 y3 y2) := fun x => by pointwise [k0_pay3]
  unfold sAt
  refine (g _).trans ((st_pt m c t.val t.isLt y3 y2).trans ?_)
  rw [h3]
  show sArr (zA m c) (xA m c) (ix4 (bt t) (hd t) y2 y3) = _
  refine congrArg _ ?_
  blk_ext [idx t]

end Cert.HgrnIdeal.Final

end
-- ==== Proof.HgrnClaim.lean ====
/- The recurrence's claims: both arrays the kernel returns are the reference's. -/
module

public import proofs.«01_k».proof.Defs
public import proofs.«01_k».proof.Proof.HgrnFrame
public import proofs.«01_k».proof.Proof.HgrnValue
public import Idealize.ShloMosaic.Lib.Quiescent

@[expose] public section

noncomputable section

namespace Cert.Proof.HgrnClaim

open Idealize.ShloMosaic Idealize.ShloMosaic.TcCoe Idealize.SL.Sem
open Cert.HgrnRefIdeal.Val (zA xA wA)
open Cert.HgrnIdeal.Final (yArr sArr yArr_at)

/-- The reference ends with its arguments as they were; it declares no semaphore. -/
theorem frameR : quiescent_HgrnRefIdeal (hHgrnRefIdeal := Cert.HgrnRefIdeal.Gen.facts) := fun m ρ _ =>
  (θ_run _ _ _).mono (fun r h => ⟨fun c => (h c).2.2, sem_eq_zero_of_no_sems (by decide) r.2⟩)
    (Cert.HgrnRefIdeal.Trips.runs (F := Ideal) m ρ)

section Ref

open Cert.HgrnRefIdeal Cert.HgrnRefIdeal.Gen

variable (m : (ℓ : Loc nD τ sig) → Buf (Elt Ideal) ℓ) (c : Dev nD)

/-- The reference's results, of its arguments. -/
theorem refY : Step.R_main_v83 (Trips.states m c 32) (zA m c) (wA m c) = yArr (zA m c) (xA m c) (wA m c) := by
  funext i
  idx_vars i
  have e1 : i1 = Val.rw' ⟨i1.val / 64, by omega⟩ ⟨i1.val % 64, by omega⟩ := Fin.ext (by show i1.val = i1.val / 64 * 64 + i1.val % 64; omega)
  have e2 : i2 = Val.cl ⟨i2.val / 128, by omega⟩ ⟨i2.val % 128, by omega⟩ := Fin.ext (by show i2.val = i2.val / 128 * 128 + i2.val % 128; omega)
  rw [e1, e2]
  exact (Val.y_at m c _ _ _ _ _).trans (yArr_at _ _ _ _ _ _ _ _).symm

/-- The reference's final state, of its arguments. -/
theorem refS : (Trips.states m c 32).main_v62_6 = sArr (zA m c) (xA m c) := by
  funext i
  idx_vars i
  exact Val.st_at m c 32 le_rfl i0 i1 i2 i3

end Ref

/-- The kernel's two arrays are the reference's. -/
theorem value : algebraic_HgrnIdeal_HgrnRefIdeal (hHgrnIdeal := Cert.HgrnIdeal.Gen.facts)
    (hHgrnRefIdeal := Cert.HgrnRefIdeal.Gen.facts) := by
  intro m ρ m' ρ' _ hag
  have hk := θ_run_and (Cert.HgrnIdeal.Frm.run_main (F := Ideal) m ρ) (Cert.HgrnIdeal.Frm.unchanged (F := Ideal) m ρ)
  have hr := Cert.HgrnRefIdeal.Trips.runs (F := Ideal) m' ρ'
  refine ⟨fun c => (Cert.HgrnIdeal.Frm.dats m 0 c).arrAt 8 Cert.HgrnIdeal.cfg0.N, fun c => (Cert.HgrnIdeal.Frm.dats m 0 c).arrAt 9 Cert.HgrnIdeal.cfg0.N,
    (θ_run _ _ _).mono (fun r h c => ⟨(h.1 c).1 8, (h.1 c).1 9, h.2 c⟩) hk, (θ_run _ _ _).mono (fun r h c => ?_) hr⟩
  obtain ⟨h0, h1, h2⟩ := hag c
  obtain ⟨r0, r1, ha⟩ := h c
  refine ⟨r0.trans ((refY m' c).trans ?_), r1.trans ((refS m' c).trans ?_), ha⟩
  · refine Eq.trans ?_ (Cert.HgrnIdeal.Final.final8 m c).symm
    unfold zA xA wA
    rw [h0, h1, h2]
  · refine Eq.trans ?_ (Cert.HgrnIdeal.Final.final9 m c).symm
    unfold zA xA
    rw [h0, h1]

end Cert.Proof.HgrnClaim

end
-- ==== Proof.ProjValue.lean ====
/- The input projection of the prompt: what the kernel's five output arrays hold after the run, index by index, against
   the reference's stages. -/
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjIdeal.Final

open Cert.ProjIdeal Cert.ProjIdeal.Gen

variable (m : (ℓ : Loc nD τ sig) → Buf (Elt Ideal) ℓ)

/-- The zero word read as an extended real. -/
theorem sitofp_zero : FloatOps.sitofp (F := Ideal) FTy.f32 0#32 = (0 : EReal) := by
  show (((0#32 : BitVec 32).toInt : ℝ) : EReal) = 0
  simp

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem V0_at (c : Dev nD) (r : Fin 65536) (k : Fin 1024) :
    (V m c main_v3 : S65536x1024.Idx → EReal) (ix2 r k)
      = (m ((c : Thread nD τ).loc main_arg0) : S32x2048x1024.Idx → EReal)
          (ix3 ⟨r.val / 2048, by omega⟩ ⟨r.val % 2048, by omega⟩ k) := by
  unfold V
  simp only [hostOps0, hostOps0_1, hostOps0_2, List.flatten_cons, List.flatten_nil, List.append_nil, List.cons_append, List.nil_append]
  after_reads_at
theorem V1_at (c : Dev nD) (k : Fin 1024) :
    (V m c main_v5 : S1x1024.Idx → EReal) (ix2 0 k)
      = (m ((c : Thread nD τ).loc main_arg1) : S1x1024.Idx → EReal) (ix2 0 k) := by
  unfold V
  simp only [hostOps0, hostOps0_1, hostOps0_2, List.flatten_cons, List.flatten_nil, List.append_nil, List.cons_append, List.nil_append]
  after_reads_at
theorem V2_at (c : Dev nD) (r : Fin 1024) (k : Fin 3456) :
    (V m c main_v2 : S1024x3456.Idx → EReal) (ix2 r k)
      = if h : k.val < 3352 then (m ((c : Thread nD τ).loc main_arg2) : S1x1024x3352.Idx → EReal) (ix3 0 r ⟨k.val, h⟩) else (0 : EReal) := by
  unfold V
  simp only [hostOps0, hostOps0_1, hostOps0_2, List.flatten_cons, List.flatten_nil, List.append_nil, List.cons_append, List.nil_append]
  after_reads_at
  rw [show FloatOps.sitofp (F := Ideal) FTy.f32 0#32 = (0 : EReal) from sitofp_zero]

theorem b0 (c : Dev nD) (t : Fin cfg0.N) (r : Fin 512) (k : Fin 1024) :
   (iblk m c 0 t : S512x1024.Idx → EReal) (ix2 r k) = (m ((c : Thread nD τ).loc main_arg0) : S32x2048x1024.Idx → EReal)
          (ix3 ⟨(t.val * 512 + r.val) / 2048, by have := t.isLt; have : cfg0.N = 128 := N_0; omega⟩ ⟨(t.val * 512 + r.val) % 2048, by omega⟩ k) := by
  have hN : cfg0.N = 128 := N_0
  have ht := t.isLt
  refine Eq.trans ?_ (V0_at m c ⟨t.val * 512 + r.val, by omega⟩ k)
  blk_ext [iblk, idx t]
theorem b1 (c : Dev nD) (t : Fin cfg0.N)  (k : Fin 1024) :
   (iblk m c 1 t : S1x1024.Idx → EReal) (ix2 0 k) = (m ((c : Thread nD τ).loc main_arg1) : S1x1024.Idx → EReal) (ix2 0 k) := by
  refine Eq.trans ?_ (V1_at m c k)
  blk_ext [iblk, idx t]
theorem b2 (c : Dev nD) (t : Fin cfg0.N) (r : Fin 1024) (k : Fin 3456) :
   (iblk m c 2 t : S1024x3456.Idx → EReal) (ix2 r k) = if h : k.val < 3352 then (m ((c : Thread nD τ).loc main_arg2) : S1x1024x3352.Idx → EReal) (ix3 0 r ⟨k.val, h⟩) else (0 : EReal) := by
  refine Eq.trans ?_ (V2_at m c r k)
  blk_ext [iblk, idx t]

open Cert.ProjRefIdeal.Read

/-- What grid point `t` stores at `y` of output window 3 is the reference's element where `y` sits in the array. -/
theorem point3 (c : Dev nD) (t : Fin cfg0.N) (y : S512x2048.Idx) :
    k0_pay4 (iblk m c 0 t) (iblk m c 1 t) (View.ld (iblk m c 2 t) r0_2) y
      = val_main_v19 (F := Ideal) (m ((c : Thread nD τ).loc main_arg0)) (m ((c : Thread nD τ).loc main_arg1))
          (m ((c : Thread nD τ).loc main_arg2)) (((cfg0.win 3).blk t).view.emb y) := by
  idx_vars y
  pointwise [k0_pay4, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  have hy : 0 + y1.val < 3352 := by omega
  have hy' : y1.val + 0 < 3352 := by omega
  have hy'' : y1.val < 3352 := by omega
  simp only [b0 m c t, b1 m c t, b2 m c t, hy, hy', hy'', ↓reduceDIte]
  blk_point [idx t]

/-- Output window 3's array after the run is the reference's result. -/
theorem final3 (c : Dev nD) : (dats m 0 c).arrAt 3 (cfgs 0).N
      = val_main_v19 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point3 m c t y

/-- What grid point `t` stores at `y` of output window 4 is the reference's element where `y` sits in the array. -/
theorem point4 (c : Dev nD) (t : Fin cfg0.N) (y : S512x512.Idx) :
    k0_pay5 (iblk m c 0 t) (iblk m c 1 t) (View.ld (iblk m c 2 t) r0_4) y
      = val_main_v20 (F := Ideal) (m ((c : Thread nD τ).loc main_arg0)) (m ((c : Thread nD τ).loc main_arg1))
          (m ((c : Thread nD τ).loc main_arg2)) (((cfg0.win 4).blk t).view.emb y) := by
  idx_vars y
  pointwise [k0_pay5, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  have hy : 2048 + y1.val < 3352 := by omega
  have hy' : y1.val + 2048 < 3352 := by omega
  have hy'' : y1.val < 3352 := by omega
  simp only [b0 m c t, b1 m c t, b2 m c t, hy, hy', hy'', ↓reduceDIte]
  blk_point [idx t]

/-- Output window 4's array after the run is the reference's result. -/
theorem final4 (c : Dev nD) : (dats m 0 c).arrAt 4 (cfgs 0).N
      = val_main_v20 (F := Ideal) (m ((c : Thread nD τ).loc main_arg0)) (m ((c : Thread nD τ).loc main_arg1))
          (m ((c : Thread nD τ).loc main_arg2)) := by
  refine (dats m 0 c).arrAt_eq_of_covers 4 _ (by decide +kernel) fun t _ y => ?_
  blk_simp
  rw [after0_4]; frame_out
  exact point4 m c t y

/-- What grid point `t` stores at `y` of output window 5 is the reference's element where `y` sits in the array. -/
theorem point5 (c : Dev nD) (t : Fin cfg0.N) (y : S512x512.Idx) :
    k0_pay6 (iblk m c 0 t) (iblk m c 1 t) (View.ld (iblk m c 2 t) r0_6) y
      = val_main_v21 (F := Ideal) (m ((c : Thread nD τ).loc main_arg0)) (m ((c : Thread nD τ).loc main_arg1))
          (m ((c : Thread nD τ).loc main_arg2)) (((cfg0.win 5).blk t).view.emb y) := by
  idx_vars y
  pointwise [k0_pay6, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  have hy : 2560 + y1.val < 3352 := by omega
  have hy' : y1.val + 2560 < 3352 := by omega
  have hy'' : y1.val < 3352 := by omega
  simp only [b0 m c t, b1 m c t, b2 m c t, hy, hy', hy'', ↓reduceDIte]
  blk_point [idx t]

/-- Output window 5's array after the run is the reference's result. -/
theorem final5 (c : Dev nD) : (dats m 0 c).arrAt 5 (cfgs 0).N
      = val_main_v21 (F := Ideal) (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]; frame_out
  exact point5 m c t y

/-- What grid point `t` stores at `y` of output window 6 is the reference's element where `y` sits in the array. -/
theorem point6 (c : Dev nD) (t : Fin cfg0.N) (y : S512x256.Idx) :
    k0_pay1 (k0_pay8 (iblk m c 0 t) (iblk m c 1 t) (iblk m c 2 t)) (k0_pay7 (View.ld (iblk m c 2 t) r0_7)) (constant S512x256 .f32 0x00000000#32) y
      = val_main_v22 (F := Ideal) (m ((c : Thread nD τ).loc main_arg0)) (m ((c : Thread nD τ).loc main_arg1))
          (m ((c : Thread nD τ).loc main_arg2)) (((cfg0.win 6).blk t).view.emb y) := by
  idx_vars y
  pointwise [k0_pay1, k0_pay7, k0_pay8, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  have hy : 3072 + y1.val < 3352 := by omega
  have hy' : y1.val + 3072 < 3352 := by omega
  simp only [b0 m c t, b1 m c t, b2 m c t, hy, hy', ↓reduceDIte]
  blk_point [idx t]

/-- Output window 6's array after the run is the reference's result. -/
theorem final6 (c : Dev nD) : (dats m 0 c).arrAt 6 (cfgs 0).N
      = val_main_v22 (F := Ideal) (m ((c : Thread nD τ).loc main_arg0)) (m ((c : Thread nD τ).loc main_arg1))
          (m ((c : Thread nD τ).loc main_arg2)) := by
  refine (dats m 0 c).arrAt_eq_of_covers 6 _ (by decide +kernel) fun t _ y => ?_
  blk_simp
  rw [after0_6]; frame_out
  exact point6 m c t y

/-- What grid point `t` stores at `y` of output window 7 is the reference's element where `y` sits in the array. -/
theorem point7 (c : Dev nD) (t : Fin cfg0.N) (y : S512x128.Idx) :
    k0_pay2 (k0_pay8 (iblk m c 0 t) (iblk m c 1 t) (iblk m c 2 t)) (View.ld (iblk m c 2 t) r0_9) y
      = val_main_v18 (F := Ideal) (m ((c : Thread nD τ).loc main_arg0)) (m ((c : Thread nD τ).loc main_arg1))
          (m ((c : Thread nD τ).loc main_arg2)) (((cfg0.win 7).blk t).view.emb y) := by
  idx_vars y
  pointwise [k0_pay2, k0_pay8, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  simp only [b0 m c t, b1 m c t, b2 m c t]
  have he : ((((cfg0.win 7).blk t).view.emb (ix2 y0 y1) : S65536x128.Idx) 1 : ℕ) = y1.val := by
    blk_simp [idx t]
  by_cases hc : y1.val < 24
  · have hy : 3328 + y1.val < 3352 := by omega
    simp only [hy, ↓reduceDIte]
    rw [dif_pos (by rw [show _ = _ from he]; exact hc)]
    blk_point [idx t]
  · have hy : ¬ 3328 + y1.val < 3352 := by omega
    simp only [hy, ↓reduceDIte, mul_zero, Finset.sum_const_zero]
    rw [dif_neg (by rw [show _ = _ from he]; exact hc)]
    exact sitofp_zero.symm

/-- Output window 7's array after the run is the reference's result. -/
theorem final7 (c : Dev nD) : (dats m 0 c).arrAt 7 (cfgs 0).N
      = val_main_v18 (F := Ideal) (m ((c : Thread nD τ).loc main_arg0)) (m ((c : Thread nD τ).loc main_arg1))
          (m ((c : Thread nD τ).loc main_arg2)) := by
  refine (dats m 0 c).arrAt_eq_of_covers 7 _ (by decide +kernel) fun t _ y => ?_
  blk_simp
  rw [after0_7]; frame_out
  exact point7 m c t y

end Cert.ProjIdeal.Final
-- ==== Proof.ProjClaim.lean ====
/- The projection's value claim: every array the projection kernel returns is the reference's. -/
module

public import proofs.«01_k».proof.Defs
public import proofs.«01_k».proof.Proof.Gen.Proj.Frame
public import proofs.«01_k».proof.Proof.ProjValue
public import proofs.«01_k».proof.Proof.Gen.ProjRefIdeal.Run
public import proofs.«01_k».proof.Proof.Gen.ProjRefIdeal.Read
public import Idealize.ShloMosaic.Lib.Quiescent

@[expose] public section

noncomputable section

namespace Cert.Proof.ProjClaim

open Idealize.ShloMosaic Idealize.ShloMosaic.TcCoe Idealize.SL.Sem
open Cert.ProjRefIdeal.Read

/-- The reference ends with its arguments as they were; it declares no semaphore. -/
theorem frameR : quiescent_ProjRefIdeal (hProjRefIdeal := Cert.ProjRefIdeal.Gen.facts) := fun m ρ _ =>
  (θ_run _ _ _).mono (fun r h => ⟨fun c => (h c).2.2.2.2.2, sem_eq_zero_of_no_sems (by decide) r.2⟩)
    (Cert.ProjRefIdeal.Value.run (F := Ideal) m ρ)

/-- The kernel's five arrays are the reference's. -/
theorem value : algebraic_ProjIdeal_ProjRefIdeal (hProjIdeal := Cert.ProjIdeal.Gen.facts)
    (hProjRefIdeal := Cert.ProjRefIdeal.Gen.facts) := by
  intro m ρ m' ρ' _ hag
  have hk := Cert.ProjIdeal.Value.run_blocks (F := Ideal) m ρ
  have hr := Cert.ProjRefIdeal.Value.run (F := Ideal) m' ρ'
  refine ⟨fun c => _, fun c => _, fun c => _, fun c => _, fun c => _, hk, (θ_run _ _ _).mono (fun r h c => ?_) hr⟩
  obtain ⟨h0, h1, h2⟩ := hag c
  obtain ⟨r0, r1, r2, r3, r4, ha⟩ := h c
  refine ⟨r0.trans ((val_main_v19_eq _ _ _).trans ?_), r1.trans ((val_main_v20_eq _ _ _).trans ?_), r2.trans ((val_main_v21_eq _ _ _).trans ?_), r3.trans ((val_main_v22_eq _ _ _).trans ?_), r4.trans ((val_main_v18_eq _ _ _).trans ?_), ha⟩
  · rw [h0, h1, h2]; exact (Cert.ProjIdeal.Final.final3 m c).symm
  · rw [h0, h1, h2]; exact (Cert.ProjIdeal.Final.final4 m c).symm
  · rw [h0, h1, h2]; exact (Cert.ProjIdeal.Final.final5 m c).symm
  · rw [h0, h1, h2]; exact (Cert.ProjIdeal.Final.final6 m c).symm
  · rw [h0, h1, h2]; exact (Cert.ProjIdeal.Final.final7 m c).symm

end Cert.Proof.ProjClaim

end
-- ==== Proof.ProjSValue.lean ====
/- The input projection of the sampled batch: what the kernel's five output arrays hold after the run, index by index, against
   the reference's stages. -/
module

public import proofs.«01_k».proof.Proof.Gen.ProjSIdeal.Value
public import proofs.«01_k».proof.Proof.Gen.ProjSRefIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjSIdeal.Final

open Cert.ProjSIdeal Cert.ProjSIdeal.Gen

variable (m : (ℓ : Loc nD τ sig) → Buf (Elt Ideal) ℓ)

/-- The zero word read as an extended real. -/
theorem sitofp_zero : FloatOps.sitofp (F := Ideal) FTy.f32 0#32 = (0 : EReal) := by
  show (((0#32 : BitVec 32).toInt : ℝ) : EReal) = 0
  simp

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem V0_at (c : Dev nD) (r : Fin 512) (k : Fin 1024) :
    (V m c main_v3 : S512x1024.Idx → EReal) (ix2 r k)
      = (m ((c : Thread nD τ).loc main_arg0) : S128x4x1024.Idx → EReal)
          (ix3 ⟨r.val / 4, by omega⟩ ⟨r.val % 4, by omega⟩ k) := by
  unfold V
  simp only [hostOps0, hostOps0_1, hostOps0_2, List.flatten_cons, List.flatten_nil, List.append_nil, List.cons_append, List.nil_append]
  after_reads_at
theorem V1_at (c : Dev nD) (k : Fin 1024) :
    (V m c main_v5 : S1x1024.Idx → EReal) (ix2 0 k)
      = (m ((c : Thread nD τ).loc main_arg1) : S1x1024.Idx → EReal) (ix2 0 k) := by
  unfold V
  simp only [hostOps0, hostOps0_1, hostOps0_2, List.flatten_cons, List.flatten_nil, List.append_nil, List.cons_append, List.nil_append]
  after_reads_at
theorem V2_at (c : Dev nD) (r : Fin 1024) (k : Fin 3456) :
    (V m c main_v2 : S1024x3456.Idx → EReal) (ix2 r k)
      = if h : k.val < 3352 then (m ((c : Thread nD τ).loc main_arg2) : S1x1024x3352.Idx → EReal) (ix3 0 r ⟨k.val, h⟩) else (0 : EReal) := by
  unfold V
  simp only [hostOps0, hostOps0_1, hostOps0_2, List.flatten_cons, List.flatten_nil, List.append_nil, List.cons_append, List.nil_append]
  after_reads_at
  rw [show FloatOps.sitofp (F := Ideal) FTy.f32 0#32 = (0 : EReal) from sitofp_zero]

theorem b0 (c : Dev nD) (t : Fin cfg0.N) (r : Fin 512) (k : Fin 1024) :
   (iblk m c 0 t : S512x1024.Idx → EReal) (ix2 r k) = (m ((c : Thread nD τ).loc main_arg0) : S128x4x1024.Idx → EReal)
          (ix3 ⟨(t.val * 512 + r.val) / 4, by have := t.isLt; have : cfg0.N = 1 := N_0; omega⟩ ⟨(t.val * 512 + r.val) % 4, by omega⟩ k) := by
  have hN : cfg0.N = 1 := N_0
  have ht := t.isLt
  refine Eq.trans ?_ (V0_at m c ⟨t.val * 512 + r.val, by omega⟩ k)
  blk_ext [iblk, idx t]
theorem b1 (c : Dev nD) (t : Fin cfg0.N)  (k : Fin 1024) :
   (iblk m c 1 t : S1x1024.Idx → EReal) (ix2 0 k) = (m ((c : Thread nD τ).loc main_arg1) : S1x1024.Idx → EReal) (ix2 0 k) := by
  refine Eq.trans ?_ (V1_at m c k)
  blk_ext [iblk, idx t]
theorem b2 (c : Dev nD) (t : Fin cfg0.N) (r : Fin 1024) (k : Fin 3456) :
   (iblk m c 2 t : S1024x3456.Idx → EReal) (ix2 r k) = if h : k.val < 3352 then (m ((c : Thread nD τ).loc main_arg2) : S1x1024x3352.Idx → EReal) (ix3 0 r ⟨k.val, h⟩) else (0 : EReal) := by
  refine Eq.trans ?_ (V2_at m c r k)
  blk_ext [iblk, idx t]

open Cert.ProjSRefIdeal.Read

/-- What grid point `t` stores at `y` of output window 3 is the reference's element where `y` sits in the array. -/
theorem point3 (c : Dev nD) (t : Fin cfg0.N) (y : S512x2048.Idx) :
    k0_pay4 (iblk m c 0 t) (iblk m c 1 t) (View.ld (iblk m c 2 t) r0_2) y
      = val_main_v19 (F := Ideal) (m ((c : Thread nD τ).loc main_arg0)) (m ((c : Thread nD τ).loc main_arg1))
          (m ((c : Thread nD τ).loc main_arg2)) (((cfg0.win 3).blk t).view.emb y) := by
  idx_vars y
  pointwise [k0_pay4, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  have hy : 0 + y1.val < 3352 := by omega
  have hy' : y1.val + 0 < 3352 := by omega
  have hy'' : y1.val < 3352 := by omega
  simp only [b0 m c t, b1 m c t, b2 m c t, hy, hy', hy'', ↓reduceDIte]
  blk_point [idx t]

/-- Output window 3's array after the run is the reference's result. -/
theorem final3 (c : Dev nD) : (dats m 0 c).arrAt 3 (cfgs 0).N
      = val_main_v19 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point3 m c t y

/-- What grid point `t` stores at `y` of output window 4 is the reference's element where `y` sits in the array. -/
theorem point4 (c : Dev nD) (t : Fin cfg0.N) (y : S512x512.Idx) :
    k0_pay5 (iblk m c 0 t) (iblk m c 1 t) (View.ld (iblk m c 2 t) r0_4) y
      = val_main_v20 (F := Ideal) (m ((c : Thread nD τ).loc main_arg0)) (m ((c : Thread nD τ).loc main_arg1))
          (m ((c : Thread nD τ).loc main_arg2)) (((cfg0.win 4).blk t).view.emb y) := by
  idx_vars y
  pointwise [k0_pay5, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  have hy : 2048 + y1.val < 3352 := by omega
  have hy' : y1.val + 2048 < 3352 := by omega
  have hy'' : y1.val < 3352 := by omega
  simp only [b0 m c t, b1 m c t, b2 m c t, hy, hy', hy'', ↓reduceDIte]
  blk_point [idx t]

/-- Output window 4's array after the run is the reference's result. -/
theorem final4 (c : Dev nD) : (dats m 0 c).arrAt 4 (cfgs 0).N
      = val_main_v20 (F := Ideal) (m ((c : Thread nD τ).loc main_arg0)) (m ((c : Thread nD τ).loc main_arg1))
          (m ((c : Thread nD τ).loc main_arg2)) := by
  refine (dats m 0 c).arrAt_eq_of_covers 4 _ (by decide +kernel) fun t _ y => ?_
  blk_simp
  rw [after0_4]; frame_out
  exact point4 m c t y

/-- What grid point `t` stores at `y` of output window 5 is the reference's element where `y` sits in the array. -/
theorem point5 (c : Dev nD) (t : Fin cfg0.N) (y : S512x512.Idx) :
    k0_pay6 (iblk m c 0 t) (iblk m c 1 t) (View.ld (iblk m c 2 t) r0_6) y
      = val_main_v21 (F := Ideal) (m ((c : Thread nD τ).loc main_arg0)) (m ((c : Thread nD τ).loc main_arg1))
          (m ((c : Thread nD τ).loc main_arg2)) (((cfg0.win 5).blk t).view.emb y) := by
  idx_vars y
  pointwise [k0_pay6, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  have hy : 2560 + y1.val < 3352 := by omega
  have hy' : y1.val + 2560 < 3352 := by omega
  have hy'' : y1.val < 3352 := by omega
  simp only [b0 m c t, b1 m c t, b2 m c t, hy, hy', hy'', ↓reduceDIte]
  blk_point [idx t]

/-- Output window 5's array after the run is the reference's result. -/
theorem final5 (c : Dev nD) : (dats m 0 c).arrAt 5 (cfgs 0).N
      = val_main_v21 (F := Ideal) (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]; frame_out
  exact point5 m c t y

/-- What grid point `t` stores at `y` of output window 6 is the reference's element where `y` sits in the array. -/
theorem point6 (c : Dev nD) (t : Fin cfg0.N) (y : S512x256.Idx) :
    k0_pay1 (k0_pay8 (iblk m c 0 t) (iblk m c 1 t) (iblk m c 2 t)) (k0_pay7 (View.ld (iblk m c 2 t) r0_7)) (constant S512x256 .f32 0x00000000#32) y
      = val_main_v22 (F := Ideal) (m ((c : Thread nD τ).loc main_arg0)) (m ((c : Thread nD τ).loc main_arg1))
          (m ((c : Thread nD τ).loc main_arg2)) (((cfg0.win 6).blk t).view.emb y) := by
  idx_vars y
  pointwise [k0_pay1, k0_pay7, k0_pay8, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  have hy : 3072 + y1.val < 3352 := by omega
  have hy' : y1.val + 3072 < 3352 := by omega
  simp only [b0 m c t, b1 m c t, b2 m c t, hy, hy', ↓reduceDIte]
  blk_point [idx t]

/-- Output window 6's array after the run is the reference's result. -/
theorem final6 (c : Dev nD) : (dats m 0 c).arrAt 6 (cfgs 0).N
      = val_main_v22 (F := Ideal) (m ((c : Thread nD τ).loc main_arg0)) (m ((c : Thread nD τ).loc main_arg1))
          (m ((c : Thread nD τ).loc main_arg2)) := by
  refine (dats m 0 c).arrAt_eq_of_covers 6 _ (by decide +kernel) fun t _ y => ?_
  blk_simp
  rw [after0_6]; frame_out
  exact point6 m c t y

/-- What grid point `t` stores at `y` of output window 7 is the reference's element where `y` sits in the array. -/
theorem point7 (c : Dev nD) (t : Fin cfg0.N) (y : S512x128.Idx) :
    k0_pay2 (k0_pay8 (iblk m c 0 t) (iblk m c 1 t) (iblk m c 2 t)) (View.ld (iblk m c 2 t) r0_9) y
      = val_main_v18 (F := Ideal) (m ((c : Thread nD τ).loc main_arg0)) (m ((c : Thread nD τ).loc main_arg1))
          (m ((c : Thread nD τ).loc main_arg2)) (((cfg0.win 7).blk t).view.emb y) := by
  idx_vars y
  pointwise [k0_pay2, k0_pay8, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  simp only [b0 m c t, b1 m c t, b2 m c t]
  have he : ((((cfg0.win 7).blk t).view.emb (ix2 y0 y1) : S512x128.Idx) 1 : ℕ) = y1.val := by
    blk_simp [idx t]
  by_cases hc : y1.val < 24
  · have hy : 3328 + y1.val < 3352 := by omega
    simp only [hy, ↓reduceDIte]
    rw [dif_pos (by rw [show _ = _ from he]; exact hc)]
    blk_point [idx t]
  · have hy : ¬ 3328 + y1.val < 3352 := by omega
    simp only [hy, ↓reduceDIte, mul_zero, Finset.sum_const_zero]
    rw [dif_neg (by rw [show _ = _ from he]; exact hc)]
    exact sitofp_zero.symm

/-- Output window 7's array after the run is the reference's result. -/
theorem final7 (c : Dev nD) : (dats m 0 c).arrAt 7 (cfgs 0).N
      = val_main_v18 (F := Ideal) (m ((c : Thread nD τ).loc main_arg0)) (m ((c : Thread nD τ).loc main_arg1))
          (m ((c : Thread nD τ).loc main_arg2)) := by
  refine (dats m 0 c).arrAt_eq_of_covers 7 _ (by decide +kernel) fun t _ y => ?_
  blk_simp
  rw [after0_7]; frame_out
  exact point7 m c t y

end Cert.ProjSIdeal.Final
-- ==== Proof.ProjSClaim.lean ====
/- The value claim of the sampled batch's projection: every array the kernel returns is the reference's. -/
module

public import proofs.«01_k».proof.Defs
public import proofs.«01_k».proof.Proof.Gen.ProjS.Frame
public import proofs.«01_k».proof.Proof.ProjSValue
public import proofs.«01_k».proof.Proof.Gen.ProjSRefIdeal.Run
public import proofs.«01_k».proof.Proof.Gen.ProjSRefIdeal.Read
public import Idealize.ShloMosaic.Lib.Quiescent

@[expose] public section

noncomputable section

namespace Cert.Proof.ProjSClaim

open Idealize.ShloMosaic Idealize.ShloMosaic.TcCoe Idealize.SL.Sem
open Cert.ProjSRefIdeal.Read

/-- The reference ends with its arguments as they were; it declares no semaphore. -/
theorem frameR : quiescent_ProjSRefIdeal (hProjSRefIdeal := Cert.ProjSRefIdeal.Gen.facts) := fun m ρ _ =>
  (θ_run _ _ _).mono (fun r h => ⟨fun c => (h c).2.2.2.2.2, sem_eq_zero_of_no_sems (by decide) r.2⟩)
    (Cert.ProjSRefIdeal.Value.run (F := Ideal) m ρ)

/-- The kernel's five arrays are the reference's. -/
theorem value : algebraic_ProjSIdeal_ProjSRefIdeal (hProjSIdeal := Cert.ProjSIdeal.Gen.facts)
    (hProjSRefIdeal := Cert.ProjSRefIdeal.Gen.facts) := by
  intro m ρ m' ρ' _ hag
  have hk := Cert.ProjSIdeal.Value.run_blocks (F := Ideal) m ρ
  have hr := Cert.ProjSRefIdeal.Value.run (F := Ideal) m' ρ'
  refine ⟨fun c => _, fun c => _, fun c => _, fun c => _, fun c => _, hk, (θ_run _ _ _).mono (fun r h c => ?_) hr⟩
  obtain ⟨h0, h1, h2⟩ := hag c
  obtain ⟨r0, r1, r2, r3, r4, ha⟩ := h c
  refine ⟨r0.trans ((val_main_v19_eq _ _ _).trans ?_), r1.trans ((val_main_v20_eq _ _ _).trans ?_), r2.trans ((val_main_v21_eq _ _ _).trans ?_), r3.trans ((val_main_v22_eq _ _ _).trans ?_), r4.trans ((val_main_v18_eq _ _ _).trans ?_), ha⟩
  · rw [h0, h1, h2]; exact (Cert.ProjSIdeal.Final.final3 m c).symm
  · rw [h0, h1, h2]; exact (Cert.ProjSIdeal.Final.final4 m c).symm
  · rw [h0, h1, h2]; exact (Cert.ProjSIdeal.Final.final5 m c).symm
  · rw [h0, h1, h2]; exact (Cert.ProjSIdeal.Final.final6 m c).symm
  · rw [h0, h1, h2]; exact (Cert.ProjSIdeal.Final.final7 m c).symm

end Cert.Proof.ProjSClaim

end
-- ==== Proof.FfnIdealRun.lean ====
module

public import proofs.«01_k».proof.Proof.Gen.FfnIdeal.Skeleton
public import proofs.«01_k».proof.Proof.Gen.FfnIdeal.Frame
public import Idealize.ShloMosaic.Lib.Pointwise
public import Idealize.ShloMosaic.Lib.VecWindow
public import Idealize.ShloMosaic.Lib.ValueLayout

@[expose] public section

set_option maxRecDepth 16384

noncomputable section

namespace Cert.FfnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

/-! The block function of one grid point: the residual, the normed rows, eleven tiles of the hidden width, the closing norm. -/

/-- A tile's columns end inside the hidden width. -/
theorem tile_le (j : Fin 11) : 256 * j.val + 256 ≤ 2816 := by have := j.isLt; omega

theorem inb_cols (R r : ℕ) (o : ℕ) (h : o + r ≤ R) (j : Fin 11) :
    ∀ a : Fin 2, (![o, 256 * j.val] : Fin 2 → ℕ) a + (![r, 256] : Fin 2 → ℕ) a ≤ (![R, 2816] : Fin 2 → ℕ) a :=
  Fin.forall_fin_two.mpr ⟨h, tile_le j⟩

theorem inb_rows (C : ℕ) (j : Fin 11) :
    ∀ a : Fin 2, (![256 * j.val, 0] : Fin 2 → ℕ) a + (![256, C] : Fin 2 → ℕ) a ≤ (![2816, C] : Fin 2 → ℕ) a :=
  Fin.forall_fin_two.mpr ⟨tile_le j, by simp⟩

/-- The rows after the mixers: the residual. -/
def resT (x0 : Vec F S1x512x1024 .f32) (x1 : Vec F S1x512x512 .f32) (x2 : Vec F S1x512x512 .f32) (x4 : Vec F S1024x1024 .bf16) : FVec F S512x1024 .f32 :=
  k0_pay3 (View.ld x0 (Rect.unit (s := S1x512x1024) ![0, 0, 0] S1x512x1024.size (by decide))) (View.ld x1 (Rect.unit (s := S1x512x512) ![0, 0, 0] S1x512x512.size (by decide))) (View.ld x4 (Rect.unit (s := S1024x1024) ![0, 0] S512x1024.size (by decide))) (View.ld x2 (Rect.unit (s := S1x512x512) ![0, 0, 0] S1x512x512.size (by decide))) (View.ld x4 (Rect.unit (s := S1024x1024) ![512, 0] S512x1024.size (by decide)))

/-- The normed rows. -/
def hnT (x0 : Vec F S1x512x1024 .f32) (x1 : Vec F S1x512x512 .f32) (x2 : Vec F S1x512x512 .f32) (x4 : Vec F S1024x1024 .bf16) (x5 : Vec F S1x1024 .f32) : FVec F S512x1024 .bf16 :=
  k0_pay4 (View.ld x0 (Rect.unit (s := S1x512x1024) ![0, 0, 0] S1x512x1024.size (by decide))) (View.ld x1 (Rect.unit (s := S1x512x512) ![0, 0, 0] S1x512x512.size (by decide))) (View.ld x4 (Rect.unit (s := S1024x1024) ![0, 0] S512x1024.size (by decide))) (View.ld x2 (Rect.unit (s := S1x512x512) ![0, 0, 0] S1x512x512.size (by decide))) (View.ld x4 (Rect.unit (s := S1024x1024) ![512, 0] S512x1024.size (by decide))) (View.ld x5 (Rect.unit (s := S1x1024) ![0, 0] S1x1024.size (by decide)))

/-- Columns of tile `j` of the gate weights. -/
def wgT (x6 : Vec F S1024x2816 .bf16) (j : Fin 11) : Vec F S1024x256 .bf16 :=
  View.ld x6 (Rect.unit (s := S1024x2816) ![0, 256 * j.val] S1024x256.size (inb_cols 1024 1024 0 (by decide) j))

/-- Row `r` of the convolution's weights, columns of tile `j`. -/
def cwT (x8 : Vec F S3x2816 .f32) (r : ℕ) (hr : r + 1 ≤ 3) (j : Fin 11) : Vec F S1x256 .f32 :=
  View.ld x8 (Rect.unit (s := S3x2816) ![r, 256 * j.val] S1x256.size (inb_cols 3 1 r hr j))

def cbT (x9 : Vec F S1x2816 .f32) (j : Fin 11) : Vec F S1x256 .f32 :=
  View.ld x9 (Rect.unit (s := S1x2816) ![0, 256 * j.val] S1x256.size (inb_cols 1 1 0 (by decide) j))

def wdT (x10 : Vec F S2816x1024 .bf16) (j : Fin 11) : Vec F S256x1024 .bf16 :=
  View.ld x10 (Rect.unit (s := S2816x1024) ![256 * j.val, 0] S256x1024.size (inb_rows 1024 j))

/-- Row `r` of the carried pair of rows, columns of tile `j`. -/
def crT (cr : Vec F S2x2816 .f32) (r : ℕ) (hr : r + 1 ≤ 2) (j : Fin 11) : Vec F S1x256 .f32 :=
  View.ld cr (Rect.unit (s := S2x2816) ![r, 256 * j.val] S1x256.size (inb_cols 2 1 r hr j))

/-- The gate's product of tile `j`. -/
def uT (x0 : Vec F S1x512x1024 .f32) (x1 : Vec F S1x512x512 .f32) (x2 : Vec F S1x512x512 .f32) (x4 : Vec F S1024x1024 .bf16) (x5 : Vec F S1x1024 .f32) (x6 : Vec F S1024x2816 .bf16) (j : Fin 11) : FVec F S512x256 .f32 := k0_pay14 (hnT x0 x1 x2 x4 x5) (wgT x6 j)

/-- The convolution of tile `j`, the rows above the block taken from `c0`, `c1`. -/
def convT (x0 : Vec F S1x512x1024 .f32) (x1 : Vec F S1x512x512 .f32) (x2 : Vec F S1x512x512 .f32) (x4 : Vec F S1024x1024 .bf16) (x5 : Vec F S1x1024 .f32) (x6 : Vec F S1024x2816 .bf16) (x8 : Vec F S3x2816 .f32) (x9 : Vec F S1x2816 .f32) (c0 c1 : Fin 11 → Vec F S1x256 .f32) (j : Fin 11) : FVec F S512x256 .f32 :=
  k0_pay16 (iota .tc S512x256 32 [0] iota_S512x256_d0_w32) (uT x0 x1 x2 x4 x5 x6 j) (c0 j) (c1 j) (cbT x9 j) (cwT x8 0 (by decide) j) (cwT x8 1 (by decide) j) (cwT x8 2 (by decide) j)

/-- The sum over the first `n` tiles. -/
def accT (x0 : Vec F S1x512x1024 .f32) (x1 : Vec F S1x512x512 .f32) (x2 : Vec F S1x512x512 .f32) (x4 : Vec F S1024x1024 .bf16) (x5 : Vec F S1x1024 .f32) (x6 : Vec F S1024x2816 .bf16) (x7 : Vec F S1024x2816 .bf16) (x8 : Vec F S3x2816 .f32) (x9 : Vec F S1x2816 .f32) (x10 : Vec F S2816x1024 .bf16) (c0 c1 : Fin 11 → Vec F S1x256 .f32) : (n : ℕ) → n ≤ 11 → FVec F S512x1024 .f32
  | 0, _ => k0_pay5
  | n + 1, h => k0_pay20 (accT x0 x1 x2 x4 x5 x6 x7 x8 x9 x10 c0 c1 n (Nat.le_of_succ_le h)) (k0_pay15 (hnT x0 x1 x2 x4 x5) (wgT x7 ⟨n, h⟩))
      (convT x0 x1 x2 x4 x5 x6 x8 x9 c0 c1 ⟨n, h⟩) (wdT x10 ⟨n, h⟩)

/-- The block of results. -/
def yT (x0 : Vec F S1x512x1024 .f32) (x1 : Vec F S1x512x512 .f32) (x2 : Vec F S1x512x512 .f32) (x4 : Vec F S1024x1024 .bf16) (x5 : Vec F S1x1024 .f32) (x6 : Vec F S1024x2816 .bf16) (x7 : Vec F S1024x2816 .bf16) (x8 : Vec F S3x2816 .f32) (x9 : Vec F S1x2816 .f32) (x10 : Vec F S2816x1024 .bf16) (x11 : Vec F S1x1024 .f32) (c0 c1 : Fin 11 → Vec F S1x256 .f32) : FVec F S1x512x1024 .f32 :=
  k0_pay1 (addf (resT x0 x1 x2 x4) (accT x0 x1 x2 x4 x5 x6 x7 x8 x9 x10 c0 c1 11 le_rfl))
    (k0_pay101 (View.ld x11 (Rect.unit (s := S1x1024) ![0, 0] S1x1024.size (by decide))))
    (k0_pay102 (resT x0 x1 x2 x4) (accT x0 x1 x2 x4 x5 x6 x7 x8 x9 x10 c0 c1 10 (by decide)) (k0_pay15 (hnT x0 x1 x2 x4 x5) (wgT x7 10)) (convT x0 x1 x2 x4 x5 x6 x8 x9 c0 c1 10) (wdT x10 10))

/-- The last two rows of the gate's product: what is carried on. -/
def tF (x0 : Vec F S1x512x1024 .f32) (x1 : Vec F S1x512x512 .f32) (x2 : Vec F S1x512x512 .f32) (x4 : Vec F S1024x1024 .bf16) (x5 : Vec F S1x1024 .f32) (x6 : Vec F S1024x2816 .bf16) : Vec F S2x2816 .f32 := fun y =>
  k0_pay17 (uT x0 x1 x2 x4 x5 x6 ⟨(y 1).val / 256, by have : (y 1).val < 2816 := (y 1).isLt; omega⟩)
    (ix2 (⟨(y 0).val, (y 0).isLt⟩ : Fin 2) (⟨(y 1).val % 256, Nat.mod_lt _ (by decide)⟩ : Fin 256))

def cF (x0 : Vec F S1x512x1024 .f32) (x1 : Vec F S1x512x512 .f32) (x2 : Vec F S1x512x512 .f32) (x4 : Vec F S1024x1024 .bf16) (x5 : Vec F S1x1024 .f32) (x6 : Vec F S1024x2816 .bf16) : Vec F S1x2x2816 .f32 := fun y => tF x0 x1 x2 x4 x5 x6 (ix2 (⟨(y 1).val, (y 1).isLt⟩ : Fin 2) (⟨(y 2).val, (y 2).isLt⟩ : Fin 2816))

/-- The carried pair of rows in the scratch. -/
def rows (d : Vec F S8x2816 .f32) : Vec F S2x2816 .f32 := fun y =>
  d (ix2 (⟨(y 0).val, by have : (y 0).val < 2 := (y 0).isLt; omega⟩ : Fin 8) (⟨(y 1).val, (y 1).isLt⟩ : Fin 2816))

theorem crT_rows (d : Vec F S8x2816 .f32) (r : ℕ) (hr : r + 1 ≤ 2) (j : Fin 11) :
    View.ld d (Rect.unit (s := S8x2816) ![r, 256 * j.val] S1x256.size (inb_cols 8 1 r (by omega) j)) = crT (rows d) r hr j := by
  funext x
  show d _ = d _
  refine congrArg d (funext fun a => Fin.ext ?_)
  fin_cases a <;> rfl

def yF (x0 : Vec F S1x512x1024 .f32) (x1 : Vec F S1x512x512 .f32) (x2 : Vec F S1x512x512 .f32) (x4 : Vec F S1024x1024 .bf16) (x5 : Vec F S1x1024 .f32) (x6 : Vec F S1024x2816 .bf16) (x7 : Vec F S1024x2816 .bf16) (x8 : Vec F S3x2816 .f32) (x9 : Vec F S1x2816 .f32) (x10 : Vec F S2816x1024 .bf16) (x11 : Vec F S1x1024 .f32) (cr : Vec F S2x2816 .f32) : FVec F S1x512x1024 .f32 :=
  yT x0 x1 x2 x4 x5 x6 x7 x8 x9 x10 x11 (crT cr 0 (by decide)) (crT cr 1 (by decide))

/-- One tile's piece of the carried rows. -/
theorem piece (x0 : Vec F S1x512x1024 .f32) (x1 : Vec F S1x512x512 .f32) (x2 : Vec F S1x512x512 .f32) (x4 : Vec F S1024x1024 .bf16) (x5 : Vec F S1x1024 .f32) (x6 : Vec F S1024x2816 .bf16) (j : Fin 11) (x : S2x256.Idx) (y : S2x2816.Idx)
    (h0 : (y 0).val = (x 0).val) (h1 : (y 1).val = 256 * j.val + (x 1).val) : k0_pay17 (uT x0 x1 x2 x4 x5 x6 j) x = tF x0 x1 x2 x4 x5 x6 y := by
  have hx : (x 1).val < 256 := (x 1).isLt
  have hj : (⟨(y 1).val / 256, by have : (y 1).val < 2816 := (y 1).isLt; omega⟩ : Fin 11) = j := Fin.ext (by show _ / 256 = _; omega)
  unfold tF
  rw [hj]
  refine congrArg _ (funext fun a => Fin.ext ?_)
  fin_cases a
  · exact h0.symm
  · show (x 1).val = (y 1).val % 256
    omega

theorem inb_C (j : Fin 11) : ∀ a : Fin 3, (![0, 0, 256 * j.val] : Fin 3 → ℕ) a + S1x2x256.size a ≤ S1x2x2816.size a := by
  have := j.isLt
  intro a; fin_cases a
  · show 0 + 1 ≤ 1; omega
  · show 0 + 2 ≤ 2; omega
  · show 256 * j.val + 256 ≤ 2816; omega

/-- One tile's piece of the block of carried rows. -/
theorem pieceC (x0 : Vec F S1x512x1024 .f32) (x1 : Vec F S1x512x512 .f32) (x2 : Vec F S1x512x512 .f32) (x4 : Vec F S1024x1024 .bf16) (x5 : Vec F S1x1024 .f32) (x6 : Vec F S1024x2816 .bf16) (j : Fin 11) (x : S1x2x256.Idx) :
    k0_pay19 (k0_pay17 (uT x0 x1 x2 x4 x5 x6 j)) x = cF x0 x1 x2 x4 x5 x6 ((Rect.unit (s := S1x2x2816) ![0, 0, 256 * j.val] S1x2x256.size (inb_C j)).emb x) := by
  have hx0 : (x 0).val < 1 := (x 0).isLt
  have e : x = ix3 (⟨0, by decide⟩ : Fin 1) (⟨(x 1).val, (x 1).isLt⟩ : Fin 2) (⟨(x 2).val, (x 2).isLt⟩ : Fin 256) := by
    funext a; fin_cases a
    · exact Fin.ext (by show (x 0).val = 0; omega)
    · rfl
    · rfl
  refine Eq.trans (?_ : _ = k0_pay17 (uT x0 x1 x2 x4 x5 x6 j) (ix2 (⟨(x 1).val, (x 1).isLt⟩ : Fin 2) (⟨(x 2).val, (x 2).isLt⟩ : Fin 256))) ?_
  · conv_lhs => rw [e]
    exact ValueIdx.shapeCast_ab_1ab_apply (k0_pay17 (uT x0 x1 x2 x4 x5 x6 j)) shapeCasts_S2x256_S1x2x256 ⟨0, by decide⟩ ⟨(x 1).val, (x 1).isLt⟩ ⟨(x 2).val, (x 2).isLt⟩
  · refine piece x0 x1 x2 x4 x5 x6 j _ _ ?_ ?_
    · show 0 + 1 * (x 1).val = _
      simp
    · show 256 * j.val + 1 * (x 2).val = _
      simp

theorem inb_T (j : Fin 11) : ∀ a : Fin 2, (![0, 256 * j.val] : Fin 2 → ℕ) a + S2x256.size a ≤ S8x2816.size a := by
  have := j.isLt
  intro a; fin_cases a
  · show 0 + 2 ≤ 8; omega
  · show 256 * j.val + 256 ≤ 2816; omega

/-- What the scratch's first two rows hold, told at every row. -/
def gT (x0 : Vec F S1x512x1024 .f32) (x1 : Vec F S1x512x512 .f32) (x2 : Vec F S1x512x512 .f32) (x4 : Vec F S1024x1024 .bf16) (x5 : Vec F S1x1024 .f32) (x6 : Vec F S1024x2816 .bf16) (z : S8x2816.Idx) : Elt F .f32 := tF x0 x1 x2 x4 x5 x6 (ix2 (⟨(z 0).val % 2, Nat.mod_lt _ (by decide)⟩ : Fin 2) (⟨(z 1).val, (z 1).isLt⟩ : Fin 2816))

theorem pieceT (x0 : Vec F S1x512x1024 .f32) (x1 : Vec F S1x512x512 .f32) (x2 : Vec F S1x512x512 .f32) (x4 : Vec F S1024x1024 .bf16) (x5 : Vec F S1x1024 .f32) (x6 : Vec F S1024x2816 .bf16) (j : Fin 11) (x : S2x256.Idx) :
    k0_pay18 (uT x0 x1 x2 x4 x5 x6 j) x = gT x0 x1 x2 x4 x5 x6 ((Rect.unit (s := S8x2816) ![0, 256 * j.val] S2x256.size (inb_T j)).emb x) := by
  have hx0 : (x 0).val < 2 := (x 0).isLt
  refine Eq.trans (congrFun (shapeCast_self (k0_pay17 (uT x0 x1 x2 x4 x5 x6 j)) shapeCasts_S2x256_S2x256) x : k0_pay18 (uT x0 x1 x2 x4 x5 x6 j) x = k0_pay17 (uT x0 x1 x2 x4 x5 x6 j) x) ?_
  refine piece x0 x1 x2 x4 x5 x6 j _ _ ?_ ?_
  · show (0 + 1 * (x 0).val) % 2 = _
    omega
  · show 256 * j.val + 1 * (x 1).val = _
    simp

/-- Each tile's piece holds its columns of the first two rows. -/
theorem mem_T (j : Fin 11) (z : S8x2816.Idx) (h0 : (z 0).val < 2) (h1 : (z 1).val / 256 = j.val) :
    z ∈ (Rect.unit (s := S8x2816) ![0, 256 * j.val] S2x256.size (inb_T j)).set := by
  refine Rect.mem_set_unit.2 fun a => ?_
  fin_cases a
  · exact ⟨Nat.zero_le _, by show (z 0).val < 0 + 2; omega⟩
  · refine ⟨?_, ?_⟩
    · show 256 * j.val ≤ (z 1).val; omega
    · show (z 1).val < 256 * j.val + 256; omega

theorem cover_T (L : List (View.Piece (Elt F) S8x2816 .f32)) (h : ∀ j : Fin 11, ∃ w : S2x256.Idx → Elt F .f32, (⟨Rect.unit (s := S8x2816) ![0, 256 * j.val] S2x256.size (inb_T j), w⟩ : View.Piece (Elt F) S8x2816 .f32) ∈ L)
    (z : S8x2816.Idx) (h0 : (z 0).val < 2) : ∃ p ∈ L, z ∈ p.1.set := by
  have hz : (z 1).val < 2816 := (z 1).isLt
  obtain ⟨w, hw⟩ := h ⟨(z 1).val / 256, by omega⟩
  exact ⟨_, hw, mem_T _ z h0 rfl⟩

theorem rows_of {v : Vec F S8x2816 .f32} (x0 : Vec F S1x512x1024 .f32) (x1 : Vec F S1x512x512 .f32) (x2 : Vec F S1x512x512 .f32) (x4 : Vec F S1024x1024 .bf16) (x5 : Vec F S1x1024 .f32) (x6 : Vec F S1024x2816 .bf16) (h : ∀ z : S8x2816.Idx, (z 0).val < 2 → v z = gT x0 x1 x2 x4 x5 x6 z) : rows v = tF x0 x1 x2 x4 x5 x6 := by
  funext y
  have hy : (y 0).val < 2 := (y 0).isLt
  refine (h _ (by exact hy)).trans ?_
  refine congrArg (tF x0 x1 x2 x4 x5 x6) (funext fun a => Fin.ext ?_)
  fin_cases a
  · show (y 0).val % 2 = (y 0).val; omega
  · rfl

/-- What a write over the first two rows leaves there. -/
theorem crT_writes {κ : Kind} {sp : Space} (v : View sig κ sp S8x2816 .f32) (f : v.ty.Contents (Elt F)) (w : Vec F S2x2816 .f32)
    (inb : ∀ a : Fin 2, (![0, 0] : Fin 2 → ℕ) a + S2x2816.size a ≤ S8x2816.size a) :
    rows (v.read (Elt F) (v.writes (Elt F) f [⟨Rect.unit (s := S8x2816) ![0, 0] S2x2816.size inb, w⟩])) = w := by
  funext y
  exact View.read_writes_cons_hit_of_coords v f (Rect.unit (s := S8x2816) ![0, 0] S2x2816.size inb) w [] y
    (ix2 (⟨(y 0).val, by have : (y 0).val < 2 := (y 0).isLt; omega⟩ : Fin 8) (⟨(y 1).val, (y 1).isLt⟩ : Fin 2816))
    (Fin.forall_fin_two.mpr ⟨by show (y 0).val = 0 + 1 * (y 0).val; omega, by show (y 1).val = 0 + 1 * (y 1).val; omega⟩)

set_option maxHeartbeats 4000000

/-- One grid point, run. -/
theorem runB (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S1x2x2816 .f32) (harg15 : arg15.IsWhole) (arg16 : Memref sig .tc .vmem S8x2816 .f32) (harg16 : arg16.IsWhole)
    (hc0 : ¬ (Scalar.cmpi .ne (Scalar.extui (Scalar.cmpi .eq (BitVec.ofNat 32 (i 1).val) 0#32)) 0#32) = 1#1)
    (x0 : Vec F S1x512x1024 .f32) (x1 : Vec F S1x512x512 .f32) (x2 : Vec F S1x512x512 .f32) (x3 : Vec F S1x2x2816 .f32) (x4 : Vec F S1024x1024 .bf16) (x5 : Vec F S1x1024 .f32) (x6 : Vec F S1024x2816 .bf16) (x7 : Vec F S1024x2816 .bf16) (x8 : Vec F S3x2816 .f32) (x9 : Vec F S1x2816 .f32) (x10 : Vec F S2816x1024 .bf16) (x11 : Vec F S1x1024 .f32) (xs0 : Vec F S8x2816 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xs0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (yF x0 x1 x2 x4 x5 x6 x7 x8 x9 x10 x11 (rows xs0)) ∗ owns (c : Thread nD τ) arg15 fullShare (cF x0 x1 x2 x4 x5 x6) ∗ (∃ d, owns (c : Thread nD τ) arg16 fullShare d ∗ ⌜rows d = tF x0 x1 x2 x4 x5 x6⌝)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr
    swap; · iexact H12
    ipureintro
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread]
    refine (View.read_writes_full _ _ _ _ _).trans ?_
    unfold yF
    refine Eq.trans ?_ (congrArg₂ (fun c0 c1 => yT x0 x1 x2 x4 x5 x6 x7 x8 x9 x10 x11 c0 c1) (funext fun j => crT_rows xs0 0 (by decide) j) (funext fun j => crT_rows xs0 1 (by decide) j))
    rfl
  isplitl [H13]
  · iexists _; isplitr
    swap; · iexact H13
    ipureintro
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread]
    funext y
    refine View.read_writes_apply_of_pieces _ _ (cF x0 x1 x2 x4 x5 x6) _ ?_ y (View.cover_of_tiledL _ ![1, 2, 256] (by sl_kernel_rfl) y)
    exact List.forall_mem_cons.2 ⟨fun x => pieceC x0 x1 x2 x4 x5 x6 10 x, List.forall_mem_cons.2 ⟨fun x => pieceC x0 x1 x2 x4 x5 x6 9 x, List.forall_mem_cons.2 ⟨fun x => pieceC x0 x1 x2 x4 x5 x6 8 x, List.forall_mem_cons.2 ⟨fun x => pieceC x0 x1 x2 x4 x5 x6 7 x, List.forall_mem_cons.2 ⟨fun x => pieceC x0 x1 x2 x4 x5 x6 6 x, List.forall_mem_cons.2 ⟨fun x => pieceC x0 x1 x2 x4 x5 x6 5 x, List.forall_mem_cons.2 ⟨fun x => pieceC x0 x1 x2 x4 x5 x6 4 x, List.forall_mem_cons.2 ⟨fun x => pieceC x0 x1 x2 x4 x5 x6 3 x, List.forall_mem_cons.2 ⟨fun x => pieceC x0 x1 x2 x4 x5 x6 2 x, List.forall_mem_cons.2 ⟨fun x => pieceC x0 x1 x2 x4 x5 x6 1 x, List.forall_mem_cons.2 ⟨fun x => pieceC x0 x1 x2 x4 x5 x6 0 x, fun p hp => absurd hp List.not_mem_nil⟩⟩⟩⟩⟩⟩⟩⟩⟩⟩⟩
  iexists _
  isplitl [HS0]
  · iexists _; isplitr
    swap; · iexact HS0
    ipureintro; rfl
  ipureintro
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread]
  refine rows_of x0 x1 x2 x4 x5 x6 fun z hz => ?_
  refine View.read_writes_apply_of_pieces _ _ (gT x0 x1 x2 x4 x5 x6) _ ?_ z (cover_T _ (fun j => ?_) z hz)
  · exact List.forall_mem_cons.2 ⟨fun x => pieceT x0 x1 x2 x4 x5 x6 10 x, List.forall_mem_cons.2 ⟨fun x => pieceT x0 x1 x2 x4 x5 x6 9 x, List.forall_mem_cons.2 ⟨fun x => pieceT x0 x1 x2 x4 x5 x6 8 x, List.forall_mem_cons.2 ⟨fun x => pieceT x0 x1 x2 x4 x5 x6 7 x, List.forall_mem_cons.2 ⟨fun x => pieceT x0 x1 x2 x4 x5 x6 6 x, List.forall_mem_cons.2 ⟨fun x => pieceT x0 x1 x2 x4 x5 x6 5 x, List.forall_mem_cons.2 ⟨fun x => pieceT x0 x1 x2 x4 x5 x6 4 x, List.forall_mem_cons.2 ⟨fun x => pieceT x0 x1 x2 x4 x5 x6 3 x, List.forall_mem_cons.2 ⟨fun x => pieceT x0 x1 x2 x4 x5 x6 2 x, List.forall_mem_cons.2 ⟨fun x => pieceT x0 x1 x2 x4 x5 x6 1 x, List.forall_mem_cons.2 ⟨fun x => pieceT x0 x1 x2 x4 x5 x6 0 x, fun p hp => absurd hp List.not_mem_nil⟩⟩⟩⟩⟩⟩⟩⟩⟩⟩⟩
  · fin_cases j
    · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))⟩
    · exact ⟨_, (List.Mem.tail _ (List.Mem.tail _ (List.Mem.tail _ (List.Mem.tail _ (List.Mem.tail _ (List.Mem.tail _ (List.Mem.tail _ (List.Mem.tail _ (List.Mem.tail _ (List.Mem.head _))))))))))⟩
    · exact ⟨_, (List.Mem.tail _ (List.Mem.tail _ (List.Mem.tail _ (List.Mem.tail _ (List.Mem.tail _ (List.Mem.tail _ (List.Mem.tail _ (List.Mem.tail _ (List.Mem.head _)))))))))⟩
    · exact ⟨_, (List.Mem.tail _ (List.Mem.tail _ (List.Mem.tail _ (List.Mem.tail _ (List.Mem.tail _ (List.Mem.tail _ (List.Mem.tail _ (List.Mem.head _))))))))⟩
    · exact ⟨_, (List.Mem.tail _ (List.Mem.tail _ (List.Mem.tail _ (List.Mem.tail _ (List.Mem.tail _ (List.Mem.tail _ (List.Mem.head _)))))))⟩
    · exact ⟨_, (List.Mem.tail _ (List.Mem.tail _ (List.Mem.tail _ (List.Mem.tail _ (List.Mem.tail _ (List.Mem.head _))))))⟩
    · exact ⟨_, (List.Mem.tail _ (List.Mem.tail _ (List.Mem.tail _ (List.Mem.tail _ (List.Mem.head _)))))⟩
    · exact ⟨_, (List.Mem.tail _ (List.Mem.tail _ (List.Mem.tail _ (List.Mem.head _))))⟩
    · exact ⟨_, (List.Mem.tail _ (List.Mem.tail _ (List.Mem.head _)))⟩
    · exact ⟨_, (List.Mem.tail _ (List.Mem.head _))⟩
    · exact ⟨_, (List.Mem.head _)⟩

/-- The body at a point that initialises the carry is the initialisation, then the body at a point that does not. -/
theorem body_init (i i' : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S1x2x2816 .f32) (harg15 : arg15.IsWhole) (arg16 : Memref sig .tc .vmem S8x2816 .f32) (harg16 : arg16.IsWhole) (hc0 : (Scalar.cmpi .ne (Scalar.extui (Scalar.cmpi .eq (BitVec.ofNat 32 (i 1).val) 0#32)) 0#32) = 1#1) (hc1 : ¬ (Scalar.cmpi .ne (Scalar.extui (Scalar.cmpi .eq (BitVec.ofNat 32 (i' 1).val) 0#32)) 0#32) = 1#1) :
    cc0_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (do
      let v813 : Vec F S1x2x2816 .f32 ← Prog.lift (.load arg5 (Rect.unit (s := S1x2x2816) ![0, 0, 0] S1x2x2816.size inb_S1x2x2816_S1x2x2816_0_0_0).toLoadRect (View.loadsAt_vmem h_S1x2x2816))
      let v815 : Vec F S2x2816 .f32 ← Prog.lift (.load arg16 (Rect.unit (s := S8x2816) ![0, 0] S2x2816.size inb_S8x2816_S2x2816_0_0).toLoadRect (View.loadsAt_vmem h_S2x2816))
      Prog.lift (.store arg16 (Rect.unit (s := S8x2816) ![0, 0] S2x2816.size inb_S8x2816_S2x2816_0_0) (k0_pay2 v813) Finset.univ (View.stores_vmem_bits_univ h_S2x2816 rfl) (.inl rfl))
      cc0_ffn i' arg2 harg2 arg3 harg3 arg4 harg4 arg5 harg5 arg6 harg6 arg7 harg7 arg8 harg8 arg9 harg9 arg10 harg10 arg11 harg11 arg12 harg12 arg13 harg13 arg14 harg14 arg15 harg15 arg16 harg16) := by
  have h1 : k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (do
      let v813 : Vec F S1x2x2816 .f32 ← Prog.lift (.load arg5 (Rect.unit (s := S1x2x2816) ![0, 0, 0] S1x2x2816.size inb_S1x2x2816_S1x2x2816_0_0_0).toLoadRect (View.loadsAt_vmem h_S1x2x2816))
      let v815 : Vec F S2x2816 .f32 ← Prog.lift (.load arg16 (Rect.unit (s := S8x2816) ![0, 0] S2x2816.size inb_S8x2816_S2x2816_0_0).toLoadRect (View.loadsAt_vmem h_S2x2816))
      Prog.lift (.store arg16 (Rect.unit (s := S8x2816) ![0, 0] S2x2816.size inb_S8x2816_S2x2816_0_0) (k0_pay2 v813) Finset.univ (View.stores_vmem_bits_univ h_S2x2816 rfl) (.inl rfl))
      k0_part1 i' arg2 harg2 arg3 harg3 arg4 harg4 arg5 harg5 arg6 harg6 arg7 harg7 arg8 harg8 arg9 harg9 arg10 harg10 arg11 harg11 arg12 harg12 arg13 harg13 arg14 harg14 arg15 harg15 arg16 harg16) := by
    simp only [k0_part1_eq_skeleton]
    unfold k0_part1_skel
    simp only [dif_pos hc0, dif_neg hc1, bind_assoc, pure_bind]
  simp only [cc0_ffn_eq_skeleton]
  unfold cc0_ffn_skel
  simp only [k0_part21_eq_skeleton]
  unfold k0_part21_skel
  rw [h1]
  simp only [bind_assoc]
  rfl

set_option maxHeartbeats 4000000

/-- One grid point, run. -/
theorem runA (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S1x2x2816 .f32) (harg15 : arg15.IsWhole) (arg16 : Memref sig .tc .vmem S8x2816 .f32) (harg16 : arg16.IsWhole)
    (hc0 : (Scalar.cmpi .ne (Scalar.extui (Scalar.cmpi .eq (BitVec.ofNat 32 (i 1).val) 0#32)) 0#32) = 1#1)
    (x0 : Vec F S1x512x1024 .f32) (x1 : Vec F S1x512x512 .f32) (x2 : Vec F S1x512x512 .f32) (x3 : Vec F S1x2x2816 .f32) (x4 : Vec F S1024x1024 .bf16) (x5 : Vec F S1x1024 .f32) (x6 : Vec F S1024x2816 .bf16) (x7 : Vec F S1024x2816 .bf16) (x8 : Vec F S3x2816 .f32) (x9 : Vec F S1x2816 .f32) (x10 : Vec F S2816x1024 .bf16) (x11 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (yF x0 x1 x2 x4 x5 x6 x7 x8 x9 x10 x11 (k0_pay2 (View.ld x3 (Rect.unit (s := S1x2x2816) ![0, 0, 0] S1x2x2816.size inb_S1x2x2816_S1x2x2816_0_0_0)))) ∗ owns (c : Thread nD τ) arg15 fullShare (cF x0 x1 x2 x4 x5 x6) ∗ (∃ d, owns (c : Thread nD τ) arg16 fullShare d ∗ ⌜rows d = tF x0 x1 x2 x4 x5 x6⌝)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  let i' : grid0.Coords := fun a => ⟨a.val, by fin_cases a <;> decide⟩
  have hc1 : ¬ (Scalar.cmpi .ne (Scalar.extui (Scalar.cmpi .eq (BitVec.ofNat 32 (i' 1).val) 0#32)) 0#32) = 1#1 := by decide
  have hP := fun xs0 : Vec F S8x2816 .f32 => runB c i' arg2 harg2 arg3 harg3 arg4 harg4 arg5 harg5 arg6 harg6 arg7 harg7 arg8 harg8 arg9 harg9 arg10 harg10 arg11 harg11 arg12 harg12 arg13 harg13 arg14 harg14 arg15 harg15 arg16 harg16 hc1 x0 x1 x2 x3 x4 x5 x6 x7 x8 x9 x10 x11 xs0 E K
  rw [body_init i i' arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1]
  generalize cc0_ffn (F := F) i' arg2 harg2 arg3 harg3 arg4 harg4 arg5 harg5 arg6 harg6 arg7 harg7 arg8 harg8 arg9 harg9 arg10 harg10 arg11 harg11 arg12 harg12 arg13 harg13 arg14 harg14 arg15 harg15 arg16 harg16 = P at hP ⊢
  iintro ⟨H0, H1, H2, H3, H4, H5, H6, H7, H8, H9, H10, H11, H12, H13, HS, Hk⟩
  unfold owns
  icases H3 with ⟨%f3, %hf3, H3⟩
  icases HS with ⟨%ds0, %fs0, -, HS⟩
  obtain rfl := harg5.eq_unread hf3
  sl_exec
  have hW := crT_writes (F := F) arg16.view fs0 (k0_pay2 (View.readAt (Elt F) arg5.view (Rect.unit (s := S1x2x2816) ![0, 0, 0] S1x2x2816.size inb_S1x2x2816_S1x2x2816_0_0_0).toLoadRect (harg5.unread x3))) inb_S8x2816_S2x2816_0_0
  have hQ := hP (arg16.view.read (Elt F) (arg16.view.writes (Elt F) fs0 [⟨Rect.unit (s := S8x2816) ![0, 0] S2x2816.size inb_S8x2816_S2x2816_0_0, k0_pay2 (View.readAt (Elt F) arg5.view (Rect.unit (s := S1x2x2816) ![0, 0, 0] S1x2x2816.size inb_S1x2x2816_S1x2x2816_0_0_0).toLoadRect (harg5.unread x3))⟩]))
  rw [hW, View.readAt_eq_ld, harg5.read_unread] at hQ
  unfold owns at hQ
  iapply hQ
  isplitl [H0]; · iexact H0
  isplitl [H1]; · iexact H1
  isplitl [H2]; · iexact H2
  isplitl [H3]
  · iexists _; isplitr; · ipureintro; exact harg5.read_unread _
    iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]
  · iexists _; isplitr
    swap; · iexact HS
    ipureintro; sl_unfold_words; rw [View.readAt_eq_ld, harg5.read_unread]
  iexact Hk

end Cert.FfnIdeal.Run

end
-- ==== Proof.FfnIdealFrame.lean ====
module

public import proofs.«01_k».proof.Proof.Gen.FfnIdeal.Skeleton
public import proofs.«01_k».proof.Proof.Gen.FfnIdeal.Frame
public import Idealize.ShloMosaic.Lib.Pointwise
public import Idealize.ShloMosaic.Lib.VecWindow
public import Idealize.ShloMosaic.Lib.Claim
public import Idealize.ShloMosaic.Lib.ValueLayout
public import proofs.«01_k».proof.Proof.FfnIdealRun

@[expose] public section

set_option maxRecDepth 16384

noncomputable section

namespace Cert.FfnIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen Cert.FfnIdeal.Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the initialisation. -/
abbrev cond (i : grid0.Coords) : Prop := (Scalar.cmpi .ne (Scalar.extui (Scalar.cmpi .eq (BitVec.ofNat 32 (i 1).val) 0#32)) 0#32) = 1#1

/-- It holds at the first point of each batch row. -/
theorem hcond : ∀ t : Fin cfg0.N, cond (grid0.coords t) ↔ t.val % 4 = 0 :=
  (fun t => by
    have ht : t.val < 128 := Nat.lt_of_lt_of_eq t.isLt N_0
    have e1 : (grid0.coords t 1).val = t.val / 1 % 4 := Pipeline.Grid.coords_val t 1 (by decide) rfl
    simp only [cond, e1]
    word_cmp
   : ∀ t : Fin grid0.N, cond (grid0.coords t) ↔ t.val % 4 = 0)

theorem live0 : ∀ t : Fin cfg0.N, cfg0.idle 0 (grid0.coords t) = false := fun _ => rfl
abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
theorem live1 : ∀ t : Fin cfg0.N, cfg0.idle 1 (grid0.coords t) = false := fun _ => rfl
abbrev ms1 (t : Fin cfg0.N) : Memref sig .tc .vmem S1x512x512 .f32 := win0_1.stage (cfg0.slots t 1)
abbrev hs1 (t : Fin cfg0.N) : (ms1 t).IsWhole := hstage0_1 ((cfg0.slots t 1).cast nbuf0_1)
theorem live2 : ∀ t : Fin cfg0.N, cfg0.idle 2 (grid0.coords t) = false := fun _ => rfl
abbrev ms2 (t : Fin cfg0.N) : Memref sig .tc .vmem S1x512x512 .f32 := win0_2.stage (cfg0.slots t 2)
abbrev hs2 (t : Fin cfg0.N) : (ms2 t).IsWhole := hstage0_2 ((cfg0.slots t 2).cast nbuf0_2)
theorem live3 : ∀ t : Fin cfg0.N, cfg0.idle 3 (grid0.coords t) = false := fun _ => rfl
abbrev ms3 (t : Fin cfg0.N) : Memref sig .tc .vmem S1x2x2816 .f32 := win0_3.stage (cfg0.slots t 3)
abbrev hs3 (t : Fin cfg0.N) : (ms3 t).IsWhole := hstage0_3 ((cfg0.slots t 3).cast nbuf0_3)
theorem live4 : ∀ t : Fin cfg0.N, cfg0.idle 4 (grid0.coords t) = false := fun _ => rfl
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
theorem live5 : ∀ t : Fin cfg0.N, cfg0.idle 5 (grid0.coords t) = false := fun _ => rfl
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
theorem live6 : ∀ t : Fin cfg0.N, cfg0.idle 6 (grid0.coords t) = false := fun _ => rfl
abbrev ms6 (t : Fin cfg0.N) : Memref sig .tc .vmem S1024x2816 .bf16 := win0_6.stage (cfg0.slots t 6)
abbrev hs6 (t : Fin cfg0.N) : (ms6 t).IsWhole := hstage0_6 ((cfg0.slots t 6).cast nbuf0_6)
theorem live7 : ∀ t : Fin cfg0.N, cfg0.idle 7 (grid0.coords t) = false := fun _ => rfl
abbrev ms7 (t : Fin cfg0.N) : Memref sig .tc .vmem S1024x2816 .bf16 := win0_7.stage (cfg0.slots t 7)
abbrev hs7 (t : Fin cfg0.N) : (ms7 t).IsWhole := hstage0_7 ((cfg0.slots t 7).cast nbuf0_7)
theorem live8 : ∀ t : Fin cfg0.N, cfg0.idle 8 (grid0.coords t) = false := fun _ => rfl
abbrev ms8 (t : Fin cfg0.N) : Memref sig .tc .vmem S3x2816 .f32 := win0_8.stage (cfg0.slots t 8)
abbrev hs8 (t : Fin cfg0.N) : (ms8 t).IsWhole := hstage0_8 ((cfg0.slots t 8).cast nbuf0_8)
theorem live9 : ∀ t : Fin cfg0.N, cfg0.idle 9 (grid0.coords t) = false := fun _ => rfl
abbrev ms9 (t : Fin cfg0.N) : Memref sig .tc .vmem S1x2816 .f32 := win0_9.stage (cfg0.slots t 9)
abbrev hs9 (t : Fin cfg0.N) : (ms9 t).IsWhole := hstage0_9 ((cfg0.slots t 9).cast nbuf0_9)
theorem live10 : ∀ t : Fin cfg0.N, cfg0.idle 10 (grid0.coords t) = false := fun _ => rfl
abbrev ms10 (t : Fin cfg0.N) : Memref sig .tc .vmem S2816x1024 .bf16 := win0_10.stage (cfg0.slots t 10)
abbrev hs10 (t : Fin cfg0.N) : (ms10 t).IsWhole := hstage0_10 ((cfg0.slots t 10).cast nbuf0_10)
theorem live11 : ∀ t : Fin cfg0.N, cfg0.idle 11 (grid0.coords t) = false := fun _ => rfl
abbrev ms11 (t : Fin cfg0.N) : Memref sig .tc .vmem S1x1024 .f32 := win0_11.stage (cfg0.slots t 11)
abbrev hs11 (t : Fin cfg0.N) : (ms11 t).IsWhole := hstage0_11 ((cfg0.slots t 11).cast nbuf0_11)
theorem live12 : ∀ t : Fin cfg0.N, cfg0.idle 12 (grid0.coords t) = false := fun _ => rfl
abbrev ms12 (t : Fin cfg0.N) : Memref sig .tc .vmem S1x512x1024 .f32 := win0_12.stage (cfg0.slots t 12)
abbrev hs12 (t : Fin cfg0.N) : (ms12 t).IsWhole := hstage0_12 ((cfg0.slots t 12).cast nbuf0_12)
theorem live13 : ∀ t : Fin cfg0.N, cfg0.idle 13 (grid0.coords t) = false := fun _ => rfl
abbrev ms13 (t : Fin cfg0.N) : Memref sig .tc .vmem S1x2x2816 .f32 := win0_13.stage (cfg0.slots t 13)
abbrev hs13 (t : Fin cfg0.N) : (ms13 t).IsWhole := hstage0_13 ((cfg0.slots t 13).cast nbuf0_13)

/-- The carried scratch. -/
abbrev scM : Memref sig .tc .vmem S8x2816 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The last two rows of the gate's product at point `t`. -/
def tailAt (c : Dev nD) (t : Fin cfg0.N) : Vec F S2x2816 .f32 := tF (iblk m c 0 t) (iblk m c 1 t) (iblk m c 2 t) (iblk m c 4 t) (iblk m c 5 t) (iblk m c 6 t)

/-- The two rows a point starts with: the past's at the first point of a batch row, else the ones the point before left. -/
def carryAt (c : Dev nD) (t : Fin cfg0.N) : Vec F S2x2816 .f32 :=
  if t.val % 4 = 0 then k0_pay2 (View.ld (iblk m c 3 t) (Rect.unit (s := S1x2x2816) ![0, 0, 0] S1x2x2816.size inb_S1x2x2816_S1x2x2816_0_0_0))
  else tailAt m c ⟨t.val - 1, lt_of_le_of_lt (Nat.sub_le _ _) t.isLt⟩

/-- The block of results at point `t`. -/
def yAt (c : Dev nD) (t : Fin cfg0.N) : FVec F S1x512x1024 .f32 := yF (iblk m c 0 t) (iblk m c 1 t) (iblk m c 2 t) (iblk m c 4 t) (iblk m c 5 t) (iblk m c 6 t) (iblk m c 7 t) (iblk m c 8 t) (iblk m c 9 t) (iblk m c 10 t) (iblk m c 11 t) (carryAt m c t)

/-- The block of carried rows at point `t`. -/
def cAt (c : Dev nD) (t : Fin cfg0.N) : Vec F S1x2x2816 .f32 := cF (iblk m c 0 t) (iblk m c 1 t) (iblk m c 2 t) (iblk m c 4 t) (iblk m c 5 t) (iblk m c 6 t)

/-- Between points: before the first nothing is known; after point `n` the scratch's first two rows are that point's last two. -/
def PhiS (c : Dev nD) : (n : ℕ) → n ≤ cfg0.N → sProp 𝕄
  | 0, _ => Pipeline.ΦA spec0 c
  | n + 1, hn => iprop(iprop(∃ d, owns (c : Thread nD τ) scM fullShare d ∗ ⌜rows d = tailAt m c ⟨n, hn⟩⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ d, owns (c : Thread nD τ) scM fullShare d ∗ ⌜rows d = tailAt m c ⟨n, hn⟩⌝) ∗ (∃ r, prngReg c r)) := rfl

theorem PhiS_pos (c : Dev nD) (n : ℕ) (h : n ≤ cfg0.N) (hz : n ≠ 0) :
    PhiS m c n h = iprop(iprop(∃ d, owns (c : Thread nD τ) scM fullShare d ∗ ⌜rows d = tailAt m c ⟨n - 1, by omega⟩⌝) ∗ (∃ r, prngReg c r)) := by
  cases n with
  | zero => exact absurd rfl hz
  | succ n => rfl

/-- The proof data: arrays as the region finds them, inputs left in place, outputs at their blocks, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => yAt m c t
    | ⟨13, _⟩ => cAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = yAt m c t := by dsimp only [dats]
theorem after13 (c : Dev nD) (t : Fin cfg0.N) : (dats m 0 c).after 13 t = cAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) : (dats m 0 c).leavesExact 7 t = owns (c : Thread nD τ) (ms7 t) fullShare (iblk m c 7 t) := by
  unfold Dat.leavesExact; rw [live7 t, after7]
theorem leaves8 (c : Dev nD) (t : Fin cfg0.N) : (dats m 0 c).leavesExact 8 t = owns (c : Thread nD τ) (ms8 t) fullShare (iblk m c 8 t) := by
  unfold Dat.leavesExact; rw [live8 t, after8]
theorem leaves9 (c : Dev nD) (t : Fin cfg0.N) : (dats m 0 c).leavesExact 9 t = owns (c : Thread nD τ) (ms9 t) fullShare (iblk m c 9 t) := by
  unfold Dat.leavesExact; rw [live9 t, after9]
theorem leaves10 (c : Dev nD) (t : Fin cfg0.N) : (dats m 0 c).leavesExact 10 t = owns (c : Thread nD τ) (ms10 t) fullShare (iblk m c 10 t) := by
  unfold Dat.leavesExact; rw [live10 t, after10]
theorem leaves11 (c : Dev nD) (t : Fin cfg0.N) : (dats m 0 c).leavesExact 11 t = owns (c : Thread nD τ) (ms11 t) fullShare (iblk m c 11 t) := by
  unfold Dat.leavesExact; rw [live11 t, after11]
theorem leaves12 (c : Dev nD) (t : Fin cfg0.N) : (dats m 0 c).leavesExact 12 t = owns (c : Thread nD τ) (ms12 t) fullShare (yAt m c t) := by
  unfold Dat.leavesExact; rw [live12 t, after12]
theorem leaves13 (c : Dev nD) (t : Fin cfg0.N) : (dats m 0 c).leavesExact 13 t = owns (c : Thread nD τ) (ms13 t) fullShare (cAt m c t) := by
  unfold Dat.leavesExact; rw [live13 t, after13]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
/-- The body, at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13]
  rw [PhiS_castSucc]
  unfold yAt cAt tailAt
  by_cases h0 : t.val % 4 = 0
  · rw [show carryAt m c t = _ from if_pos h0]
    have hS : PhiS m c t.val (Nat.le_of_lt t.isLt) ⊢ iprop(iprop((∃ d, owns (c : Thread nD τ) scM fullShare d)) ∗ (∃ r, prngReg c r)) := by
      by_cases hz : t.val = 0
      · rw [PhiS_zero m c _ _ hz, PhiA_eq]; try exact Idealize.SL.BI.Entails.refl _
      · rw [PhiS_pos m c _ _ hz]
        iintro ⟨⟨%d, HS, -⟩, Hg⟩
        isplitl [HS]
        · iexists _; iexact HS
        iexact Hg
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    ihave HQ := hS $$ HP
    icases HQ with ⟨HS, Hg⟩
    iapply runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show carryAt m c t = _ from if_neg h0]
    have hz : t.val ≠ 0 := fun h => h0 (by rw [h])
    rw [PhiS_pos m c _ _ hz]
    iintro ⟨⟨⟨%xs, HS, %hx⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    rw [← hx]
    iapply runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨%d, HS, -⟩, Hg⟩
  isplitl [HS]
  · iexists _; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.FfnIdeal.Frm

end
-- ==== Proof.FfnBlocks.lean ====
/- The closing block of the layer on the prompt: what the kernel's two output arrays hold after the run, index by index,
   against the reference's stages. -/
module

public import proofs.«01_k».proof.Proof.FfnIdealFrame
public import proofs.«01_k».proof.Proof.Gen.FfnRefIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnIdeal.Final

open Cert.FfnIdeal Cert.FfnIdeal.Gen Cert.FfnIdeal.Run Cert.FfnIdeal.Frm

variable (m : (ℓ : Loc nD τ sig) → Buf (Elt Ideal) ℓ)

/-- Where each window sits at a point: the batch row is `t / 4`, the row block `t % 4`. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val / 4, t.val % 4, 0] ∧ win0_13.index t = ![t.val / 4, 0, 0] :=
  (by decide +kernel : ∀ t : Fin grid0.N, _)

/-- The batch row of a point. -/
abbrev bt (t : Fin cfg0.N) : Fin 32 := ⟨t.val / 4, by have := t.isLt; have : cfg0.N = 128 := N_0; omega⟩
/-- The row of the sequence that is row `r` of a point's block. -/
abbrev rt (t : Fin cfg0.N) (r : Fin 512) : Fin 2048 := ⟨t.val % 4 * 512 + r.val, by omega⟩

theorem V3_at (c : Dev nD) (b : Fin 32) (r : Fin 2) (k : Fin 2816) :
    (V m c main_v14 : S32x2x2816.Idx → EReal) (ix3 b r k) = (0 : EReal) := by
  unfold V
  simp only [hostOps0, List.flatten_cons, List.flatten_nil, List.append_nil, List.cons_append, List.nil_append]
  after_reads_at
theorem V4_at (c : Dev nD) (r : Fin 1024) (k : Fin 1024) :
    (V m c main_v1 : S1024x1024.Idx → EReal) (ix2 r k) = (m ((c : Thread nD τ).loc main_arg3) : S1x1024x1024.Idx → EReal) (ix3 0 r k) := by
  unfold V
  simp only [hostOps0, List.flatten_cons, List.flatten_nil, List.append_nil, List.cons_append, List.nil_append]
  after_reads_at
theorem V5_at (c : Dev nD) (k : Fin 1024) :
    (V m c main_v3 : S1x1024.Idx → EReal) (ix2 0 k) = (m ((c : Thread nD τ).loc main_arg4) : S1x1024.Idx → EReal) (ix2 0 k) := by
  unfold V
  simp only [hostOps0, List.flatten_cons, List.flatten_nil, List.append_nil, List.cons_append, List.nil_append]
  after_reads_at
theorem V6_at (c : Dev nD) (r : Fin 1024) (k : Fin 2816) :
    (V m c main_v5 : S1024x2816.Idx → EReal) (ix2 r k) = (m ((c : Thread nD τ).loc main_arg5) : S1x1024x2816.Idx → EReal) (ix3 0 r k) := by
  unfold V
  simp only [hostOps0, List.flatten_cons, List.flatten_nil, List.append_nil, List.cons_append, List.nil_append]
  after_reads_at
theorem V7_at (c : Dev nD) (r : Fin 1024) (k : Fin 2816) :
    (V m c main_v7 : S1024x2816.Idx → EReal) (ix2 r k) = (m ((c : Thread nD τ).loc main_arg6) : S1x1024x2816.Idx → EReal) (ix3 0 r k) := by
  unfold V
  simp only [hostOps0, List.flatten_cons, List.flatten_nil, List.append_nil, List.cons_append, List.nil_append]
  after_reads_at
theorem V8_at (c : Dev nD) (r : Fin 3) (k : Fin 2816) :
    (V m c main_v8 : S3x2816.Idx → EReal) (ix2 r k) = (m ((c : Thread nD τ).loc main_arg7) : S1x3x2816.Idx → EReal) (ix3 0 r k) := by
  unfold V
  simp only [hostOps0, List.flatten_cons, List.flatten_nil, List.append_nil, List.cons_append, List.nil_append]
  after_reads_at
theorem V9_at (c : Dev nD) (k : Fin 2816) :
    (V m c main_v10 : S1x2816.Idx → EReal) (ix2 0 k) = (m ((c : Thread nD τ).loc main_arg8) : S1x2816.Idx → EReal) (ix2 0 k) := by
  unfold V
  simp only [hostOps0, List.flatten_cons, List.flatten_nil, List.append_nil, List.cons_append, List.nil_append]
  after_reads_at
theorem V10_at (c : Dev nD) (r : Fin 2816) (k : Fin 1024) :
    (V m c main_v12 : S2816x1024.Idx → EReal) (ix2 r k) = (m ((c : Thread nD τ).loc main_arg9) : S1x2816x1024.Idx → EReal) (ix3 0 r k) := by
  unfold V
  simp only [hostOps0, List.flatten_cons, List.flatten_nil, List.append_nil, List.cons_append, List.nil_append]
  after_reads_at
theorem V11_at (c : Dev nD) (k : Fin 1024) :
    (V m c main_v13 : S1x1024.Idx → EReal) (ix2 0 k) = (m ((c : Thread nD τ).loc main_arg10) : S1024.Idx → EReal) (ix1 k) := by
  unfold V
  simp only [hostOps0, List.flatten_cons, List.flatten_nil, List.append_nil, List.cons_append, List.nil_append]
  after_reads_at
theorem b0 (c : Dev nD) (t : Fin cfg0.N) (r : Fin 512) (k : Fin 1024) :
    (iblk m c 0 t : S1x512x1024.Idx → EReal) (ix3 0 r k) = (m ((c : Thread nD τ).loc main_arg0) : S32x2048x1024.Idx → EReal) (ix3 (bt t) (rt t r) k) := by
  refine Eq.trans ?_ (congrFun (V_main_arg0 m c) (ix3 (bt t) (rt t r) k))
  blk_ext [iblk, idx t]
theorem b1 (c : Dev nD) (t : Fin cfg0.N) (r : Fin 512) (k : Fin 512) :
    (iblk m c 1 t : S1x512x512.Idx → EReal) (ix3 0 r k) = (m ((c : Thread nD τ).loc main_arg1) : S32x2048x512.Idx → EReal) (ix3 (bt t) (rt t r) k) := by
  refine Eq.trans ?_ (congrFun (V_main_arg1 m c) (ix3 (bt t) (rt t r) k))
  blk_ext [iblk, idx t]
theorem b2 (c : Dev nD) (t : Fin cfg0.N) (r : Fin 512) (k : Fin 512) :
    (iblk m c 2 t : S1x512x512.Idx → EReal) (ix3 0 r k) = (m ((c : Thread nD τ).loc main_arg2) : S32x2048x512.Idx → EReal) (ix3 (bt t) (rt t r) k) := by
  refine Eq.trans ?_ (congrFun (V_main_arg2 m c) (ix3 (bt t) (rt t r) k))
  blk_ext [iblk, idx t]
theorem b3 (c : Dev nD) (t : Fin cfg0.N) (r : Fin 2) (k : Fin 2816) :
    (iblk m c 3 t : S1x2x2816.Idx → EReal) (ix3 0 r k) = (0 : EReal) := by
  refine Eq.trans ?_ (V3_at m c (bt t) r k)
  blk_ext [iblk, idx t]
theorem b4 (c : Dev nD) (t : Fin cfg0.N) (r : Fin 1024) (k : Fin 1024) :
    (iblk m c 4 t : S1024x1024.Idx → EReal) (ix2 r k) = (m ((c : Thread nD τ).loc main_arg3) : S1x1024x1024.Idx → EReal) (ix3 0 r k) := by
  refine Eq.trans ?_ (V4_at m c r k)
  blk_ext [iblk, idx t]
theorem b5 (c : Dev nD) (t : Fin cfg0.N) (k : Fin 1024) :
    (iblk m c 5 t : S1x1024.Idx → EReal) (ix2 0 k) = (m ((c : Thread nD τ).loc main_arg4) : S1x1024.Idx → EReal) (ix2 0 k) := by
  refine Eq.trans ?_ (V5_at m c k)
  blk_ext [iblk, idx t]
theorem b6 (c : Dev nD) (t : Fin cfg0.N) (r : Fin 1024) (k : Fin 2816) :
    (iblk m c 6 t : S1024x2816.Idx → EReal) (ix2 r k) = (m ((c : Thread nD τ).loc main_arg5) : S1x1024x2816.Idx → EReal) (ix3 0 r k) := by
  refine Eq.trans ?_ (V6_at m c r k)
  blk_ext [iblk, idx t]
theorem b7 (c : Dev nD) (t : Fin cfg0.N) (r : Fin 1024) (k : Fin 2816) :
    (iblk m c 7 t : S1024x2816.Idx → EReal) (ix2 r k) = (m ((c : Thread nD τ).loc main_arg6) : S1x1024x2816.Idx → EReal) (ix3 0 r k) := by
  refine Eq.trans ?_ (V7_at m c r k)
  blk_ext [iblk, idx t]
theorem b8 (c : Dev nD) (t : Fin cfg0.N) (r : Fin 3) (k : Fin 2816) :
    (iblk m c 8 t : S3x2816.Idx → EReal) (ix2 r k) = (m ((c : Thread nD τ).loc main_arg7) : S1x3x2816.Idx → EReal) (ix3 0 r k) := by
  refine Eq.trans ?_ (V8_at m c r k)
  blk_ext [iblk, idx t]
theorem b9 (c : Dev nD) (t : Fin cfg0.N) (k : Fin 2816) :
    (iblk m c 9 t : S1x2816.Idx → EReal) (ix2 0 k) = (m ((c : Thread nD τ).loc main_arg8) : S1x2816.Idx → EReal) (ix2 0 k) := by
  refine Eq.trans ?_ (V9_at m c k)
  blk_ext [iblk, idx t]
theorem b10 (c : Dev nD) (t : Fin cfg0.N) (r : Fin 2816) (k : Fin 1024) :
    (iblk m c 10 t : S2816x1024.Idx → EReal) (ix2 r k) = (m ((c : Thread nD τ).loc main_arg9) : S1x2816x1024.Idx → EReal) (ix3 0 r k) := by
  refine Eq.trans ?_ (V10_at m c r k)
  blk_ext [iblk, idx t]
theorem b11 (c : Dev nD) (t : Fin cfg0.N) (k : Fin 1024) :
    (iblk m c 11 t : S1x1024.Idx → EReal) (ix2 0 k) = (m ((c : Thread nD τ).loc main_arg10) : S1024.Idx → EReal) (ix1 k) := by
  refine Eq.trans ?_ (V11_at m c k)
  blk_ext [iblk, idx t]

end Cert.FfnIdeal.Final
-- ==== Proof.FfnValue.lean ====
/- The closing block of the layer on the prompt: what the kernel's two output arrays hold after the run, index by index,
   against the reference's stages. -/
module

public import proofs.«01_k».proof.Proof.FfnBlocks
public import proofs.«01_k».proof.Proof.Gen.FfnRefIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnIdeal.Final

open Cert.FfnRefIdeal.Read
open Cert.FfnIdeal Cert.FfnIdeal.Gen Cert.FfnIdeal.Run Cert.FfnIdeal.Frm

variable (m : (ℓ : Loc nD τ sig) → Buf (Elt Ideal) ℓ)

/-- The reference's stages on the kernel's arguments. -/
abbrev R3 (c : Dev nD) : S32x2048x1024.Idx → EReal := val_main_v3 (F := Ideal) (m ((c : Thread nD τ).loc main_arg0)) (m ((c : Thread nD τ).loc main_arg1)) (m ((c : Thread nD τ).loc main_arg2)) (m ((c : Thread nD τ).loc main_arg3))
abbrev R17 (c : Dev nD) : S32x2048x1024.Idx → EReal := val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev R19 (c : Dev nD) : Cert.FfnRefIdeal.S32x2048x2816.Idx → EReal := val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev R60 (c : Dev nD) : Cert.FfnRefIdeal.S32x2048x2816.Idx → EReal := val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
abbrev R45 (c : Dev nD) : Cert.FfnRefIdeal.S32x2048x2816.Idx → EReal := val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8))
abbrev R61 (c : Dev nD) : Cert.FfnRefIdeal.S32x2048x2816.Idx → EReal := val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
abbrev R63 (c : Dev nD) : S32x2048x1024.Idx → EReal := val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- A block's residual rows are the reference's. -/
theorem res_pt (c : Dev nD) (t : Fin cfg0.N) (r : Fin 512) (d : Fin 1024) :
    (resT (iblk m c 0 t) (iblk m c 1 t) (iblk m c 2 t) (iblk m c 4 t) : S512x1024.Idx → EReal) (ix2 r d) = R3 m c (ix3 (bt t) (rt t r) d) := by
  unfold R3 resT
  pointwise [k0_pay3, val_main_v3, val_main_v2, val_main_v1, val_main_v0]
  simp only [b0 m c t, b1 m c t, b2 m c t, b4 m c t]
  exact add_assoc _ _ _

/-- The norm of a row, over the row's values `g`. -/
theorem hn_eq (v3 : Vec Ideal S1x512x1024 .f32) (v5 : Vec Ideal S1x512x512 .f32) (v8 : Vec Ideal S512x1024 .bf16) (v12 : Vec Ideal S1x512x512 .f32) (v15 : Vec Ideal S512x1024 .bf16)
    (x5 : Vec Ideal S1x1024 .f32) (w : S1x1024.Idx → EReal) (hw : x5 = w) (r : Fin 512) (g : Fin 1024 → EReal) (hg : ∀ k, (k0_pay3 v3 v5 v8 v12 v15 : S512x1024.Idx → EReal) (ix2 r k) = g k) (d : Fin 1024) :
    (k0_pay4 v3 v5 v8 v12 v15 x5 : S512x1024.Idx → EReal) (ix2 r d) = (g d * Ideal.rsqrt (Ideal.div (∑ k, g k * g k) (Ideal.ofBits FTy.f32 1149239296#32) + Ideal.ofBits FTy.f32 897988541#32) * w (ix2 0 d)) := by
  subst hw
  pointwise [k0_pay4]
  simp only [hg]

/-- A block's normed rows are the reference's. -/
theorem hn_pt (c : Dev nD) (t : Fin cfg0.N) (r : Fin 512) (d : Fin 1024) :
    (hnT (iblk m c 0 t) (iblk m c 1 t) (iblk m c 2 t) (iblk m c 4 t) (iblk m c 5 t) : S512x1024.Idx → EReal) (ix2 r d) = R17 m c (ix3 (bt t) (rt t r) d) := by
  refine (hn_eq _ _ _ _ _ _ _ rfl r (fun k => R3 m c (ix3 (bt t) (rt t r) k)) (fun k => res_pt m c t r k) d).trans ?_
  unfold R17 R3
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  simp only [b5 m c t]

/-- A tile of the gate's product. -/
theorem u_pt (c : Dev nD) (t : Fin cfg0.N) (j : Fin 11) (r : Fin 512) (k : Fin 256) :
    (uT (iblk m c 0 t) (iblk m c 1 t) (iblk m c 2 t) (iblk m c 4 t) (iblk m c 5 t) (iblk m c 6 t) j : S512x256.Idx → EReal) (ix2 r k) = R19 m c (ix3 (bt t) (rt t r) ⟨256 * j.val + k.val, by omega⟩) := by
  unfold R19 uT wgT
  pointwise [k0_pay14, val_main_v19, val_main_v18]
  simp only [hn_pt m c t, b6 m c t]

/-- A tile of the value product. -/
theorem w_pt (c : Dev nD) (t : Fin cfg0.N) (j : Fin 11) (r : Fin 512) (k : Fin 256) :
    (k0_pay15 (hnT (iblk m c 0 t) (iblk m c 1 t) (iblk m c 2 t) (iblk m c 4 t) (iblk m c 5 t)) (wgT (iblk m c 7 t) j) : S512x256.Idx → EReal) (ix2 r k) = R60 m c (ix3 (bt t) (rt t r) ⟨256 * j.val + k.val, by omega⟩) := by
  unfold R60 wgT
  pointwise [k0_pay15, val_main_v60, val_main_v59]
  simp only [hn_pt m c t, b7 m c t]

/-- The last two rows of a block's gate product. -/
theorem tail_pt (c : Dev nD) (t : Fin cfg0.N) (e : Fin 2) (q : Fin 2816) :
    (tailAt m c t : S2x2816.Idx → EReal) (ix2 e q) = R19 m c (ix3 (bt t) (rt t ⟨510 + e.val, by omega⟩) q) := by
  have hq : (⟨256 * (q.val / 256) + q.val % 256, by omega⟩ : Fin 2816) = q := Fin.ext (by show 256 * (q.val / 256) + q.val % 256 = q.val; omega)
  refine Eq.trans ?_ (Eq.trans (u_pt m c t ⟨q.val / 256, by omega⟩ ⟨510 + e.val, by omega⟩ ⟨q.val % 256, Nat.mod_lt _ (by decide)⟩) (by rw [hq]))
  unfold tailAt tF
  pointwise [k0_pay17]

/-- The two rows above a block: nothing at the head of a batch row, else the rows before. -/
theorem carry_pt (c : Dev nD) (t : Fin cfg0.N) (e : Fin 2) (q : Fin 2816) :
    (carryAt m c t : S2x2816.Idx → EReal) (ix2 e q)
      = if h : t.val % 4 = 0 then (0 : EReal) else R19 m c (ix3 (bt t) ⟨t.val % 4 * 512 - 2 + e.val, by omega⟩ q) := by
  unfold carryAt
  by_cases h : t.val % 4 = 0
  · rw [if_pos h, dif_pos h]
    pointwise [k0_pay2]
    simp only [b3 m c t]
  · rw [if_neg h, dif_neg h]
    refine (tail_pt m c ⟨t.val - 1, lt_of_le_of_lt (Nat.sub_le _ _) t.isLt⟩ e q).trans ?_
    have e1 : bt (⟨t.val - 1, lt_of_le_of_lt (Nat.sub_le _ _) t.isLt⟩ : Fin cfg0.N) = bt t := Fin.ext (by show (t.val - 1) / 4 = t.val / 4; omega)
    have e2 : rt (⟨t.val - 1, lt_of_le_of_lt (Nat.sub_le _ _) t.isLt⟩ : Fin cfg0.N) ⟨510 + e.val, by omega⟩ = ⟨t.val % 4 * 512 - 2 + e.val, by omega⟩ :=
      Fin.ext (by show (t.val - 1) % 4 * 512 + (510 + e.val) = t.val % 4 * 512 - 2 + e.val; omega)
    rw [e1, e2]

theorem cr_pt (c : Dev nD) (t : Fin cfg0.N) (e : Fin 2) (he : e.val + 1 ≤ 2) (j : Fin 11) (k : Fin 256) :
    (crT (carryAt m c t) e.val he j : S1x256.Idx → EReal) (ix2 0 k)
      = if h : t.val % 4 = 0 then (0 : EReal) else R19 m c (ix3 (bt t) ⟨t.val % 4 * 512 - 2 + e.val, by omega⟩ ⟨256 * j.val + k.val, by omega⟩) := by
  refine Eq.trans ?_ (carry_pt m c t e ⟨256 * j.val + k.val, by omega⟩)
  unfold crT
  pointwise []

/-- A row's number against a small word. -/
theorem cmp_row (r : Fin 512) (n : ℕ) (hn : n < 512) :
    IntOp.cmpi CmpIPredicate.eq (BitVec.ofNat 32 r.val) (BitVec.ofNat 32 n) = if r.val = n then 1#1 else 0#1 := by
  have hr := r.isLt
  have e : BitVec.ofNat 32 r.val = BitVec.ofNat 32 n ↔ r.val = n := by
    rw [← BitVec.toNat_inj, BitVec.toNat_ofNat, BitVec.toNat_ofNat, Nat.mod_eq_of_lt (by omega), Nat.mod_eq_of_lt (by omega)]
  by_cases h : r.val = n
  · simp [IntOp.cmpi, e, h]
  · rw [if_neg h]
    show BitVec.ofBool (BitVec.ofNat 32 r.val == BitVec.ofNat 32 n) = 0#1
    rw [beq_eq_false_iff_ne.mpr (fun h' => h (e.mp h'))]
    rfl

theorem sel_if (p : Prop) [Decidable p] (a b : EReal) : Scalar.select (if p then 1#1 else 0#1) a b = if p then a else b := by
  by_cases h : p
  · rw [if_pos h, if_pos h]; rfl
  · rw [if_neg h, if_neg h]; rfl

/-- Two entries at the same row. -/
theorem row_congr (c : Dev nD) (b : Fin 32) (T T' : Fin 2048) (q : Fin 2816) (h : T.val = T'.val) : R19 m c (ix3 b T q) = R19 m c (ix3 b T' q) := by
  rw [Fin.ext h]

/-- A tile of the convolution, over the two rows above the block. -/
theorem conv_gen (c : Dev nD) (t : Fin cfg0.N) (c0 c1 : Fin 11 → Vec Ideal S1x256 .f32) (j : Fin 11) (r : Fin 512) (k : Fin 256)
    (h0 : (c0 j : S1x256.Idx → EReal) (ix2 0 k) = if h : t.val % 4 = 0 then (0 : EReal) else R19 m c (ix3 (bt t) ⟨t.val % 4 * 512 - 2 + 0, by omega⟩ ⟨256 * j.val + k.val, by omega⟩))
    (h1 : (c1 j : S1x256.Idx → EReal) (ix2 0 k) = if h : t.val % 4 = 0 then (0 : EReal) else R19 m c (ix3 (bt t) ⟨t.val % 4 * 512 - 2 + 1, by omega⟩ ⟨256 * j.val + k.val, by omega⟩)) :
    (convT (iblk m c 0 t) (iblk m c 1 t) (iblk m c 2 t) (iblk m c 4 t) (iblk m c 5 t) (iblk m c 6 t) (iblk m c 8 t) (iblk m c 9 t) c0 c1 j : S512x256.Idx → EReal) (ix2 r k) = R45 m c (ix3 (bt t) (rt t r) ⟨256 * j.val + k.val, by omega⟩) := by
  unfold R45 convT cbT cwT
  pointwise [k0_pay16, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_2]
  simp only [u_pt m c t, b8 m c t, b9 m c t]
  rw [h0, h1]
  clear h0 h1
  have hr := r.isLt
  have w0 : IntOp.cmpi CmpIPredicate.eq (BitVec.ofNat 32 r.val) 0#32 = if r.val = 0 then 1#1 else 0#1 := cmp_row r 0 (by decide)
  have w1 : IntOp.cmpi CmpIPredicate.eq (BitVec.ofNat 32 r.val) 1#32 = if r.val = 1 then 1#1 else 0#1 := cmp_row r 1 (by decide)
  rw [w0, w1]
  clear w0 w1
  have key2 : (if r.val = 0 then (if h : t.val % 4 = 0 then (0 : EReal) else R19 m c (ix3 (bt t) ⟨t.val % 4 * 512 - 2 + 0, by omega⟩ ⟨256 * j.val + k.val, by omega⟩))
      else if r.val = 1 then (if h : t.val % 4 = 0 then (0 : EReal) else R19 m c (ix3 (bt t) ⟨t.val % 4 * 512 - 2 + 1, by omega⟩ ⟨256 * j.val + k.val, by omega⟩))
      else R19 m c (ix3 (bt t) (rt t ⟨(r.val + 512 - 2) % 512, by omega⟩) ⟨256 * j.val + k.val, by omega⟩))
      = if h : t.val % 4 * 512 + r.val < 2 then (0 : EReal) else R19 m c (ix3 (bt t) ⟨t.val % 4 * 512 + r.val - 2, by omega⟩ ⟨256 * j.val + k.val, by omega⟩) := by
    by_cases e0 : r.val = 0
    · rw [if_pos e0]
      by_cases ht : t.val % 4 = 0
      · rw [dif_pos ht, dif_pos (by omega)]
      · rw [dif_neg ht, dif_neg (by omega)]
        exact row_congr m c _ _ _ _ (by show t.val % 4 * 512 - 2 + 0 = t.val % 4 * 512 + r.val - 2; omega)
    · rw [if_neg e0]
      by_cases e1 : r.val = 1
      · rw [if_pos e1]
        by_cases ht : t.val % 4 = 0
        · rw [dif_pos ht, dif_pos (by omega)]
        · rw [dif_neg ht, dif_neg (by omega)]
          exact row_congr m c _ _ _ _ (by show t.val % 4 * 512 - 2 + 1 = t.val % 4 * 512 + r.val - 2; omega)
      · rw [if_neg e1, dif_neg (by omega)]
        exact row_congr m c _ _ _ _ (by show t.val % 4 * 512 + (r.val + 512 - 2) % 512 = t.val % 4 * 512 + r.val - 2; omega)
  have key1 : (if r.val = 0 then (if h : t.val % 4 = 0 then (0 : EReal) else R19 m c (ix3 (bt t) ⟨t.val % 4 * 512 - 2 + 1, by omega⟩ ⟨256 * j.val + k.val, by omega⟩))
      else R19 m c (ix3 (bt t) (rt t ⟨(r.val + 512 - 1) % 512, by omega⟩) ⟨256 * j.val + k.val, by omega⟩))
      = if h : 1 + (t.val % 4 * 512 + r.val) < 2 then (0 : EReal) else R19 m c (ix3 (bt t) ⟨1 + (t.val % 4 * 512 + r.val) - 2, by omega⟩ ⟨256 * j.val + k.val, by omega⟩) := by
    by_cases e0 : r.val = 0
    · rw [if_pos e0]
      by_cases ht : t.val % 4 = 0
      · rw [dif_pos ht, dif_pos (by omega)]
      · rw [dif_neg ht, dif_neg (by omega)]
        exact row_congr m c _ _ _ _ (by show t.val % 4 * 512 - 2 + 1 = 1 + (t.val % 4 * 512 + r.val) - 2; omega)
    · rw [if_neg e0, dif_neg (by omega)]
      exact row_congr m c _ _ _ _ (by show t.val % 4 * 512 + (r.val + 512 - 1) % 512 = 1 + (t.val % 4 * 512 + r.val) - 2; omega)
  simp only [sel_if]
  rw [key2, key1]

/-- A tile of the convolution. -/
theorem conv_pt (c : Dev nD) (t : Fin cfg0.N) (j : Fin 11) (r : Fin 512) (k : Fin 256) :
    (convT (iblk m c 0 t) (iblk m c 1 t) (iblk m c 2 t) (iblk m c 4 t) (iblk m c 5 t) (iblk m c 6 t) (iblk m c 8 t) (iblk m c 9 t) (crT (carryAt m c t) 0 (by decide)) (crT (carryAt m c t) 1 (by decide)) j : S512x256.Idx → EReal) (ix2 r k) = R45 m c (ix3 (bt t) (rt t r) ⟨256 * j.val + k.val, by omega⟩) :=
  conv_gen m c t _ _ j r k (cr_pt m c t 0 (by decide) j k) (cr_pt m c t 1 (by decide) j k)

/-- One summand of the down projection. -/
def G (c : Dev nD) (t : Fin cfg0.N) (r : Fin 512) (d : Fin 1024) (k : ℕ) : EReal :=
  if h : k < 2816 then R61 m c (ix3 (bt t) (rt t r) ⟨k, h⟩) * (m ((c : Thread nD τ).loc main_arg9) : S1x2816x1024.Idx → EReal) (ix3 0 ⟨k, h⟩ d) else 0

/-- One more tile of the sum. -/
theorem acc_step (c : Dev nD) (t : Fin cfg0.N) (a : FVec Ideal S512x1024 .f32) (w cv : FVec Ideal S512x256 .f32) (j : Fin 11) (r : Fin 512) (d : Fin 1024)
    (hw : ∀ k : Fin 256, (w : S512x256.Idx → EReal) (ix2 r k) = R60 m c (ix3 (bt t) (rt t r) ⟨256 * j.val + k.val, by omega⟩))
    (hc : ∀ k : Fin 256, (cv : S512x256.Idx → EReal) (ix2 r k) = R45 m c (ix3 (bt t) (rt t r) ⟨256 * j.val + k.val, by omega⟩)) :
    (k0_pay20 a w cv (wdT (iblk m c 10 t) j) : S512x1024.Idx → EReal) (ix2 r d)
      = (a : S512x1024.Idx → EReal) (ix2 r d) + ∑ k : Fin 256, G m c t r d (256 * j.val + k.val) := by
  have hG : ∀ k : Fin 256, G m c t r d (256 * j.val + k.val) = R61 m c (ix3 (bt t) (rt t r) ⟨256 * j.val + k.val, by omega⟩) * (m ((c : Thread nD τ).loc main_arg9) : S1x2816x1024.Idx → EReal) (ix3 0 ⟨256 * j.val + k.val, by omega⟩ d) :=
    fun k => dif_pos (by omega)
  simp only [hG]
  unfold wdT R61
  pointwise [k0_pay20, val_main_v61, val_main_v58, val_main_v57, val_main_v56, val_main_v55, val_main_v54, val_main_v53, val_main_v52, val_main_v51, val_main_v50, val_main_v49, val_main_v48, val_main_v47, val_main_v46, val_main_cst_3, val_main_cst_4, val_main_cst_5, val_main_cst_6]
  simp only [b10 m c t, hw, hc]

/-- The sum over the first tiles. -/
theorem acc_pt (c : Dev nD) (t : Fin cfg0.N) (r : Fin 512) (d : Fin 1024) : ∀ (n : ℕ) (hn : n ≤ 11),
    (accT (iblk m c 0 t) (iblk m c 1 t) (iblk m c 2 t) (iblk m c 4 t) (iblk m c 5 t) (iblk m c 6 t) (iblk m c 7 t) (iblk m c 8 t) (iblk m c 9 t) (iblk m c 10 t) (crT (carryAt m c t) 0 (by decide)) (crT (carryAt m c t) 1 (by decide)) n hn : S512x1024.Idx → EReal) (ix2 r d)
      = ∑ k ∈ Finset.range (256 * n), G m c t r d k
  | 0, _ => by
    rw [Nat.mul_zero, Finset.sum_range_zero]
    unfold accT
    pointwise [k0_pay5]
  | n + 1, hn => by
    rw [Nat.mul_succ, Finset.sum_range_add, ← acc_pt c t r d n (Nat.le_of_succ_le hn), Finset.sum_range (fun k => G m c t r d (256 * n + k))]
    exact acc_step m c t _ _ _ ⟨n, hn⟩ r d (fun k => w_pt m c t ⟨n, hn⟩ r k) (fun k => conv_pt m c t ⟨n, hn⟩ r k)

/-- The whole sum is the reference's. -/
theorem sum_pt (c : Dev nD) (t : Fin cfg0.N) (r : Fin 512) (d : Fin 1024) :
    ∑ k ∈ Finset.range 2816, G m c t r d k = R63 m c (ix3 (bt t) (rt t r) d) := by
  rw [Finset.sum_range (fun k => G m c t r d k)]
  have hG : ∀ k : Fin 2816, G m c t r d k.val = R61 m c (ix3 (bt t) (rt t r) k) * (m ((c : Thread nD τ).loc main_arg9) : S1x2816x1024.Idx → EReal) (ix3 0 k d) := fun k => dif_pos k.isLt
  simp only [hG]
  unfold R63
  pointwise [val_main_v63, val_main_v62]

/-- The closing norm of a row, over the row's values `g`. -/
theorem y_eq (res acc a : FVec Ideal S512x1024 .f32) (wv cv : FVec Ideal S512x256 .f32) (wd : Vec Ideal S256x1024 .bf16) (x11 : Vec Ideal S1x1024 .f32)
    (hacc : acc = k0_pay20 a wv cv wd) (w : S1x1024.Idx → EReal) (hw : x11 = w) (r : Fin 512) (g : Fin 1024 → EReal)
    (hg : ∀ k, (res : S512x1024.Idx → EReal) (ix2 r k) + (acc : S512x1024.Idx → EReal) (ix2 r k) = g k) (d : Fin 1024) :
    (k0_pay1 (addf res acc) (k0_pay101 x11) (k0_pay102 res a wv cv wd) : S1x512x1024.Idx → EReal) (ix3 0 r d) = (g d * Ideal.rsqrt (Ideal.div (∑ k, g k * g k) (Ideal.ofBits FTy.f32 1149239296#32) + Ideal.ofBits FTy.f32 897988541#32) * w (ix2 0 d)) := by
  have h100 : k0_pay100 res a wv cv wd = addf res acc := by rw [hacc]; rfl
  unfold k0_pay102
  rw [h100]
  subst hw
  clear h100 hacc
  pointwise [k0_pay1, k0_pay101]
  simp only [hg]

/-- A block of results, row by row. -/
theorem y_pt (c : Dev nD) (t : Fin cfg0.N) (r : Fin 512) (d : Fin 1024) :
    (yAt m c t : S1x512x1024.Idx → EReal) (ix3 0 r d) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (bt t) (rt t r) d) := by
  unfold yAt yF yT
  refine (y_eq _ _ _ _ _ _ _ rfl _ rfl r (fun k => R3 m c (ix3 (bt t) (rt t r) k) + R63 m c (ix3 (bt t) (rt t r) k)) (fun k => ?_) d).trans ?_
  · rw [res_pt m c t r k]
    exact congrArg _ ((acc_pt m c t r k 11 le_rfl).trans (sum_pt m c t r k))
  · unfold R63 R3
    pointwise [val_main_v77, val_main_v76, val_main_v75, val_main_v74, val_main_v73, val_main_v72, val_main_v71, val_main_v70, val_main_v69, val_main_v68, val_main_v67, val_main_v66, val_main_v65, val_main_v64, val_main_cst_7, val_main_cst_8, val_main_cst_9]
    simp only [b11 m c t]

/-- The result array after the run is the reference's result. -/
theorem final12 (c : Dev nD) : (dats m 0 c).arrAt 12 (cfgs 0).N
      = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after12]
  idx_vars y
  obtain rfl : y0 = 0 := Subsingleton.elim _ _
  refine (y_pt m c t y1 y2).trans ?_
  blk_point [idx t]

/-- The array of carried rows after the run is the reference's result. -/
theorem final13 (c : Dev nD) : (dats m 0 c).arrAt 13 (cfgs 0).N
      = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 13 _ (by decide +kernel) fun t ht y => ?_
  have h3 : t.val % 4 = 3 := (flush0_13 t).mp ht
  blk_simp
  rw [after13]
  idx_vars y
  obtain rfl : y0 = 0 := Subsingleton.elim _ _
  refine (tail_pt m c t y1 y2).trans ?_
  pointwise [val_main_v78, val_main_v21]
  rw [dif_neg (by omega)]
  unfold R19
  refine congrArg _ ?_
  blk_ext [idx t]

end Cert.FfnIdeal.Final
-- ==== Proof.FfnClaim.lean ====
/- The closing block's claims: both arrays the kernel returns are the reference's. -/
module

public import proofs.«01_k».proof.Defs
public import proofs.«01_k».proof.Proof.FfnFrame
public import proofs.«01_k».proof.Proof.FfnValue
public import proofs.«01_k».proof.Proof.Gen.FfnRefIdeal.Run
public import proofs.«01_k».proof.Proof.Gen.FfnRefIdeal.Read
public import Idealize.ShloMosaic.Lib.Quiescent

@[expose] public section

noncomputable section

namespace Cert.Proof.FfnClaim

open Idealize.ShloMosaic Idealize.ShloMosaic.TcCoe Idealize.SL.Sem
open Cert.FfnRefIdeal.Read

/-- The reference ends with its arguments as they were; it declares no semaphore. -/
theorem frameR : quiescent_FfnRefIdeal (hFfnRefIdeal := Cert.FfnRefIdeal.Gen.facts) := fun m ρ _ =>
  (θ_run _ _ _).mono (fun r h => ⟨fun c => (h c).2.2, sem_eq_zero_of_no_sems (by decide) r.2⟩)
    (Cert.FfnRefIdeal.Value.run (F := Ideal) m ρ)

/-- The kernel's two arrays are the reference's. -/
theorem value : algebraic_FfnIdeal_FfnRefIdeal (hFfnIdeal := Cert.FfnIdeal.Gen.facts)
    (hFfnRefIdeal := Cert.FfnRefIdeal.Gen.facts) := by
  intro m ρ m' ρ' _ hag
  have hk := θ_run_and (Cert.FfnIdeal.Frm.run_main (F := Ideal) m ρ) (Cert.FfnIdeal.Frm.unchanged (F := Ideal) m ρ)
  have hr := Cert.FfnRefIdeal.Value.run (F := Ideal) m' ρ'
  refine ⟨fun c => (Cert.FfnIdeal.Frm.dats m 0 c).arrAt 12 Cert.FfnIdeal.cfg0.N, fun c => (Cert.FfnIdeal.Frm.dats m 0 c).arrAt 13 Cert.FfnIdeal.cfg0.N,
    (θ_run _ _ _).mono (fun r h c => ⟨(h.1 c).1 12, (h.1 c).1 13, h.2 c⟩) hk, (θ_run _ _ _).mono (fun r h c => ?_) hr⟩
  obtain ⟨h0, h1, h2, h3, h4, h5, h6, h7, h8, h9, h10⟩ := hag c
  obtain ⟨r0, r1, ha⟩ := h c
  refine ⟨r0.trans ((val_main_v77_eq _).trans ?_), r1.trans ((val_main_v78_eq _).trans ?_), ha⟩
  · refine Eq.trans ?_ (Cert.FfnIdeal.Final.final12 m c).symm
    rw [← h0, ← h1, ← h2, ← h3, ← h4, ← h5, ← h6, ← h7, ← h8, ← h9, ← h10]
  · refine Eq.trans ?_ (Cert.FfnIdeal.Final.final13 m c).symm
    rw [← h0, ← h1, ← h2, ← h3, ← h4, ← h5]

end Cert.Proof.FfnClaim

end
-- ==== Proof.FfnSRun.lean ====
/- The sampled batch's closing block: the two arrays the kernel's body stores, as eleven tiles of the hidden width over the input
   arrays. -/
module

public import proofs.«01_k».proof.Proof.Gen.FfnSIdeal.Frame
public import Idealize.ShloMosaic.Lib.Pipeline.ValueKit
public import Idealize.ShloMosaic.Lib.Pointwise

@[expose] public section

set_option maxRecDepth 16384

noncomputable section

namespace Cert.FfnSIdeal.Run

open Idealize.ShloMosaic Idealize.ShloMosaic.TcCoe Idealize.SL.Sem
open Cert.FfnSIdeal Cert.FfnSIdeal.Gen

variable {F : FTy → Type} [FloatOps F]

/-- A tile's columns stay inside an array of `n` rows by 2816. -/
theorem inb_cols (n w r : ℕ) (hr : r + w ≤ n) (j : Fin 11) (d : Fin 2) : (![r, 256 * j.val] : Fin 2 → ℕ) d + (⟨2, ![w, 256]⟩ : Shape).size d ≤ (⟨2, ![n, 2816]⟩ : Shape).size d := by
  have hj := j.isLt
  match d with
  | ⟨0, _⟩ => exact hr
  | ⟨1, _⟩ => show 256 * j.val + 256 ≤ 2816; omega

/-- A tile's rows stay inside the down projection's weights. -/
theorem inb_rows (j : Fin 11) (d : Fin 2) : (![256 * j.val, 0] : Fin 2 → ℕ) d + (⟨2, ![256, 1024]⟩ : Shape).size d ≤ (⟨2, ![2816, 1024]⟩ : Shape).size d := by
  have hj := j.isLt
  match d with
  | ⟨0, _⟩ => show 256 * j.val + 256 ≤ 2816; omega
  | ⟨1, _⟩ => show 0 + 1024 ≤ 1024; omega

/-- A tile's columns stay inside the two rows kept from before. -/
theorem inb_past (r : ℕ) (hr : r + 1 ≤ 2) (j : Fin 11) (d : Fin 3) : (![r, 0, 256 * j.val] : Fin 3 → ℕ) d + (⟨3, ![1, 128, 256]⟩ : Shape).size d ≤ (⟨3, ![2, 128, 2816]⟩ : Shape).size d := by
  have hj := j.isLt
  match d with
  | ⟨0, _⟩ => exact hr
  | ⟨1, _⟩ => show 0 + 128 ≤ 128; omega
  | ⟨2, _⟩ => show 256 * j.val + 256 ≤ 2816; omega

/-- The rows after the mixers: the residual. -/
def resT (x0 x1 : Vec F S512x1024 .f32) (x3 : Vec F S1024x1024 .bf16) : FVec F S512x1024 .f32 :=
  k0_pay2 (View.ld x0 r0_0) (View.ld x1 r0_0) (View.ld x3 r0_1)

/-- The normed rows. -/
def hnT (x0 x1 : Vec F S512x1024 .f32) (x3 : Vec F S1024x1024 .bf16) (x4 : Vec F S1x1024 .f32) : FVec F S512x1024 .bf16 :=
  k0_pay3 (View.ld x0 r0_0) (View.ld x1 r0_0) (View.ld x3 r0_1) (View.ld x4 r0_2)

/-- Columns of tile `j` of the gate weights. -/
def wgT (x : Vec F S1024x2816 .bf16) (j : Fin 11) : Vec F S1024x256 .bf16 :=
  View.ld x (Rect.unit (s := S1024x2816) ![0, 256 * j.val] S1024x256.size (inb_cols 1024 1024 0 (by decide) j))

/-- Row `r` of the convolution's weights, columns of tile `j`. -/
def cwT (x7 : Vec F S3x2816 .f32) (r : ℕ) (hr : r + 1 ≤ 3) (j : Fin 11) : Vec F S1x256 .f32 :=
  View.ld x7 (Rect.unit (s := S3x2816) ![r, 256 * j.val] S1x256.size (inb_cols 3 1 r hr j))

def cbT (x8 : Vec F S1x2816 .f32) (j : Fin 11) : Vec F S1x256 .f32 :=
  View.ld x8 (Rect.unit (s := S1x2816) ![0, 256 * j.val] S1x256.size (inb_cols 1 1 0 (by decide) j))

def wdT (x9 : Vec F S2816x1024 .bf16) (j : Fin 11) : Vec F S256x1024 .bf16 :=
  View.ld x9 (Rect.unit (s := S2816x1024) ![256 * j.val, 0] S256x1024.size (inb_rows j))

/-- The row kept from before at place `r`, columns of tile `j`. -/
def paT (x2 : Vec F S2x128x2816 .f32) (r : ℕ) (hr : r + 1 ≤ 2) (j : Fin 11) : FVec F S128x256 .f32 :=
  k0_pay7 (View.ld x2 (Rect.unit (s := S2x128x2816) ![r, 0, 256 * j.val] S1x128x256.size (inb_past r hr j)))

/-- The gate's product of tile `j` over all four steps. -/
def uT (h : FVec F S512x1024 .bf16) (x5 : Vec F S1024x2816 .bf16) (j : Fin 11) : FVec F S512x256 .f32 := k0_pay21 h (wgT x5 j)

/-- One more tile of the sum, from the tile's products. -/
def stepG (a : FVec F S512x1024 .f32) (u w : FVec F S512x256 .f32) (p0 p1 : FVec F S128x256 .f32) (cb c0 c1 c2 : Vec F S1x256 .f32) (wd : Vec F S256x1024 .bf16) : FVec F S512x1024 .f32 :=
  k0_pay20 a w (k0_pay13 u p0 p1 cb c0 c1 c2) (k0_pay14 u p1 cb c0 c1 c2)
    (k0_pay16 (k0_pay9 u) (k0_pay10 u) (k0_pay11 u) (k0_pay15 cb) c0 c1 c2) (k0_pay17 (k0_pay10 u) (k0_pay11 u) (k0_pay12 u) cb c0 c1 c2) wd

/-- One more tile of the sum. -/
def stepT (h : FVec F S512x1024 .bf16) (x2 : Vec F S2x128x2816 .f32) (x5 x6 : Vec F S1024x2816 .bf16) (x7 : Vec F S3x2816 .f32) (x8 : Vec F S1x2816 .f32) (x9 : Vec F S2816x1024 .bf16) (j : Fin 11) (a : FVec F S512x1024 .f32) : FVec F S512x1024 .f32 :=
  stepG a (uT h x5 j) (k0_pay22 h (wgT x6 j)) (paT x2 0 (by decide) j) (paT x2 1 (by decide) j) (cbT x8 j)
    (cwT x7 0 (by decide) j) (cwT x7 1 (by decide) j) (cwT x7 2 (by decide) j) (wdT x9 j)

/-- The sum over the first `n` tiles. -/
def accT (h : FVec F S512x1024 .bf16) (x2 : Vec F S2x128x2816 .f32) (x5 x6 : Vec F S1024x2816 .bf16) (x7 : Vec F S3x2816 .f32) (x8 : Vec F S1x2816 .f32) (x9 : Vec F S2816x1024 .bf16) : (n : ℕ) → n ≤ 11 → FVec F S512x1024 .f32
  | 0, _ => k0_pay4
  | n + 1, hn => stepT h x2 x5 x6 x7 x8 x9 ⟨n, hn⟩ (accT h x2 x5 x6 x7 x8 x9 n (Nat.le_of_succ_le hn))

/-- The block of results: the closing norm over the residual and the whole sum. -/
def yT (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) : FVec F S512x1024 .f32 :=
  k0_pay1 (addf (resT x0 x1 x3) (accT (hnT x0 x1 x3 x4) x2 x5 x6 x7 x8 x9 11 le_rfl)) (View.ld x10 r0_2)

/-- The body's arithmetic of tile 0. -/
theorem tile0 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay20 a (k0_pay6 (View.ld x0 r0_0) (View.ld x1 r0_0) (View.ld x3 r0_1) (View.ld x4 r0_2) (View.ld x6 r0_3)) (k0_pay13 (k0_pay187 x0 x1 x2 x3 x4 x5 x6 x7 x8 x9 x10) (k0_pay7 (View.ld x2 r0_4)) (k0_pay188 x0 x1 x2 x3 x4 x5 x6 x7 x8 x9 x10) (View.ld x8 r0_6) (View.ld x7 r0_7) (View.ld x7 r0_8) (View.ld x7 r0_9)) (k0_pay14 (k0_pay187 x0 x1 x2 x3 x4 x5 x6 x7 x8 x9 x10) (k0_pay188 x0 x1 x2 x3 x4 x5 x6 x7 x8 x9 x10) (View.ld x8 r0_6) (View.ld x7 r0_7) (View.ld x7 r0_8) (View.ld x7 r0_9)) (k0_pay16 (k0_pay9 (k0_pay187 x0 x1 x2 x3 x4 x5 x6 x7 x8 x9 x10)) (k0_pay189 x0 x1 x2 x3 x4 x5 x6 x7 x8 x9 x10) (k0_pay190 x0 x1 x2 x3 x4 x5 x6 x7 x8 x9 x10) (k0_pay15 (View.ld x8 r0_6)) (View.ld x7 r0_7) (View.ld x7 r0_8) (View.ld x7 r0_9)) (k0_pay17 (k0_pay189 x0 x1 x2 x3 x4 x5 x6 x7 x8 x9 x10) (k0_pay190 x0 x1 x2 x3 x4 x5 x6 x7 x8 x9 x10) (k0_pay191 x0 x1 x2 x3 x4 x5 x6 x7 x8 x9 x10) (View.ld x8 r0_6) (View.ld x7 r0_7) (View.ld x7 r0_8) (View.ld x7 r0_9)) (View.ld x9 r0_10) = stepT (hnT x0 x1 x3 x4) x2 x5 x6 x7 x8 x9 0 a := rfl

/-- The body's arithmetic of tile 1. -/
theorem tile1 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay37 a (k0_pay22 (k0_pay186 x0 x1 x2 x3 x4 x5 x6 x7 x8 x9 x10) (View.ld x6 r0_11)) (k0_pay35 (k0_pay194 x0 x1 x2 x3 x4 x5 x6 x7 x8 x9 x10) (k0_pay195 x0 x1 x2 x3 x4 x5 x6 x7 x8 x9 x10) (k0_pay196 x0 x1 x2 x3 x4 x5 x6 x7 x8 x9 x10) (k0_pay197 x0 x1 x2 x3 x4 x5 x6 x7 x8 x9 x10) (k0_pay198 x0 x1 x2 x3 x4 x5 x6 x7 x8 x9 x10) (k0_pay199 x0 x1 x2 x3 x4 x5 x6 x7 x8 x9 x10) (View.ld x7 r0_16) (View.ld x7 r0_17) (View.ld x8 r0_14) (View.ld x7 r0_15) (View.ld x7 r0_16) (View.ld x7 r0_17)) (k0_pay36 (k0_pay194 x0 x1 x2 x3 x4 x5 x6 x7 x8 x9 x10) (k0_pay195 x0 x1 x2 x3 x4 x5 x6 x7 x8 x9 x10) (k0_pay196 x0 x1 x2 x3 x4 x5 x6 x7 x8 x9 x10) (k0_pay197 x0 x1 x2 x3 x4 x5 x6 x7 x8 x9 x10) (k0_pay198 x0 x1 x2 x3 x4 x5 x6 x7 x8 x9 x10) (k0_pay199 x0 x1 x2 x3 x4 x5 x6 x7 x8 x9 x10) (View.ld x7 r0_16) (View.ld x7 r0_17) (View.ld x8 r0_14) (View.ld x7 r0_15) (View.ld x7 r0_16) (View.ld x7 r0_17)) (View.ld x9 r0_18) = stepT (hnT x0 x1 x3 x4) x2 x5 x6 x7 x8 x9 1 a := rfl

/-- The body's arithmetic of tile 2. -/
theorem tile2 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay54 a (k0_pay39 (k0_pay186 x0 x1 x2 x3 x4 x5 x6 x7 x8 x9 x10) (View.ld x6 r0_19)) (k0_pay51 (k0_pay202 x0 x1 x2 x3 x4 x5 x6 x7 x8 x9 x10) (k0_pay203 x0 x1 x2 x3 x4 x5 x6 x7 x8 x9 x10) (k0_pay204 x0 x1 x2 x3 x4 x5 x6 x7 x8 x9 x10) (k0_pay205 x0 x1 x2 x3 x4 x5 x6 x7 x8 x9 x10) (k0_pay206 x0 x1 x2 x3 x4 x5 x6 x7 x8 x9 x10) (k0_pay207 x0 x1 x2 x3 x4 x5 x6 x7 x8 x9 x10) (View.ld x7 r0_25) (View.ld x8 r0_22) (View.ld x7 r0_23) (View.ld x7 r0_24) (View.ld x7 r0_25)) (k0_pay52 (k0_pay202 x0 x1 x2 x3 x4 x5 x6 x7 x8 x9 x10) (k0_pay203 x0 x1 x2 x3 x4 x5 x6 x7 x8 x9 x10) (k0_pay204 x0 x1 x2 x3 x4 x5 x6 x7 x8 x9 x10) (k0_pay205 x0 x1 x2 x3 x4 x5 x6 x7 x8 x9 x10) (k0_pay206 x0 x1 x2 x3 x4 x5 x6 x7 x8 x9 x10) (k0_pay207 x0 x1 x2 x3 x4 x5 x6 x7 x8 x9 x10) (View.ld x7 r0_25) (View.ld x8 r0_22) (View.ld x7 r0_23) (View.ld x7 r0_24) (View.ld x7 r0_25)) (k0_pay53 (F := F)) (View.ld x9 r0_26) = stepT (hnT x0 x1 x3 x4) x2 x5 x6 x7 x8 x9 2 a := rfl

/-- The body's arithmetic of tile 3. -/
theorem tile3 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay72 a (k0_pay70 (k0_pay56 (k0_pay186 x0 x1 x2 x3 x4 x5 x6 x7 x8 x9 x10) (View.ld x6 r0_27)) (k0_pay209 x0 x1 x2 x3 x4 x5 x6 x7 x8 x9 x10) (k0_pay210 x0 x1 x2 x3 x4 x5 x6 x7 x8 x9 x10) (k0_pay211 x0 x1 x2 x3 x4 x5 x6 x7 x8 x9 x10) (k0_pay64 (k0_pay208 x0 x1 x2 x3 x4 x5 x6 x7 x8 x9 x10) (k0_pay62 (View.ld x2 r0_28) (View.ld x2 r0_29) (View.ld x8 r0_30) (View.ld x7 r0_31) (View.ld x7 r0_32)) (k0_pay63 (View.ld x7 r0_33))) (k0_pay65 (k0_pay57 (View.ld x2 r0_29)) (k0_pay208 x0 x1 x2 x3 x4 x5 x6 x7 x8 x9 x10) (k0_pay209 x0 x1 x2 x3 x4 x5 x6 x7 x8 x9 x10) (View.ld x8 r0_30) (View.ld x7 r0_31) (View.ld x7 r0_32) (View.ld x7 r0_33)) (k0_pay66 (k0_pay208 x0 x1 x2 x3 x4 x5 x6 x7 x8 x9 x10) (k0_pay209 x0 x1 x2 x3 x4 x5 x6 x7 x8 x9 x10) (k0_pay210 x0 x1 x2 x3 x4 x5 x6 x7 x8 x9 x10) (View.ld x8 r0_30) (View.ld x7 r0_31) (View.ld x7 r0_32) (View.ld x7 r0_33)) (k0_pay67 (View.ld x8 r0_30)) (View.ld x7 r0_31) (View.ld x7 r0_32) (View.ld x7 r0_33)) (k0_pay71 (View.ld x9 r0_34)) (constant S512x1024 .f32 0x00000000#32) = stepT (hnT x0 x1 x3 x4) x2 x5 x6 x7 x8 x9 3 a := rfl

/-- The body's arithmetic of tile 4. -/
theorem tile4 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay87 a (k0_pay74 (k0_pay186 x0 x1 x2 x3 x4 x5 x6 x7 x8 x9 x10) (View.ld x6 r0_35)) (k0_pay214 x0 x1 x2 x3 x4 x5 x6 x7 x8 x9 x10) (k0_pay215 x0 x1 x2 x3 x4 x5 x6 x7 x8 x9 x10) (k0_pay80 (k0_pay186 x0 x1 x2 x3 x4 x5 x6 x7 x8 x9 x10) (View.ld x5 r0_35) (View.ld x2 r0_36) (View.ld x2 r0_37) (View.ld x8 r0_38) (View.ld x7 r0_39) (View.ld x7 r0_40) (View.ld x7 r0_41)) (k0_pay82 (k0_pay75 (View.ld x2 r0_37)) (k0_pay212 x0 x1 x2 x3 x4 x5 x6 x7 x8 x9 x10) (k0_pay213 x0 x1 x2 x3 x4 x5 x6 x7 x8 x9 x10) (k0_pay81 (View.ld x8 r0_38)) (View.ld x7 r0_39) (View.ld x7 r0_40) (View.ld x7 r0_41)) (k0_pay83 (k0_pay212 x0 x1 x2 x3 x4 x5 x6 x7 x8 x9 x10) (k0_pay213 x0 x1 x2 x3 x4 x5 x6 x7 x8 x9 x10) (k0_pay214 x0 x1 x2 x3 x4 x5 x6 x7 x8 x9 x10) (View.ld x8 r0_38) (View.ld x7 r0_39) (View.ld x7 r0_40) (View.ld x7 r0_41)) (k0_pay84 (k0_pay213 x0 x1 x2 x3 x4 x5 x6 x7 x8 x9 x10) (View.ld x8 r0_38) (View.ld x7 r0_39)) (View.ld x7 r0_40) (View.ld x7 r0_41) (View.ld x9 r0_42) = stepT (hnT x0 x1 x3 x4) x2 x5 x6 x7 x8 x9 4 a := rfl

/-- The body's arithmetic of tile 5. -/
theorem tile5 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay103 a (k0_pay89 (k0_pay186 x0 x1 x2 x3 x4 x5 x6 x7 x8 x9 x10) (View.ld x6 r0_43)) (k0_pay220 x0 x1 x2 x3 x4 x5 x6 x7 x8 x9 x10) (k0_pay95 (k0_pay216 x0 x1 x2 x3 x4 x5 x6 x7 x8 x9 x10) (View.ld x2 r0_44) (View.ld x2 r0_45) (View.ld x8 r0_46) (View.ld x7 r0_47) (View.ld x7 r0_48) (View.ld x7 r0_49)) (k0_pay97 (k0_pay217 x0 x1 x2 x3 x4 x5 x6 x7 x8 x9 x10) (k0_pay218 x0 x1 x2 x3 x4 x5 x6 x7 x8 x9 x10) (k0_pay96 (View.ld x2 r0_45) (View.ld x8 r0_46) (View.ld x7 r0_47)) (View.ld x7 r0_48) (View.ld x7 r0_49)) (k0_pay98 (k0_pay217 x0 x1 x2 x3 x4 x5 x6 x7 x8 x9 x10) (k0_pay218 x0 x1 x2 x3 x4 x5 x6 x7 x8 x9 x10) (k0_pay219 x0 x1 x2 x3 x4 x5 x6 x7 x8 x9 x10) (View.ld x8 r0_46) (View.ld x7 r0_47) (View.ld x7 r0_48) (View.ld x7 r0_49)) (k0_pay99 (k0_pay218 x0 x1 x2 x3 x4 x5 x6 x7 x8 x9 x10) (k0_pay219 x0 x1 x2 x3 x4 x5 x6 x7 x8 x9 x10) (View.ld x8 r0_46) (View.ld x7 r0_47) (View.ld x7 r0_48)) (k0_pay100 (View.ld x7 r0_49)) (View.ld x9 r0_50) = stepT (hnT x0 x1 x3 x4) x2 x5 x6 x7 x8 x9 5 a := rfl

/-- The body's arithmetic of tile 6. -/
theorem tile6 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay119 a (k0_pay105 (k0_pay186 x0 x1 x2 x3 x4 x5 x6 x7 x8 x9 x10) (View.ld x6 r0_51)) (k0_pay111 (k0_pay221 x0 x1 x2 x3 x4 x5 x6 x7 x8 x9 x10) (View.ld x2 r0_52) (View.ld x2 r0_53) (View.ld x8 r0_54) (View.ld x7 r0_55) (View.ld x7 r0_56) (View.ld x7 r0_57)) (k0_pay114 (k0_pay222 x0 x1 x2 x3 x4 x5 x6 x7 x8 x9 x10) (k0_pay112 (k0_pay221 x0 x1 x2 x3 x4 x5 x6 x7 x8 x9 x10) (View.ld x2 r0_53) (View.ld x8 r0_54) (View.ld x7 r0_55) (View.ld x7 r0_56)) (k0_pay113 (View.ld x7 r0_57))) (k0_pay115 (k0_pay107 (k0_pay221 x0 x1 x2 x3 x4 x5 x6 x7 x8 x9 x10)) (k0_pay222 x0 x1 x2 x3 x4 x5 x6 x7 x8 x9 x10) (k0_pay223 x0 x1 x2 x3 x4 x5 x6 x7 x8 x9 x10) (View.ld x8 r0_54) (View.ld x7 r0_55) (View.ld x7 r0_56) (View.ld x7 r0_57)) (k0_pay116 (k0_pay222 x0 x1 x2 x3 x4 x5 x6 x7 x8 x9 x10) (k0_pay223 x0 x1 x2 x3 x4 x5 x6 x7 x8 x9 x10) (k0_pay224 x0 x1 x2 x3 x4 x5 x6 x7 x8 x9 x10) (View.ld x8 r0_54) (View.ld x7 r0_55) (View.ld x7 r0_56) (View.ld x7 r0_57)) (View.ld x9 r0_58) = stepT (hnT x0 x1 x3 x4) x2 x5 x6 x7 x8 x9 6 a := rfl

/-- The body's arithmetic of tile 7. -/
theorem tile7 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay134 a (k0_pay121 (k0_pay186 x0 x1 x2 x3 x4 x5 x6 x7 x8 x9 x10) (View.ld x6 r0_59)) (k0_pay133 (k0_pay226 x0 x1 x2 x3 x4 x5 x6 x7 x8 x9 x10) (k0_pay227 x0 x1 x2 x3 x4 x5 x6 x7 x8 x9 x10) (k0_pay228 x0 x1 x2 x3 x4 x5 x6 x7 x8 x9 x10) (k0_pay229 x0 x1 x2 x3 x4 x5 x6 x7 x8 x9 x10) (k0_pay128 (k0_pay122 (View.ld x2 r0_60)) (k0_pay225 x0 x1 x2 x3 x4 x5 x6 x7 x8 x9 x10) (k0_pay226 x0 x1 x2 x3 x4 x5 x6 x7 x8 x9 x10) (View.ld x8 r0_62) (View.ld x7 r0_63) (View.ld x7 r0_64) (View.ld x7 r0_65)) (k0_pay129 (k0_pay225 x0 x1 x2 x3 x4 x5 x6 x7 x8 x9 x10) (k0_pay226 x0 x1 x2 x3 x4 x5 x6 x7 x8 x9 x10) (k0_pay227 x0 x1 x2 x3 x4 x5 x6 x7 x8 x9 x10) (View.ld x8 r0_62) (View.ld x7 r0_63) (View.ld x7 r0_64) (View.ld x7 r0_65)) (k0_pay130 (View.ld x8 r0_62)) (View.ld x7 r0_63) (View.ld x7 r0_64) (View.ld x7 r0_65) (View.ld x8 r0_62) (View.ld x7 r0_63) (View.ld x7 r0_64) (View.ld x7 r0_65)) (View.ld x9 r0_66) = stepT (hnT x0 x1 x3 x4) x2 x5 x6 x7 x8 x9 7 a := rfl

/-- The body's arithmetic of tile 8. -/
theorem tile8 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay153 a (k0_pay136 (k0_pay186 x0 x1 x2 x3 x4 x5 x6 x7 x8 x9 x10) (View.ld x6 r0_67)) (k0_pay151 (k0_pay232 x0 x1 x2 x3 x4 x5 x6 x7 x8 x9 x10) (k0_pay233 x0 x1 x2 x3 x4 x5 x6 x7 x8 x9 x10) (k0_pay234 x0 x1 x2 x3 x4 x5 x6 x7 x8 x9 x10) (k0_pay235 x0 x1 x2 x3 x4 x5 x6 x7 x8 x9 x10) (k0_pay236 x0 x1 x2 x3 x4 x5 x6 x7 x8 x9 x10) (k0_pay237 x0 x1 x2 x3 x4 x5 x6 x7 x8 x9 x10) (k0_pay238 x0 x1 x2 x3 x4 x5 x6 x7 x8 x9 x10) (View.ld x7 r0_73) (View.ld x8 r0_70) (View.ld x7 r0_71) (View.ld x7 r0_72) (View.ld x7 r0_73)) (k0_pay152 (k0_pay232 x0 x1 x2 x3 x4 x5 x6 x7 x8 x9 x10) (k0_pay233 x0 x1 x2 x3 x4 x5 x6 x7 x8 x9 x10) (k0_pay234 x0 x1 x2 x3 x4 x5 x6 x7 x8 x9 x10) (k0_pay235 x0 x1 x2 x3 x4 x5 x6 x7 x8 x9 x10) (k0_pay236 x0 x1 x2 x3 x4 x5 x6 x7 x8 x9 x10) (k0_pay237 x0 x1 x2 x3 x4 x5 x6 x7 x8 x9 x10) (k0_pay238 x0 x1 x2 x3 x4 x5 x6 x7 x8 x9 x10) (View.ld x7 r0_73) (View.ld x8 r0_70) (View.ld x7 r0_71) (View.ld x7 r0_72) (View.ld x7 r0_73)) (View.ld x9 r0_74) = stepT (hnT x0 x1 x3 x4) x2 x5 x6 x7 x8 x9 8 a := rfl

/-- The body's arithmetic of tile 9. -/
theorem tile9 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay170 a (k0_pay169 (k0_pay155 (k0_pay186 x0 x1 x2 x3 x4 x5 x6 x7 x8 x9 x10) (View.ld x6 r0_75)) (k0_pay241 x0 x1 x2 x3 x4 x5 x6 x7 x8 x9 x10) (k0_pay242 x0 x1 x2 x3 x4 x5 x6 x7 x8 x9 x10) (k0_pay243 x0 x1 x2 x3 x4 x5 x6 x7 x8 x9 x10) (k0_pay163 (k0_pay239 x0 x1 x2 x3 x4 x5 x6 x7 x8 x9 x10) (k0_pay240 x0 x1 x2 x3 x4 x5 x6 x7 x8 x9 x10) (k0_pay161 (View.ld x2 r0_76) (View.ld x8 r0_78) (View.ld x7 r0_79)) (k0_pay162 (View.ld x7 r0_80)) (View.ld x7 r0_81)) (k0_pay164 (k0_pay239 x0 x1 x2 x3 x4 x5 x6 x7 x8 x9 x10) (k0_pay240 x0 x1 x2 x3 x4 x5 x6 x7 x8 x9 x10) (k0_pay241 x0 x1 x2 x3 x4 x5 x6 x7 x8 x9 x10) (View.ld x8 r0_78) (View.ld x7 r0_79) (View.ld x7 r0_80) (View.ld x7 r0_81)) (k0_pay165 (k0_pay240 x0 x1 x2 x3 x4 x5 x6 x7 x8 x9 x10) (k0_pay241 x0 x1 x2 x3 x4 x5 x6 x7 x8 x9 x10) (View.ld x8 r0_78) (View.ld x7 r0_79) (View.ld x7 r0_80)) (k0_pay166 (k0_pay242 x0 x1 x2 x3 x4 x5 x6 x7 x8 x9 x10) (View.ld x7 r0_81)) (View.ld x8 r0_78) (View.ld x7 r0_79) (View.ld x7 r0_80) (View.ld x7 r0_81)) (View.ld x9 r0_82) = stepT (hnT x0 x1 x3 x4) x2 x5 x6 x7 x8 x9 9 a := rfl

/-- The body's arithmetic of tile 10. -/
theorem tile10 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (a : FVec F S512x1024 .f32) :
    k0_pay185 (k0_pay2 (View.ld x0 r0_0) (View.ld x1 r0_0) (View.ld x3 r0_1)) a (k0_pay172 (k0_pay186 x0 x1 x2 x3 x4 x5 x6 x7 x8 x9 x10) (View.ld x6 r0_83)) (k0_pay245 x0 x1 x2 x3 x4 x5 x6 x7 x8 x9 x10) (k0_pay246 x0 x1 x2 x3 x4 x5 x6 x7 x8 x9 x10) (k0_pay247 x0 x1 x2 x3 x4 x5 x6 x7 x8 x9 x10) (k0_pay178 (k0_pay186 x0 x1 x2 x3 x4 x5 x6 x7 x8 x9 x10) (View.ld x5 r0_83) (View.ld x2 r0_84) (View.ld x2 r0_85) (View.ld x8 r0_86) (View.ld x7 r0_87) (View.ld x7 r0_88) (View.ld x7 r0_89)) (k0_pay179 (k0_pay173 (View.ld x2 r0_85)) (k0_pay244 x0 x1 x2 x3 x4 x5 x6 x7 x8 x9 x10) (k0_pay245 x0 x1 x2 x3 x4 x5 x6 x7 x8 x9 x10) (View.ld x8 r0_86) (View.ld x7 r0_87) (View.ld x7 r0_88) (View.ld x7 r0_89)) (k0_pay180 (k0_pay244 x0 x1 x2 x3 x4 x5 x6 x7 x8 x9 x10) (k0_pay245 x0 x1 x2 x3 x4 x5 x6 x7 x8 x9 x10) (k0_pay246 x0 x1 x2 x3 x4 x5 x6 x7 x8 x9 x10) (View.ld x8 r0_86) (View.ld x7 r0_87) (View.ld x7 r0_88) (View.ld x7 r0_89)) (k0_pay181 (View.ld x8 r0_86)) (k0_pay182 (View.ld x7 r0_87)) (View.ld x7 r0_88) (View.ld x7 r0_89) (View.ld x9 r0_90) = addf (resT x0 x1 x3) (stepT (hnT x0 x1 x3 x4) x2 x5 x6 x7 x8 x9 10 a) := rfl

/-- The array of results is stored once, whole. -/
theorem out11 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) : out0_11 x0 x1 x2 x3 x4 x5 x6 x7 x8 x9 x10 = View.canon [⟨r0_0, yT x0 x1 x2 x3 x4 x5 x6 x7 x8 x9 x10⟩] := by
  unfold out0_11
  rw [tile0, tile1, tile2, tile3, tile4, tile5, tile6, tile7, tile8, tile9, tile10]
  rfl

/-- The two rows kept, tile by tile: the gate's product at the last two steps. -/
def tF (h : FVec F S512x1024 .bf16) (x5 : Vec F S1024x2816 .bf16) : Vec F S2x128x2816 .f32 := fun y =>
  uT h x5 ⟨(y 2).val / 256, by have : (y 2).val < 2816 := (y 2).isLt; omega⟩
    (ix2 (⟨256 + (y 0).val * 128 + (y 1).val, by have h0 : (y 0).val < 2 := (y 0).isLt; have h1 : (y 1).val < 128 := (y 1).isLt; omega⟩ : Fin 512) (⟨(y 2).val % 256, Nat.mod_lt _ (by decide)⟩ : Fin 256))

/-- A tile's piece of the kept rows: the third step. -/
theorem piece0 (h : FVec F S512x1024 .bf16) (x5 : Vec F S1024x2816 .bf16) (j : Fin 11) (y : S2x128x2816.Idx) :
    View.RectAt y (Rect.unit (s := S2x128x2816) ![0, 0, 256 * j.val] S1x128x256.size (inb_past 0 (by decide) j)) (k0_pay18 (k0_pay11 (uT h x5 j))) (tF h x5 y) := by
  intro x hx
  have h0 : (y 0).val = 0 + 1 * (x 0).val := by rw [← hx]; rfl
  have h1 : (y 1).val = 0 + 1 * (x 1).val := by rw [← hx]; rfl
  have h2 : (y 2).val = 256 * j.val + 1 * (x 2).val := by rw [← hx]; rfl
  clear hx
  have hx0 : (x 0).val < 1 := (x 0).isLt
  have hx2 : (x 2).val < 256 := (x 2).isLt
  have hj : (⟨(y 2).val / 256, by have : (y 2).val < 2816 := (y 2).isLt; omega⟩ : Fin 11) = j := Fin.ext (by show _ / 256 = _; omega)
  unfold tF
  rw [hj]
  generalize uT h x5 j = u
  idx_vars x
  pointwise [k0_pay18, k0_pay11]
  refine congrArg u (funext fun a => Fin.ext ?_)
  fin_cases a
  · show 256 + x1.val = 256 + (y 0).val * 128 + (y 1).val
    simp at h0 h1 hx0; omega
  · show x2.val = (y 2).val % 256
    simp at h2 hx2; omega

/-- A tile's piece of the kept rows: the last step. -/
theorem piece1 (h : FVec F S512x1024 .bf16) (x5 : Vec F S1024x2816 .bf16) (j : Fin 11) (y : S2x128x2816.Idx) :
    View.RectAt y (Rect.unit (s := S2x128x2816) ![1, 0, 256 * j.val] S1x128x256.size (inb_past 1 (by decide) j)) (k0_pay19 (k0_pay12 (uT h x5 j))) (tF h x5 y) := by
  intro x hx
  have h0 : (y 0).val = 1 + 1 * (x 0).val := by rw [← hx]; rfl
  have h1 : (y 1).val = 0 + 1 * (x 1).val := by rw [← hx]; rfl
  have h2 : (y 2).val = 256 * j.val + 1 * (x 2).val := by rw [← hx]; rfl
  clear hx
  have hx0 : (x 0).val < 1 := (x 0).isLt
  have hx2 : (x 2).val < 256 := (x 2).isLt
  have hj : (⟨(y 2).val / 256, by have : (y 2).val < 2816 := (y 2).isLt; omega⟩ : Fin 11) = j := Fin.ext (by show _ / 256 = _; omega)
  unfold tF
  rw [hj]
  generalize uT h x5 j = u
  idx_vars x
  pointwise [k0_pay19, k0_pay12]
  refine congrArg u (funext fun a => Fin.ext ?_)
  fin_cases a
  · show 384 + x1.val = 256 + (y 0).val * 128 + (y 1).val
    simp at h0 h1 hx0; omega
  · show x2.val = (y 2).val % 256
    simp at h2 hx2; omega

/-- The kept rows are stored tile by tile. -/
theorem out12 (x0 : Vec F S512x1024 .f32) (x1 : Vec F S512x1024 .f32) (x2 : Vec F S2x128x2816 .f32) (x3 : Vec F S1024x1024 .bf16) (x4 : Vec F S1x1024 .f32) (x5 : Vec F S1024x2816 .bf16) (x6 : Vec F S1024x2816 .bf16) (x7 : Vec F S3x2816 .f32) (x8 : Vec F S1x2816 .f32) (x9 : Vec F S2816x1024 .bf16) (x10 : Vec F S1x1024 .f32) (y : S2x128x2816.Idx) : out0_12 x0 x1 x2 x3 x4 x5 x6 x7 x8 x9 x10 y = tF (hnT x0 x1 x3 x4) x5 y := by
  unfold out0_12
  refine View.canon_eq_of_allAt _ y _ (View.cover_of_tiled (s := S2x128x2816) _ (S1x128x256.size : Fin 3 → ℕ) rfl y) ?_
  refine View.allAt_cons _ _ _ (piece1 (hnT x0 x1 x3 x4) x5 10 y) ?_
  refine View.allAt_cons _ _ _ (piece0 (hnT x0 x1 x3 x4) x5 10 y) ?_
  refine View.allAt_cons _ _ _ (piece1 (hnT x0 x1 x3 x4) x5 9 y) ?_
  refine View.allAt_cons _ _ _ (piece0 (hnT x0 x1 x3 x4) x5 9 y) ?_
  refine View.allAt_cons _ _ _ (piece1 (hnT x0 x1 x3 x4) x5 8 y) ?_
  refine View.allAt_cons _ _ _ (piece0 (hnT x0 x1 x3 x4) x5 8 y) ?_
  refine View.allAt_cons _ _ _ (piece1 (hnT x0 x1 x3 x4) x5 7 y) ?_
  refine View.allAt_cons _ _ _ (piece0 (hnT x0 x1 x3 x4) x5 7 y) ?_
  refine View.allAt_cons _ _ _ (piece1 (hnT x0 x1 x3 x4) x5 6 y) ?_
  refine View.allAt_cons _ _ _ (piece0 (hnT x0 x1 x3 x4) x5 6 y) ?_
  refine View.allAt_cons _ _ _ (piece1 (hnT x0 x1 x3 x4) x5 5 y) ?_
  refine View.allAt_cons _ _ _ (piece0 (hnT x0 x1 x3 x4) x5 5 y) ?_
  refine View.allAt_cons _ _ _ (piece1 (hnT x0 x1 x3 x4) x5 4 y) ?_
  refine View.allAt_cons _ _ _ (piece0 (hnT x0 x1 x3 x4) x5 4 y) ?_
  refine View.allAt_cons _ _ _ (piece1 (hnT x0 x1 x3 x4) x5 3 y) ?_
  refine View.allAt_cons _ _ _ (piece0 (hnT x0 x1 x3 x4) x5 3 y) ?_
  refine View.allAt_cons _ _ _ (piece1 (hnT x0 x1 x3 x4) x5 2 y) ?_
  refine View.allAt_cons _ _ _ (piece0 (hnT x0 x1 x3 x4) x5 2 y) ?_
  refine View.allAt_cons _ _ _ (piece1 (hnT x0 x1 x3 x4) x5 1 y) ?_
  refine View.allAt_cons _ _ _ (piece0 (hnT x0 x1 x3 x4) x5 1 y) ?_
  refine View.allAt_cons _ _ _ (piece1 (hnT x0 x1 x3 x4) x5 0 y) ?_
  refine View.allAt_cons _ _ _ (piece0 (hnT x0 x1 x3 x4) x5 0 y) ?_
  exact View.allAt_nil y _

end Cert.FfnSIdeal.Run
-- ==== Proof.FfnSValue.lean ====
/- The sampled batch's closing block: what the kernel's two output arrays hold after the run, index by index, against the
   reference's stages. -/
module

public import proofs.«01_k».proof.Proof.FfnSRun
public import proofs.«01_k».proof.Proof.Gen.FfnSRefIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnSIdeal.Final

open Cert.FfnSRefIdeal.Read
open Cert.FfnSIdeal Cert.FfnSIdeal.Gen Cert.FfnSIdeal.Run

variable (m : (ℓ : Loc nD τ sig) → Buf (Elt Ideal) ℓ)

/-- The sequence a row of the kernel's array is of. -/
abbrev sq (r : Fin 512) : Fin 128 := ⟨r.val % 128, Nat.mod_lt _ (by decide)⟩
/-- The step a row of the kernel's array is of. -/
abbrev st (r : Fin 512) : Fin 4 := ⟨r.val / 128, by omega⟩

/-- Where each window sits: at the array's head. -/
theorem idx : ∀ t : Fin cfg0.N, win0_0.index t = ![0, 0]
    ∧ win0_1.index t = ![0, 0]
    ∧ win0_2.index t = ![0, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0, 0] :=
  (by decide +kernel : ∀ t : Fin grid0.N, _)

theorem sq0 (b : Fin 128) (h : b.val < 512) : sq ⟨b.val, h⟩ = b := Fin.ext (by show (b.val) % 128 = b.val; omega)
theorem st0 (b : Fin 128) (h : b.val < 512) : st ⟨b.val, h⟩ = 0 := Fin.ext (by show (b.val) / 128 = 0; omega)
theorem sq1 (b : Fin 128) (h : 128 + b.val < 512) : sq ⟨128 + b.val, h⟩ = b := Fin.ext (by show (128 + b.val) % 128 = b.val; omega)
theorem st1 (b : Fin 128) (h : 128 + b.val < 512) : st ⟨128 + b.val, h⟩ = 1 := Fin.ext (by show (128 + b.val) / 128 = 1; omega)
theorem sq2 (b : Fin 128) (h : 256 + b.val < 512) : sq ⟨256 + b.val, h⟩ = b := Fin.ext (by show (256 + b.val) % 128 = b.val; omega)
theorem st2 (b : Fin 128) (h : 256 + b.val < 512) : st ⟨256 + b.val, h⟩ = 2 := Fin.ext (by show (256 + b.val) / 128 = 2; omega)
theorem sq3 (b : Fin 128) (h : 384 + b.val < 512) : sq ⟨384 + b.val, h⟩ = b := Fin.ext (by show (384 + b.val) % 128 = b.val; omega)
theorem st3 (b : Fin 128) (h : 384 + b.val < 512) : st ⟨384 + b.val, h⟩ = 3 := Fin.ext (by show (384 + b.val) / 128 = 3; omega)

/-- The two mixers' outputs side by side. -/
abbrev R0 (c : Dev nD) : S128x4x1024.Idx → EReal := val_main_v0 (F := Ideal) (m ((c : Thread nD τ).loc main_arg1)) (m ((c : Thread nD τ).loc main_arg2))

theorem V0_at (c : Dev nD) (r : Fin 512) (k : Fin 1024) :
    (V m c main_v18 : S512x1024.Idx → EReal) (ix2 r k) = (m ((c : Thread nD τ).loc main_arg0) : S128x4x1024.Idx → EReal) (ix3 (sq r) (st r) k) := by
  unfold V
  simp only [hostOps0, List.flatten_cons, List.flatten_nil, List.append_nil, List.cons_append, List.nil_append]
  after_reads_at
theorem b0 (c : Dev nD) (t : Fin cfg0.N) (r : Fin 512) (k : Fin 1024) :
    (iblk m c 0 t : S512x1024.Idx → EReal) (ix2 r k) = (m ((c : Thread nD τ).loc main_arg0) : S128x4x1024.Idx → EReal) (ix3 (sq r) (st r) k) := by
  refine Eq.trans ?_ (V0_at m c r k)
  blk_ext [iblk, idx t]
theorem V1_at (c : Dev nD) (r : Fin 512) (k : Fin 1024) :
    (V m c main_v16 : S512x1024.Idx → EReal) (ix2 r k) = R0 m c (ix3 (sq r) (st r) k) := by
  unfold V
  simp only [hostOps0, List.flatten_cons, List.flatten_nil, List.append_nil, List.cons_append, List.nil_append]
  after_reads_at
  after_reads_simp
  unfold R0
  pointwise [val_main_v0]
theorem b1 (c : Dev nD) (t : Fin cfg0.N) (r : Fin 512) (k : Fin 1024) :
    (iblk m c 1 t : S512x1024.Idx → EReal) (ix2 r k) = R0 m c (ix3 (sq r) (st r) k) := by
  refine Eq.trans ?_ (V1_at m c r k)
  blk_ext [iblk, idx t]
theorem V2_at (c : Dev nD) (e : Fin 2) (b : Fin 128) (k : Fin 2816) :
    (V m c main_v20 : S2x128x2816.Idx → EReal) (ix3 e b k) = (m ((c : Thread nD τ).loc main_arg3) : S1x128x2x2816.Idx → EReal) (ix4 0 b e k) := by
  unfold V
  simp only [hostOps0, List.flatten_cons, List.flatten_nil, List.append_nil, List.cons_append, List.nil_append]
  after_reads_at
theorem b2 (c : Dev nD) (t : Fin cfg0.N) (e : Fin 2) (b : Fin 128) (k : Fin 2816) :
    (iblk m c 2 t : S2x128x2816.Idx → EReal) (ix3 e b k) = (m ((c : Thread nD τ).loc main_arg3) : S1x128x2x2816.Idx → EReal) (ix4 0 b e k) := by
  refine Eq.trans ?_ (V2_at m c e b k)
  blk_ext [iblk, idx t]
theorem V3_at (c : Dev nD) (r : Fin 1024) (k : Fin 1024) :
    (V m c main_v1 : S1024x1024.Idx → EReal) (ix2 r k) = (m ((c : Thread nD τ).loc main_arg4) : S1x1024x1024.Idx → EReal) (ix3 0 r k) := by
  unfold V
  simp only [hostOps0, List.flatten_cons, List.flatten_nil, List.append_nil, List.cons_append, List.nil_append]
  after_reads_at
theorem b3 (c : Dev nD) (t : Fin cfg0.N) (r : Fin 1024) (k : Fin 1024) :
    (iblk m c 3 t : S1024x1024.Idx → EReal) (ix2 r k) = (m ((c : Thread nD τ).loc main_arg4) : S1x1024x1024.Idx → EReal) (ix3 0 r k) := by
  refine Eq.trans ?_ (V3_at m c r k)
  blk_ext [iblk, idx t]
theorem V4_at (c : Dev nD) (k : Fin 1024) :
    (V m c main_v3 : S1x1024.Idx → EReal) (ix2 0 k) = (m ((c : Thread nD τ).loc main_arg5) : S1x1024.Idx → EReal) (ix2 0 k) := by
  unfold V
  simp only [hostOps0, List.flatten_cons, List.flatten_nil, List.append_nil, List.cons_append, List.nil_append]
  after_reads_at
theorem b4 (c : Dev nD) (t : Fin cfg0.N) (k : Fin 1024) :
    (iblk m c 4 t : S1x1024.Idx → EReal) (ix2 0 k) = (m ((c : Thread nD τ).loc main_arg5) : S1x1024.Idx → EReal) (ix2 0 k) := by
  refine Eq.trans ?_ (V4_at m c k)
  blk_ext [iblk, idx t]
theorem V5_at (c : Dev nD) (r : Fin 1024) (k : Fin 2816) :
    (V m c main_v5 : S1024x2816.Idx → EReal) (ix2 r k) = (m ((c : Thread nD τ).loc main_arg6) : S1x1024x2816.Idx → EReal) (ix3 0 r k) := by
  unfold V
  simp only [hostOps0, List.flatten_cons, List.flatten_nil, List.append_nil, List.cons_append, List.nil_append]
  after_reads_at
theorem b5 (c : Dev nD) (t : Fin cfg0.N) (r : Fin 1024) (k : Fin 2816) :
    (iblk m c 5 t : S1024x2816.Idx → EReal) (ix2 r k) = (m ((c : Thread nD τ).loc main_arg6) : S1x1024x2816.Idx → EReal) (ix3 0 r k) := by
  refine Eq.trans ?_ (V5_at m c r k)
  blk_ext [iblk, idx t]
theorem V6_at (c : Dev nD) (r : Fin 1024) (k : Fin 2816) :
    (V m c main_v7 : S1024x2816.Idx → EReal) (ix2 r k) = (m ((c : Thread nD τ).loc main_arg7) : S1x1024x2816.Idx → EReal) (ix3 0 r k) := by
  unfold V
  simp only [hostOps0, List.flatten_cons, List.flatten_nil, List.append_nil, List.cons_append, List.nil_append]
  after_reads_at
theorem b6 (c : Dev nD) (t : Fin cfg0.N) (r : Fin 1024) (k : Fin 2816) :
    (iblk m c 6 t : S1024x2816.Idx → EReal) (ix2 r k) = (m ((c : Thread nD τ).loc main_arg7) : S1x1024x2816.Idx → EReal) (ix3 0 r k) := by
  refine Eq.trans ?_ (V6_at m c r k)
  blk_ext [iblk, idx t]
theorem V7_at (c : Dev nD) (r : Fin 3) (k : Fin 2816) :
    (V m c main_v8 : S3x2816.Idx → EReal) (ix2 r k) = (m ((c : Thread nD τ).loc main_arg8) : S1x3x2816.Idx → EReal) (ix3 0 r k) := by
  unfold V
  simp only [hostOps0, List.flatten_cons, List.flatten_nil, List.append_nil, List.cons_append, List.nil_append]
  after_reads_at
theorem b7 (c : Dev nD) (t : Fin cfg0.N) (r : Fin 3) (k : Fin 2816) :
    (iblk m c 7 t : S3x2816.Idx → EReal) (ix2 r k) = (m ((c : Thread nD τ).loc main_arg8) : S1x3x2816.Idx → EReal) (ix3 0 r k) := by
  refine Eq.trans ?_ (V7_at m c r k)
  blk_ext [iblk, idx t]
theorem V8_at (c : Dev nD) (k : Fin 2816) :
    (V m c main_v10 : S1x2816.Idx → EReal) (ix2 0 k) = (m ((c : Thread nD τ).loc main_arg9) : S1x2816.Idx → EReal) (ix2 0 k) := by
  unfold V
  simp only [hostOps0, List.flatten_cons, List.flatten_nil, List.append_nil, List.cons_append, List.nil_append]
  after_reads_at
theorem b8 (c : Dev nD) (t : Fin cfg0.N) (k : Fin 2816) :
    (iblk m c 8 t : S1x2816.Idx → EReal) (ix2 0 k) = (m ((c : Thread nD τ).loc main_arg9) : S1x2816.Idx → EReal) (ix2 0 k) := by
  refine Eq.trans ?_ (V8_at m c k)
  blk_ext [iblk, idx t]
theorem V9_at (c : Dev nD) (r : Fin 2816) (k : Fin 1024) :
    (V m c main_v12 : S2816x1024.Idx → EReal) (ix2 r k) = (m ((c : Thread nD τ).loc main_arg10) : S1x2816x1024.Idx → EReal) (ix3 0 r k) := by
  unfold V
  simp only [hostOps0, List.flatten_cons, List.flatten_nil, List.append_nil, List.cons_append, List.nil_append]
  after_reads_at
theorem b9 (c : Dev nD) (t : Fin cfg0.N) (r : Fin 2816) (k : Fin 1024) :
    (iblk m c 9 t : S2816x1024.Idx → EReal) (ix2 r k) = (m ((c : Thread nD τ).loc main_arg10) : S1x2816x1024.Idx → EReal) (ix3 0 r k) := by
  refine Eq.trans ?_ (V9_at m c r k)
  blk_ext [iblk, idx t]
theorem V10_at (c : Dev nD) (k : Fin 1024) :
    (V m c main_v13 : S1x1024.Idx → EReal) (ix2 0 k) = (m ((c : Thread nD τ).loc main_arg11) : S1024.Idx → EReal) (ix1 k) := by
  unfold V
  simp only [hostOps0, List.flatten_cons, List.flatten_nil, List.append_nil, List.cons_append, List.nil_append]
  after_reads_at
theorem b10 (c : Dev nD) (t : Fin cfg0.N) (k : Fin 1024) :
    (iblk m c 10 t : S1x1024.Idx → EReal) (ix2 0 k) = (m ((c : Thread nD τ).loc main_arg11) : S1024.Idx → EReal) (ix1 k) := by
  refine Eq.trans ?_ (V10_at m c k)
  blk_ext [iblk, idx t]

/-- The reference's stages on the kernel's arguments. -/
abbrev R3 (c : Dev nD) : S128x4x1024.Idx → EReal := val_main_v3 (F := Ideal) (m ((c : Thread nD τ).loc main_arg0)) (m ((c : Thread nD τ).loc main_arg1)) (m ((c : Thread nD τ).loc main_arg2)) (m ((c : Thread nD τ).loc main_arg4))
abbrev R17 (c : Dev nD) : S128x4x1024.Idx → EReal := val_main_v17 (F := Ideal) (m ((c : Thread nD τ).loc main_arg0)) (m ((c : Thread nD τ).loc main_arg1)) (m ((c : Thread nD τ).loc main_arg2)) (m ((c : Thread nD τ).loc main_arg4)) (m ((c : Thread nD τ).loc main_arg5))
abbrev R19 (c : Dev nD) : Cert.FfnSRefIdeal.S128x4x2816.Idx → EReal := val_main_v19 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
abbrev R60 (c : Dev nD) : Cert.FfnSRefIdeal.S128x4x2816.Idx → EReal := val_main_v60 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7))
abbrev R45 (c : Dev nD) : Cert.FfnSRefIdeal.S128x4x2816.Idx → EReal := val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))
abbrev R61 (c : Dev nD) : Cert.FfnSRefIdeal.S128x4x2816.Idx → EReal := val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev R63 (c : Dev nD) : S128x4x1024.Idx → EReal := val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The block of arguments in the order the body reads them. -/
abbrev hB (c : Dev nD) (t : Fin cfg0.N) : FVec Ideal S512x1024 .bf16 := hnT (iblk m c 0 t) (iblk m c 1 t) (iblk m c 3 t) (iblk m c 4 t)

/-- The residual rows are the reference's. -/
theorem res_pt (c : Dev nD) (t : Fin cfg0.N) (r : Fin 512) (d : Fin 1024) :
    (resT (iblk m c 0 t) (iblk m c 1 t) (iblk m c 3 t) : S512x1024.Idx → EReal) (ix2 r d) = R3 m c (ix3 (sq r) (st r) d) := by
  unfold R3 resT
  pointwise [k0_pay2, val_main_v3, val_main_v2, val_main_v1]
  simp only [b0 m c t, b1 m c t, b3 m c t]

/-- The norm of a row, over the row's values `g`. -/
theorem hn_eq (v0 v2 : Vec Ideal S512x1024 .f32) (v5 : Vec Ideal S1024x1024 .bf16)
    (x5 : Vec Ideal S1x1024 .f32) (w : S1x1024.Idx → EReal) (hw : x5 = w) (r : Fin 512) (g : Fin 1024 → EReal) (hg : ∀ k, (k0_pay2 v0 v2 v5 : S512x1024.Idx → EReal) (ix2 r k) = g k) (d : Fin 1024) :
    (k0_pay3 v0 v2 v5 x5 : S512x1024.Idx → EReal) (ix2 r d) = (g d * Ideal.rsqrt (Ideal.div (∑ k, g k * g k) (Ideal.ofBits FTy.f32 1149239296#32) + Ideal.ofBits FTy.f32 897988541#32) * w (ix2 0 d)) := by
  subst hw
  pointwise [k0_pay3]
  simp only [hg]

/-- The normed rows are the reference's. -/
theorem hn_pt (c : Dev nD) (t : Fin cfg0.N) (r : Fin 512) (d : Fin 1024) :
    (hB m c t : S512x1024.Idx → EReal) (ix2 r d) = R17 m c (ix3 (sq r) (st r) d) := by
  refine (hn_eq _ _ _ _ _ rfl r (fun k => R3 m c (ix3 (sq r) (st r) k)) (fun k => res_pt m c t r k) d).trans ?_
  unfold R17 R3
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  simp only [b4 m c t]

/-- A tile of the gate's product. -/
theorem u_pt (c : Dev nD) (t : Fin cfg0.N) (j : Fin 11) (r : Fin 512) (k : Fin 256) :
    (uT (hB m c t) (iblk m c 5 t) j : S512x256.Idx → EReal) (ix2 r k) = R19 m c (ix3 (sq r) (st r) ⟨256 * j.val + k.val, by omega⟩) := by
  unfold R19 uT wgT
  pointwise [k0_pay21, val_main_v19, val_main_v18]
  simp only [hn_pt m c t, b5 m c t]

/-- A tile of the value product. -/
theorem w_pt (c : Dev nD) (t : Fin cfg0.N) (j : Fin 11) (r : Fin 512) (k : Fin 256) :
    (k0_pay22 (hB m c t) (wgT (iblk m c 6 t) j) : S512x256.Idx → EReal) (ix2 r k) = R60 m c (ix3 (sq r) (st r) ⟨256 * j.val + k.val, by omega⟩) := by
  unfold R60 wgT
  pointwise [k0_pay22, val_main_v60, val_main_v59]
  simp only [hn_pt m c t, b6 m c t]

/-- A tile of the rows kept from before. -/
theorem pa_pt (c : Dev nD) (t : Fin cfg0.N) (e : Fin 2) (he : e.val + 1 ≤ 2) (j : Fin 11) (b : Fin 128) (k : Fin 256) :
    (paT (iblk m c 2 t) e.val he j : S128x256.Idx → EReal) (ix2 b k) = (m ((c : Thread nD τ).loc main_arg3) : S1x128x2x2816.Idx → EReal) (ix4 0 b e ⟨256 * j.val + k.val, by omega⟩) := by
  unfold paT
  pointwise [k0_pay7]
  simp only [b2 m c t]

theorem pa_pt0 (c : Dev nD) (t : Fin cfg0.N) (j : Fin 11) (b : Fin 128) (k : Fin 256) :
    ((paT (iblk m c 2 t) 0 (by decide) j) : S128x256.Idx → EReal) (ix2 b k) = (m ((c : Thread nD τ).loc main_arg3) : S1x128x2x2816.Idx → EReal) (ix4 0 b 0 ⟨256 * j.val + k.val, by omega⟩) := pa_pt m c t 0 (by decide) j b k
theorem pa_pt1 (c : Dev nD) (t : Fin cfg0.N) (j : Fin 11) (b : Fin 128) (k : Fin 256) :
    ((paT (iblk m c 2 t) 1 (by decide) j) : S128x256.Idx → EReal) (ix2 b k) = (m ((c : Thread nD τ).loc main_arg3) : S1x128x2x2816.Idx → EReal) (ix4 0 b 1 ⟨256 * j.val + k.val, by omega⟩) := pa_pt m c t 1 (by decide) j b k

/-- The convolution at step 0. -/
theorem conv0 (c : Dev nD) (t : Fin cfg0.N) (j : Fin 11) (b : Fin 128) (k : Fin 256) :
    (k0_pay13 (uT (hB m c t) (iblk m c 5 t) j) (paT (iblk m c 2 t) 0 (by decide) j) (paT (iblk m c 2 t) 1 (by decide) j) (cbT (iblk m c 8 t) j) (cwT (iblk m c 7 t) 0 (by decide) j) (cwT (iblk m c 7 t) 1 (by decide) j) (cwT (iblk m c 7 t) 2 (by decide) j) : S128x256.Idx → EReal) (ix2 b k) = R45 m c (ix3 b 0 ⟨256 * j.val + k.val, by omega⟩) := by
  unfold R45 cbT cwT
  pointwise [k0_pay13, k0_pay9, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20]
  simp only [u_pt m c t, b7 m c t, b8 m c t, pa_pt0 m c t, pa_pt1 m c t, sq0, sq1, sq2, sq3, st0, st1, st2, st3]

/-- The convolution at step 1. -/
theorem conv1 (c : Dev nD) (t : Fin cfg0.N) (j : Fin 11) (b : Fin 128) (k : Fin 256) :
    (k0_pay14 (uT (hB m c t) (iblk m c 5 t) j) (paT (iblk m c 2 t) 1 (by decide) j) (cbT (iblk m c 8 t) j) (cwT (iblk m c 7 t) 0 (by decide) j) (cwT (iblk m c 7 t) 1 (by decide) j) (cwT (iblk m c 7 t) 2 (by decide) j) : S128x256.Idx → EReal) (ix2 b k) = R45 m c (ix3 b 1 ⟨256 * j.val + k.val, by omega⟩) := by
  unfold R45 cbT cwT
  pointwise [k0_pay14, k0_pay9, k0_pay10, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20]
  simp only [u_pt m c t, b7 m c t, b8 m c t, pa_pt0 m c t, pa_pt1 m c t, sq0, sq1, sq2, sq3, st0, st1, st2, st3]

/-- The convolution at step 2. -/
theorem conv2 (c : Dev nD) (t : Fin cfg0.N) (j : Fin 11) (b : Fin 128) (k : Fin 256) :
    (k0_pay16 (k0_pay9 (uT (hB m c t) (iblk m c 5 t) j)) (k0_pay10 (uT (hB m c t) (iblk m c 5 t) j)) (k0_pay11 (uT (hB m c t) (iblk m c 5 t) j)) (k0_pay15 (cbT (iblk m c 8 t) j)) (cwT (iblk m c 7 t) 0 (by decide) j) (cwT (iblk m c 7 t) 1 (by decide) j) (cwT (iblk m c 7 t) 2 (by decide) j) : S128x256.Idx → EReal) (ix2 b k) = R45 m c (ix3 b 2 ⟨256 * j.val + k.val, by omega⟩) := by
  unfold R45 cbT cwT
  pointwise [k0_pay16, k0_pay15, k0_pay9, k0_pay10, k0_pay11, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20]
  simp only [u_pt m c t, b7 m c t, b8 m c t, pa_pt0 m c t, pa_pt1 m c t, sq0, sq1, sq2, sq3, st0, st1, st2, st3]

/-- The convolution at step 3. -/
theorem conv3 (c : Dev nD) (t : Fin cfg0.N) (j : Fin 11) (b : Fin 128) (k : Fin 256) :
    (k0_pay17 (k0_pay10 (uT (hB m c t) (iblk m c 5 t) j)) (k0_pay11 (uT (hB m c t) (iblk m c 5 t) j)) (k0_pay12 (uT (hB m c t) (iblk m c 5 t) j)) (cbT (iblk m c 8 t) j) (cwT (iblk m c 7 t) 0 (by decide) j) (cwT (iblk m c 7 t) 1 (by decide) j) (cwT (iblk m c 7 t) 2 (by decide) j) : S128x256.Idx → EReal) (ix2 b k) = R45 m c (ix3 b 3 ⟨256 * j.val + k.val, by omega⟩) := by
  unfold R45 cbT cwT
  pointwise [k0_pay17, k0_pay10, k0_pay11, k0_pay12, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20]
  simp only [u_pt m c t, b7 m c t, b8 m c t, pa_pt0 m c t, pa_pt1 m c t, sq0, sq1, sq2, sq3, st0, st1, st2, st3]

/-- One summand of the down projection. -/
def G (c : Dev nD) (r : Fin 512) (d : Fin 1024) (k : ℕ) : EReal :=
  if h : k < 2816 then R61 m c (ix3 (sq r) (st r) ⟨k, h⟩) * (m ((c : Thread nD τ).loc main_arg10) : S1x2816x1024.Idx → EReal) (ix3 0 ⟨k, h⟩ d) else 0

/-- The four steps' convolutions, one under the other. -/
def catT (v0 v1 v2 v3 : FVec Ideal S128x256 .f32) : FVec Ideal S512x256 .f32 :=
  concatenate S512x256 0 [⟨S128x256, v0⟩, ⟨S128x256, v1⟩, ⟨S128x256, v2⟩, ⟨S128x256, v3⟩] concatenates_S128x256_S128x256_S128x256_S128x256_S512x256_d0

/-- The stacked convolutions, row by row. -/
theorem cat_pt (v0 v1 v2 v3 : FVec Ideal S128x256 .f32) (g : Fin 128 → Fin 4 → Fin 256 → EReal)
    (h0 : ∀ b k, (v0 : S128x256.Idx → EReal) (ix2 b k) = g b 0 k) (h1 : ∀ b k, (v1 : S128x256.Idx → EReal) (ix2 b k) = g b 1 k)
    (h2 : ∀ b k, (v2 : S128x256.Idx → EReal) (ix2 b k) = g b 2 k) (h3 : ∀ b k, (v3 : S128x256.Idx → EReal) (ix2 b k) = g b 3 k)
    (r : Fin 512) (k : Fin 256) : (catT v0 v1 v2 v3 : S512x256.Idx → EReal) (ix2 r k) = g (sq r) (st r) k := by
  have hr := r.isLt
  have key : ∀ (b : Fin 128) (s : Fin 4), r.val = 128 * s.val + b.val → g b s k = g (sq r) (st r) k := fun b s h => by
    have e1 : sq r = b := Fin.ext (by show r.val % 128 = b.val; omega)
    have e2 : st r = s := Fin.ext (by show r.val / 128 = s.val; omega)
    rw [e1, e2]
  unfold catT
  pointwise []
  simp only [h0, h1, h2, h3]
  split_ifs <;> exact key _ _ (by simp <;> omega)

/-- One more tile of the sum. -/
theorem acc_step (c : Dev nD) (t : Fin cfg0.N) (a : FVec Ideal S512x1024 .f32) (w : FVec Ideal S512x256 .f32) (v0 v1 v2 v3 : FVec Ideal S128x256 .f32) (j : Fin 11) (r : Fin 512) (d : Fin 1024)
    (hw : ∀ k : Fin 256, (w : S512x256.Idx → EReal) (ix2 r k) = R60 m c (ix3 (sq r) (st r) ⟨256 * j.val + k.val, by omega⟩))
    (hc : ∀ k : Fin 256, (catT v0 v1 v2 v3 : S512x256.Idx → EReal) (ix2 r k) = R45 m c (ix3 (sq r) (st r) ⟨256 * j.val + k.val, by omega⟩)) :
    (k0_pay20 a w v0 v1 v2 v3 (wdT (iblk m c 9 t) j) : S512x1024.Idx → EReal) (ix2 r d)
      = (a : S512x1024.Idx → EReal) (ix2 r d) + ∑ k : Fin 256, G m c r d (256 * j.val + k.val) := by
  have hG : ∀ k : Fin 256, G m c r d (256 * j.val + k.val) = R61 m c (ix3 (sq r) (st r) ⟨256 * j.val + k.val, by omega⟩) * (m ((c : Thread nD τ).loc main_arg10) : S1x2816x1024.Idx → EReal) (ix3 0 ⟨256 * j.val + k.val, by omega⟩ d) :=
    fun k => dif_pos (by omega)
  simp only [hG]
  unfold wdT R61 k0_pay20
  rw [← catT]
  generalize catT v0 v1 v2 v3 = cv at hc ⊢
  pointwise [val_main_v58, val_main_v57, val_main_v56, val_main_v55, val_main_v54, val_main_v53, val_main_v52, val_main_v51, val_main_v50, val_main_v49, val_main_v48, val_main_v47, val_main_v46, val_main_v61, val_main_cst_2, val_main_cst_3, val_main_cst_4, val_main_cst_5]
  simp only [b9 m c t, hw, hc]

/-- The sum over the first tiles. -/
theorem acc_pt (c : Dev nD) (t : Fin cfg0.N) (r : Fin 512) (d : Fin 1024) : ∀ (n : ℕ) (hn : n ≤ 11),
    (accT (hB m c t) (iblk m c 2 t) (iblk m c 5 t) (iblk m c 6 t) (iblk m c 7 t) (iblk m c 8 t) (iblk m c 9 t) n hn : S512x1024.Idx → EReal) (ix2 r d)
      = ∑ k ∈ Finset.range (256 * n), G m c r d k
  | 0, _ => by
    rw [Nat.mul_zero, Finset.sum_range_zero]
    unfold accT
    pointwise [k0_pay4]
  | n + 1, hn => by
    rw [Nat.mul_succ, Finset.sum_range_add, ← acc_pt c t r d n (Nat.le_of_succ_le hn), Finset.sum_range (fun k => G m c r d (256 * n + k))]
    exact acc_step m c t _ _ _ _ _ _ ⟨n, hn⟩ r d (fun k => w_pt m c t ⟨n, hn⟩ r k)
      (fun k => cat_pt _ _ _ _ (fun b s q => R45 m c (ix3 b s ⟨256 * n + q.val, by omega⟩)) (conv0 m c t ⟨n, hn⟩) (conv1 m c t ⟨n, hn⟩) (conv2 m c t ⟨n, hn⟩) (conv3 m c t ⟨n, hn⟩) r k)

/-- The whole sum is the reference's. -/
theorem sum_pt (c : Dev nD) (r : Fin 512) (d : Fin 1024) :
    ∑ k ∈ Finset.range 2816, G m c r d k = R63 m c (ix3 (sq r) (st r) d) := by
  rw [Finset.sum_range (fun k => G m c r d k)]
  have hG : ∀ k : Fin 2816, G m c r d k.val = R61 m c (ix3 (sq r) (st r) k) * (m ((c : Thread nD τ).loc main_arg10) : S1x2816x1024.Idx → EReal) (ix3 0 k d) := fun k => dif_pos k.isLt
  simp only [hG]
  unfold R63
  pointwise [val_main_v63, val_main_v62]

/-- The closing norm of a row, over the row's values `g`. -/
theorem y_eq (v : FVec Ideal S512x1024 .f32) (x11 : Vec Ideal S1x1024 .f32) (w : S1x1024.Idx → EReal) (hw : x11 = w) (r : Fin 512) (g : Fin 1024 → EReal)
    (hg : ∀ k, (v : S512x1024.Idx → EReal) (ix2 r k) = g k) (d : Fin 1024) :
    (k0_pay1 v x11 : S512x1024.Idx → EReal) (ix2 r d) = (g d * Ideal.rsqrt (Ideal.div (∑ k, g k * g k) (Ideal.ofBits FTy.f32 1149239296#32) + Ideal.ofBits FTy.f32 897988541#32) * w (ix2 0 d)) := by
  subst hw
  pointwise [k0_pay1]
  simp only [hg]

/-- The array of results, row by row. -/
theorem y_pt (c : Dev nD) (t : Fin cfg0.N) (r : Fin 512) (d : Fin 1024) :
    (yT (iblk m c 0 t) (iblk m c 1 t) (iblk m c 2 t) (iblk m c 3 t) (iblk m c 4 t) (iblk m c 5 t) (iblk m c 6 t) (iblk m c 7 t) (iblk m c 8 t) (iblk m c 9 t) (iblk m c 10 t) : S512x1024.Idx → EReal) (ix2 r d) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 (sq r) (st r) d) := by
  unfold yT
  refine (y_eq _ _ _ rfl r (fun k => R3 m c (ix3 (sq r) (st r) k) + R63 m c (ix3 (sq r) (st r) k)) (fun k => ?_) d).trans ?_
  · refine congrArg₂ (· + ·) (res_pt m c t r k) ?_
    exact (acc_pt m c t r k 11 le_rfl).trans (sum_pt m c r k)
  · unfold R63 R3
    pointwise [val_main_v77, val_main_v76, val_main_v75, val_main_v74, val_main_v73, val_main_v72, val_main_v71, val_main_v70, val_main_v69, val_main_v68, val_main_v67, val_main_v66, val_main_v65, val_main_v64, val_main_cst_6, val_main_cst_7, val_main_cst_8]
    simp only [b10 m c t]

/-- The kept rows, index by index. -/
theorem t_pt (c : Dev nD) (t : Fin cfg0.N) (e : Fin 2) (b : Fin 128) (q : Fin 2816) :
    (tF (hB m c t) (iblk m c 5 t) : S2x128x2816.Idx → EReal) (ix3 e b q) = R19 m c (ix3 b ⟨2 + e.val, by omega⟩ q) := by
  have hq : (⟨256 * (q.val / 256) + q.val % 256, by omega⟩ : Fin 2816) = q := Fin.ext (by show 256 * (q.val / 256) + q.val % 256 = q.val; omega)
  have hb : sq ⟨256 + e.val * 128 + b.val, by omega⟩ = b := Fin.ext (by show (256 + e.val * 128 + b.val) % 128 = b.val; omega)
  have hs : st ⟨256 + e.val * 128 + b.val, by omega⟩ = ⟨2 + e.val, by omega⟩ := Fin.ext (by show (256 + e.val * 128 + b.val) / 128 = 2 + e.val; omega)
  refine Eq.trans ?_ (Eq.trans (u_pt m c t ⟨q.val / 256, by omega⟩ ⟨256 + e.val * 128 + b.val, by omega⟩ ⟨q.val % 256, Nat.mod_lt _ (by decide)⟩) (by rw [hq, hb, hs]))
  rfl

/-- The result array after the run is the reference's result. -/
theorem final11 (c : Dev nD) : (dats m 0 c).arrAt 11 (cfgs 0).N = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 11 _ (by decide +kernel) fun t _ y => ?_
  blk_simp
  rw [after0_11, out11]
  frame_out
  idx_vars y
  refine (y_pt m c t y0 y1).trans ?_
  pointwise [val_main_v79, val_main_v78]
  refine congrArg _ ?_
  blk_ext [idx t]

/-- The array of kept rows after the run is the reference's result. -/
theorem final12 (c : Dev nD) : (dats m 0 c).arrAt 12 (cfgs 0).N = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12, out12]
  idx_vars y
  refine (t_pt m c t y0 y1 y2).trans ?_
  pointwise [val_main_v81, val_main_v80, val_main_v21]
  rw [dif_neg (by omega)]
  unfold R19
  refine congrArg _ ?_
  blk_ext [idx t]

end Cert.FfnSIdeal.Final
-- ==== Proof.FfnSClaim.lean ====
/- The sampled batch's closing block's claims: both arrays the kernel returns are the reference's. -/
module

public import proofs.«01_k».proof.Defs
public import proofs.«01_k».proof.Proof.Gen.FfnS.Frame
public import proofs.«01_k».proof.Proof.FfnSValue
public import proofs.«01_k».proof.Proof.Gen.FfnSRefIdeal.Run
public import proofs.«01_k».proof.Proof.Gen.FfnSRefIdeal.Read
public import Idealize.ShloMosaic.Lib.Quiescent

@[expose] public section

noncomputable section

namespace Cert.Proof.FfnSClaim

open Idealize.ShloMosaic Idealize.ShloMosaic.TcCoe Idealize.SL.Sem
open Cert.FfnSRefIdeal.Read

/-- The reference ends with its arguments as they were; it declares no semaphore. -/
theorem frameR : quiescent_FfnSRefIdeal (hFfnSRefIdeal := Cert.FfnSRefIdeal.Gen.facts) := fun m ρ _ =>
  (θ_run _ _ _).mono (fun r h => ⟨fun c => (h c).2.2, sem_eq_zero_of_no_sems (by decide) r.2⟩)
    (Cert.FfnSRefIdeal.Value.run (F := Ideal) m ρ)

/-- The kernel's two arrays are the reference's. -/
theorem value : algebraic_FfnSIdeal_FfnSRefIdeal (hFfnSIdeal := Cert.FfnSIdeal.Gen.facts)
    (hFfnSRefIdeal := Cert.FfnSRefIdeal.Gen.facts) := by
  intro m ρ m' ρ' _ hag
  have hk := θ_run_and (Cert.FfnSIdeal.Gen.run_main (F := Ideal) m ρ) (Cert.FfnSIdeal.Gen.unchanged (F := Ideal) m ρ)
  have hr := Cert.FfnSRefIdeal.Value.run (F := Ideal) m' ρ'
  refine ⟨fun c => (Cert.FfnSIdeal.Gen.dats m 0 c).arrAt 11 Cert.FfnSIdeal.cfg0.N, fun c => (Cert.FfnSIdeal.Gen.dats m 0 c).arrAt 12 Cert.FfnSIdeal.cfg0.N,
    (θ_run _ _ _).mono (fun r h c => ⟨(h.1 c).1 11, (h.1 c).1 12, h.2 c⟩) hk, (θ_run _ _ _).mono (fun r h c => ?_) hr⟩
  obtain ⟨h0, h1, h2, h3, h4, h5, h6, h7, h8, h9, h10, h11⟩ := hag c
  obtain ⟨r0, r1, ha⟩ := h c
  refine ⟨r0.trans ((val_main_v79_eq _).trans ?_), r1.trans ((val_main_v81_eq _).trans ?_), ha⟩
  · refine Eq.trans ?_ (Cert.FfnSIdeal.Final.final11 m c).symm
    rw [← h0, ← h1, ← h2, ← h3, ← h4, ← h5, ← h6, ← h7, ← h8, ← h9, ← h10, ← h11]
  · refine Eq.trans ?_ (Cert.FfnSIdeal.Final.final12 m c).symm
    rw [← h0, ← h1, ← h2, ← h3, ← h4, ← h5, ← h6]

end Cert.Proof.FfnSClaim

end
-- ==== Proof.lean ====
module

public import proofs.«01_k».proof.Defs
public import proofs.«01_k».proof.Proof.HgrnClaim
public import proofs.«01_k».proof.Proof.ProjClaim
public import proofs.«01_k».proof.Proof.ProjSClaim
public import proofs.«01_k».proof.Proof.FfnClaim
public import proofs.«01_k».proof.Proof.FfnSClaim

@[expose] public section

noncomputable section

namespace Cert.Proof

open Idealize.ShloMosaic Idealize.SL.Sem

theorem claim : Cert.Claim := ⟨Cert.Hgrn.Gen.facts, Cert.HgrnIdeal.Gen.facts, Cert.HgrnRefIdeal.Gen.facts,
  Cert.Proj.Gen.facts, Cert.ProjIdeal.Gen.facts, Cert.ProjRefIdeal.Gen.facts,
  Cert.ProjS.Gen.facts, Cert.ProjSIdeal.Gen.facts, Cert.ProjSRefIdeal.Gen.facts,
  Cert.Ffn.Gen.facts, Cert.FfnIdeal.Gen.facts, Cert.FfnRefIdeal.Gen.facts,
  Cert.FfnS.Gen.facts, Cert.FfnSIdeal.Gen.facts, Cert.FfnSRefIdeal.Gen.facts,
  fun m ρ _ => Cert.Hgrn.Frm.frame m ρ, fun m ρ _ => Cert.HgrnIdeal.Frm.frame m ρ, HgrnClaim.frameR,
  fun m ρ _ => Cert.Proj.Gen.frame m ρ, fun m ρ _ => Cert.ProjIdeal.Gen.frame m ρ, ProjClaim.frameR,
  fun m ρ _ => Cert.ProjS.Gen.frame m ρ, fun m ρ _ => Cert.ProjSIdeal.Gen.frame m ρ, ProjSClaim.frameR,
  fun m ρ _ => Cert.Ffn.Frm.frame m ρ, fun m ρ _ => Cert.FfnIdeal.Frm.frame m ρ, FfnClaim.frameR,
  fun m ρ _ => Cert.FfnS.Gen.frame m ρ, fun m ρ _ => Cert.FfnSIdeal.Gen.frame m ρ, FfnSClaim.frameR,
  trivial, HgrnClaim.value, trivial, ProjClaim.value, trivial, ProjSClaim.value, trivial, FfnClaim.value,
  trivial, FfnSClaim.value⟩

end Cert.Proof

end
